-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x16384 : Shape := ⟨2, ![1024, 16384]⟩
abbrev S1x4096x32x128 : Shape := ⟨4, ![1, 4096, 32, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x16384 .f32) (main_arg2 : FVec F S1x4096x32x128 .f32) (main_arg3 : FVec F S1x4096x32x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S16x16x1024 : Shape := ⟨3, ![16, 16, 1024]⟩
abbrev S15x16x1024 : Shape := ⟨3, ![15, 16, 1024]⟩
abbrev S4x4096x128 : Shape := ⟨3, ![4, 4096, 128]⟩
abbrev S4 : Shape := ⟨1, ![4]⟩
abbrev S16 : Shape := ⟨1, ![16]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x16x1024 : Shape := ⟨3, ![1, 16, 1024]⟩
abbrev S16x1024 : Shape := ⟨2, ![16, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S256x1024, .bf16⟩
  | .local _ .vmem, ⟨5, _⟩ => ⟨S16x16x1024, .bf16⟩
  | .local _ .vmem, ⟨6, _⟩ => ⟨S15x16x1024, .bf16⟩
  | .local _ .vmem, ⟨7, _⟩ => ⟨S4x4096x128, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 4 → Nat :=
  let c0_i32_0 : BitVec 32 := 0#32
  let c0_i32_5 : BitVec 32 := 0#32
  let c2_i32 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.muli c2_i32 v2
  let v4 : BitVec 32 := Scalar.addi v3 c0_i32
  let c0_i32_6 : BitVec 32 := 0#32
  ![0, 0, v4.toNat, 0]
def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let v32 : BitVec 32 := Scalar.addi v2 c1_i32_29
  let c16_i32_30 : BitVec 32 := 16#32
  let c0_i32_31 : BitVec 32 := 0#32
  let v33 : BitVec 1 := Scalar.cmpi .eq c16_i32_30 c0_i32_31
  let c1_i32_32 : BitVec 32 := 1#32
  let v34 : BitVec 32 := Scalar.select v33 c1_i32_32 c16_i32_30
  let v35 : BitVec 32 := Scalar.remsi v32 v34
  let c0_i32_34 : BitVec 32 := 0#32
  let v37 : BitVec 1 := Scalar.cmpi .slt v35 c0_i32_34
  let c0_i32_35 : BitVec 32 := 0#32
  let v38 : BitVec 1 := Scalar.cmpi .slt v34 c0_i32_35
  let v39 : BitVec 1 := Scalar.xori v37 v38
  let c0_i32_33 : BitVec 32 := 0#32
  let v36 : BitVec 1 := Scalar.cmpi .ne v35 c0_i32_33
  let v40 : BitVec 1 := Scalar.andi v39 v36
  let v41 : BitVec 32 := Scalar.addi v35 v34
  let v42 : BitVec 32 := Scalar.select v40 v41 v35
  let c1_i32_37 : BitVec 32 := 1#32
  let v43 : BitVec 32 := Scalar.muli v42 c1_i32_37
  let v44 : BitVec 32 := Scalar.addi c0_i32_38 v43
  v44.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_39 : BitVec 32 := 2#32
  let v45 : BitVec 32 := Scalar.addi v2 c2_i32_39
  let c16_i32_40 : BitVec 32 := 16#32
  let c0_i32_41 : BitVec 32 := 0#32
  let v46 : BitVec 1 := Scalar.cmpi .eq c16_i32_40 c0_i32_41
  let c1_i32_42 : BitVec 32 := 1#32
  let v47 : BitVec 32 := Scalar.select v46 c1_i32_42 c16_i32_40
  let v48 : BitVec 32 := Scalar.remsi v45 v47
  let c0_i32_44 : BitVec 32 := 0#32
  let v50 : BitVec 1 := Scalar.cmpi .slt v48 c0_i32_44
  let c0_i32_45 : BitVec 32 := 0#32
  let v51 : BitVec 1 := Scalar.cmpi .slt v47 c0_i32_45
  let v52 : BitVec 1 := Scalar.xori v50 v51
  let c0_i32_43 : BitVec 32 := 0#32
  let v49 : BitVec 1 := Scalar.cmpi .ne v48 c0_i32_43
  let v53 : BitVec 1 := Scalar.andi v52 v49
  let v54 : BitVec 32 := Scalar.addi v48 v47
  let v55 : BitVec 32 := Scalar.select v53 v54 v48
  let c1_i32_47 : BitVec 32 := 1#32
  let v56 : BitVec 32 := Scalar.muli v55 c1_i32_47
  let v57 : BitVec 32 := Scalar.addi c0_i32_48 v56
  v57.toNat
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_49 : BitVec 32 := 3#32
  let v58 : BitVec 32 := Scalar.addi v2 c3_i32_49
  let c16_i32_50 : BitVec 32 := 16#32
  let c0_i32_51 : BitVec 32 := 0#32
  let v59 : BitVec 1 := Scalar.cmpi .eq c16_i32_50 c0_i32_51
  let c1_i32_52 : BitVec 32 := 1#32
  let v60 : BitVec 32 := Scalar.select v59 c1_i32_52 c16_i32_50
  let v61 : BitVec 32 := Scalar.remsi v58 v60
  let c0_i32_54 : BitVec 32 := 0#32
  let v63 : BitVec 1 := Scalar.cmpi .slt v61 c0_i32_54
  let c0_i32_55 : BitVec 32 := 0#32
  let v64 : BitVec 1 := Scalar.cmpi .slt v60 c0_i32_55
  let v65 : BitVec 1 := Scalar.xori v63 v64
  let c0_i32_53 : BitVec 32 := 0#32
  let v62 : BitVec 1 := Scalar.cmpi .ne v61 c0_i32_53
  let v66 : BitVec 1 := Scalar.andi v65 v62
  let v67 : BitVec 32 := Scalar.addi v61 v60
  let v68 : BitVec 32 := Scalar.select v66 v67 v61
  let c1_i32_57 : BitVec 32 := 1#32
  let v69 : BitVec 32 := Scalar.muli v68 c1_i32_57
  let v70 : BitVec 32 := Scalar.addi c0_i32_58 v69
  v70.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v71 : BitVec 32 := Scalar.addi v2 c4_i32
  let c16_i32_59 : BitVec 32 := 16#32
  let c0_i32_60 : BitVec 32 := 0#32
  let v72 : BitVec 1 := Scalar.cmpi .eq c16_i32_59 c0_i32_60
  let c1_i32_61 : BitVec 32 := 1#32
  let v73 : BitVec 32 := Scalar.select v72 c1_i32_61 c16_i32_59
  let v74 : BitVec 32 := Scalar.remsi v71 v73
  let c0_i32_63 : BitVec 32 := 0#32
  let v76 : BitVec 1 := Scalar.cmpi .slt v74 c0_i32_63
  let c0_i32_64 : BitVec 32 := 0#32
  let v77 : BitVec 1 := Scalar.cmpi .slt v73 c0_i32_64
  let v78 : BitVec 1 := Scalar.xori v76 v77
  let c0_i32_62 : BitVec 32 := 0#32
  let v75 : BitVec 1 := Scalar.cmpi .ne v74 c0_i32_62
  let v79 : BitVec 1 := Scalar.andi v78 v75
  let v80 : BitVec 32 := Scalar.addi v74 v73
  let v81 : BitVec 32 := Scalar.select v79 v80 v74
  let c1_i32_66 : BitVec 32 := 1#32
  let v82 : BitVec 32 := Scalar.muli v81 c1_i32_66
  let v83 : BitVec 32 := Scalar.addi c0_i32_67 v82
  v83.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v84 : BitVec 32 := Scalar.addi v2 c5_i32
  let c16_i32_68 : BitVec 32 := 16#32
  let c0_i32_69 : BitVec 32 := 0#32
  let v85 : BitVec 1 := Scalar.cmpi .eq c16_i32_68 c0_i32_69
  let c1_i32_70 : BitVec 32 := 1#32
  let v86 : BitVec 32 := Scalar.select v85 c1_i32_70 c16_i32_68
  let v87 : BitVec 32 := Scalar.remsi v84 v86
  let c0_i32_72 : BitVec 32 := 0#32
  let v89 : BitVec 1 := Scalar.cmpi .slt v87 c0_i32_72
  let c0_i32_73 : BitVec 32 := 0#32
  let v90 : BitVec 1 := Scalar.cmpi .slt v86 c0_i32_73
  let v91 : BitVec 1 := Scalar.xori v89 v90
  let c0_i32_71 : BitVec 32 := 0#32
  let v88 : BitVec 1 := Scalar.cmpi .ne v87 c0_i32_71
  let v92 : BitVec 1 := Scalar.andi v91 v88
  let v93 : BitVec 32 := Scalar.addi v87 v86
  let v94 : BitVec 32 := Scalar.select v92 v93 v87
  let c1_i32_75 : BitVec 32 := 1#32
  let v95 : BitVec 32 := Scalar.muli v94 c1_i32_75
  let v96 : BitVec 32 := Scalar.addi c0_i32_76 v95
  v96.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v97 : BitVec 32 := Scalar.addi v2 c6_i32
  let c16_i32_77 : BitVec 32 := 16#32
  let c0_i32_78 : BitVec 32 := 0#32
  let v98 : BitVec 1 := Scalar.cmpi .eq c16_i32_77 c0_i32_78
  let c1_i32_79 : BitVec 32 := 1#32
  let v99 : BitVec 32 := Scalar.select v98 c1_i32_79 c16_i32_77
  let v100 : BitVec 32 := Scalar.remsi v97 v99
  let c0_i32_81 : BitVec 32 := 0#32
  let v102 : BitVec 1 := Scalar.cmpi .slt v100 c0_i32_81
  let c0_i32_82 : BitVec 32 := 0#32
  let v103 : BitVec 1 := Scalar.cmpi .slt v99 c0_i32_82
  let v104 : BitVec 1 := Scalar.xori v102 v103
  let c0_i32_80 : BitVec 32 := 0#32
  let v101 : BitVec 1 := Scalar.cmpi .ne v100 c0_i32_80
  let v105 : BitVec 1 := Scalar.andi v104 v101
  let v106 : BitVec 32 := Scalar.addi v100 v99
  let v107 : BitVec 32 := Scalar.select v105 v106 v100
  let c1_i32_84 : BitVec 32 := 1#32
  let v108 : BitVec 32 := Scalar.muli v107 c1_i32_84
  let v109 : BitVec 32 := Scalar.addi c0_i32_85 v108
  v109.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v110 : BitVec 32 := Scalar.addi v2 c7_i32
  let c16_i32_86 : BitVec 32 := 16#32
  let c0_i32_87 : BitVec 32 := 0#32
  let v111 : BitVec 1 := Scalar.cmpi .eq c16_i32_86 c0_i32_87
  let c1_i32_88 : BitVec 32 := 1#32
  let v112 : BitVec 32 := Scalar.select v111 c1_i32_88 c16_i32_86
  let v113 : BitVec 32 := Scalar.remsi v110 v112
  let c0_i32_90 : BitVec 32 := 0#32
  let v115 : BitVec 1 := Scalar.cmpi .slt v113 c0_i32_90
  let c0_i32_91 : BitVec 32 := 0#32
  let v116 : BitVec 1 := Scalar.cmpi .slt v112 c0_i32_91
  let v117 : BitVec 1 := Scalar.xori v115 v116
  let c0_i32_89 : BitVec 32 := 0#32
  let v114 : BitVec 1 := Scalar.cmpi .ne v113 c0_i32_89
  let v118 : BitVec 1 := Scalar.andi v117 v114
  let v119 : BitVec 32 := Scalar.addi v113 v112
  let v120 : BitVec 32 := Scalar.select v118 v119 v113
  let c1_i32_93 : BitVec 32 := 1#32
  let v121 : BitVec 32 := Scalar.muli v120 c1_i32_93
  let v122 : BitVec 32 := Scalar.addi c0_i32_94 v121
  v122.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v123 : BitVec 32 := Scalar.addi v2 c8_i32
  let c16_i32_95 : BitVec 32 := 16#32
  let c0_i32_96 : BitVec 32 := 0#32
  let v124 : BitVec 1 := Scalar.cmpi .eq c16_i32_95 c0_i32_96
  let c1_i32_97 : BitVec 32 := 1#32
  let v125 : BitVec 32 := Scalar.select v124 c1_i32_97 c16_i32_95
  let v126 : BitVec 32 := Scalar.remsi v123 v125
  let c0_i32_99 : BitVec 32 := 0#32
  let v128 : BitVec 1 := Scalar.cmpi .slt v126 c0_i32_99
  let c0_i32_100 : BitVec 32 := 0#32
  let v129 : BitVec 1 := Scalar.cmpi .slt v125 c0_i32_100
  let v130 : BitVec 1 := Scalar.xori v128 v129
  let c0_i32_98 : BitVec 32 := 0#32
  let v127 : BitVec 1 := Scalar.cmpi .ne v126 c0_i32_98
  let v131 : BitVec 1 := Scalar.andi v130 v127
  let v132 : BitVec 32 := Scalar.addi v126 v125
  let v133 : BitVec 32 := Scalar.select v131 v132 v126
  let c1_i32_102 : BitVec 32 := 1#32
  let v134 : BitVec 32 := Scalar.muli v133 c1_i32_102
  let v135 : BitVec 32 := Scalar.addi c0_i32_103 v134
  v135.toNat
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v136 : BitVec 32 := Scalar.addi v2 c9_i32
  let c16_i32_104 : BitVec 32 := 16#32
  let c0_i32_105 : BitVec 32 := 0#32
  let v137 : BitVec 1 := Scalar.cmpi .eq c16_i32_104 c0_i32_105
  let c1_i32_106 : BitVec 32 := 1#32
  let v138 : BitVec 32 := Scalar.select v137 c1_i32_106 c16_i32_104
  let v139 : BitVec 32 := Scalar.remsi v136 v138
  let c0_i32_108 : BitVec 32 := 0#32
  let v141 : BitVec 1 := Scalar.cmpi .slt v139 c0_i32_108
  let c0_i32_109 : BitVec 32 := 0#32
  let v142 : BitVec 1 := Scalar.cmpi .slt v138 c0_i32_109
  let v143 : BitVec 1 := Scalar.xori v141 v142
  let c0_i32_107 : BitVec 32 := 0#32
  let v140 : BitVec 1 := Scalar.cmpi .ne v139 c0_i32_107
  let v144 : BitVec 1 := Scalar.andi v143 v140
  let v145 : BitVec 32 := Scalar.addi v139 v138
  let v146 : BitVec 32 := Scalar.select v144 v145 v139
  let c1_i32_111 : BitVec 32 := 1#32
  let v147 : BitVec 32 := Scalar.muli v146 c1_i32_111
  let v148 : BitVec 32 := Scalar.addi c0_i32_112 v147
  v148.toNat
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v149 : BitVec 32 := Scalar.addi v2 c10_i32
  let c16_i32_113 : BitVec 32 := 16#32
  let c0_i32_114 : BitVec 32 := 0#32
  let v150 : BitVec 1 := Scalar.cmpi .eq c16_i32_113 c0_i32_114
  let c1_i32_115 : BitVec 32 := 1#32
  let v151 : BitVec 32 := Scalar.select v150 c1_i32_115 c16_i32_113
  let v152 : BitVec 32 := Scalar.remsi v149 v151
  let c0_i32_117 : BitVec 32 := 0#32
  let v154 : BitVec 1 := Scalar.cmpi .slt v152 c0_i32_117
  let c0_i32_118 : BitVec 32 := 0#32
  let v155 : BitVec 1 := Scalar.cmpi .slt v151 c0_i32_118
  let v156 : BitVec 1 := Scalar.xori v154 v155
  let c0_i32_116 : BitVec 32 := 0#32
  let v153 : BitVec 1 := Scalar.cmpi .ne v152 c0_i32_116
  let v157 : BitVec 1 := Scalar.andi v156 v153
  let v158 : BitVec 32 := Scalar.addi v152 v151
  let v159 : BitVec 32 := Scalar.select v157 v158 v152
  let c1_i32_120 : BitVec 32 := 1#32
  let v160 : BitVec 32 := Scalar.muli v159 c1_i32_120
  let v161 : BitVec 32 := Scalar.addi c0_i32_121 v160
  v161.toNat
def k0_dev11 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v162 : BitVec 32 := Scalar.addi v2 c11_i32
  let c16_i32_122 : BitVec 32 := 16#32
  let c0_i32_123 : BitVec 32 := 0#32
  let v163 : BitVec 1 := Scalar.cmpi .eq c16_i32_122 c0_i32_123
  let c1_i32_124 : BitVec 32 := 1#32
  let v164 : BitVec 32 := Scalar.select v163 c1_i32_124 c16_i32_122
  let v165 : BitVec 32 := Scalar.remsi v162 v164
  let c0_i32_126 : BitVec 32 := 0#32
  let v167 : BitVec 1 := Scalar.cmpi .slt v165 c0_i32_126
  let c0_i32_127 : BitVec 32 := 0#32
  let v168 : BitVec 1 := Scalar.cmpi .slt v164 c0_i32_127
  let v169 : BitVec 1 := Scalar.xori v167 v168
  let c0_i32_125 : BitVec 32 := 0#32
  let v166 : BitVec 1 := Scalar.cmpi .ne v165 c0_i32_125
  let v170 : BitVec 1 := Scalar.andi v169 v166
  let v171 : BitVec 32 := Scalar.addi v165 v164
  let v172 : BitVec 32 := Scalar.select v170 v171 v165
  let c1_i32_129 : BitVec 32 := 1#32
  let v173 : BitVec 32 := Scalar.muli v172 c1_i32_129
  let v174 : BitVec 32 := Scalar.addi c0_i32_130 v173
  v174.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v175 : BitVec 32 := Scalar.addi v2 c12_i32
  let c16_i32_131 : BitVec 32 := 16#32
  let c0_i32_132 : BitVec 32 := 0#32
  let v176 : BitVec 1 := Scalar.cmpi .eq c16_i32_131 c0_i32_132
  let c1_i32_133 : BitVec 32 := 1#32
  let v177 : BitVec 32 := Scalar.select v176 c1_i32_133 c16_i32_131
  let v178 : BitVec 32 := Scalar.remsi v175 v177
  let c0_i32_135 : BitVec 32 := 0#32
  let v180 : BitVec 1 := Scalar.cmpi .slt v178 c0_i32_135
  let c0_i32_136 : BitVec 32 := 0#32
  let v181 : BitVec 1 := Scalar.cmpi .slt v177 c0_i32_136
  let v182 : BitVec 1 := Scalar.xori v180 v181
  let c0_i32_134 : BitVec 32 := 0#32
  let v179 : BitVec 1 := Scalar.cmpi .ne v178 c0_i32_134
  let v183 : BitVec 1 := Scalar.andi v182 v179
  let v184 : BitVec 32 := Scalar.addi v178 v177
  let v185 : BitVec 32 := Scalar.select v183 v184 v178
  let c1_i32_138 : BitVec 32 := 1#32
  let v186 : BitVec 32 := Scalar.muli v185 c1_i32_138
  let v187 : BitVec 32 := Scalar.addi c0_i32_139 v186
  v187.toNat
def k0_dev13 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v188 : BitVec 32 := Scalar.addi v2 c13_i32
  let c16_i32_140 : BitVec 32 := 16#32
  let c0_i32_141 : BitVec 32 := 0#32
  let v189 : BitVec 1 := Scalar.cmpi .eq c16_i32_140 c0_i32_141
  let c1_i32_142 : BitVec 32 := 1#32
  let v190 : BitVec 32 := Scalar.select v189 c1_i32_142 c16_i32_140
  let v191 : BitVec 32 := Scalar.remsi v188 v190
  let c0_i32_144 : BitVec 32 := 0#32
  let v193 : BitVec 1 := Scalar.cmpi .slt v191 c0_i32_144
  let c0_i32_145 : BitVec 32 := 0#32
  let v194 : BitVec 1 := Scalar.cmpi .slt v190 c0_i32_145
  let v195 : BitVec 1 := Scalar.xori v193 v194
  let c0_i32_143 : BitVec 32 := 0#32
  let v192 : BitVec 1 := Scalar.cmpi .ne v191 c0_i32_143
  let v196 : BitVec 1 := Scalar.andi v195 v192
  let v197 : BitVec 32 := Scalar.addi v191 v190
  let v198 : BitVec 32 := Scalar.select v196 v197 v191
  let c1_i32_147 : BitVec 32 := 1#32
  let v199 : BitVec 32 := Scalar.muli v198 c1_i32_147
  let v200 : BitVec 32 := Scalar.addi c0_i32_148 v199
  v200.toNat
def k0_dev14 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v201 : BitVec 32 := Scalar.addi v2 c14_i32
  let c16_i32_149 : BitVec 32 := 16#32
  let c0_i32_150 : BitVec 32 := 0#32
  let v202 : BitVec 1 := Scalar.cmpi .eq c16_i32_149 c0_i32_150
  let c1_i32_151 : BitVec 32 := 1#32
  let v203 : BitVec 32 := Scalar.select v202 c1_i32_151 c16_i32_149
  let v204 : BitVec 32 := Scalar.remsi v201 v203
  let c0_i32_153 : BitVec 32 := 0#32
  let v206 : BitVec 1 := Scalar.cmpi .slt v204 c0_i32_153
  let c0_i32_154 : BitVec 32 := 0#32
  let v207 : BitVec 1 := Scalar.cmpi .slt v203 c0_i32_154
  let v208 : BitVec 1 := Scalar.xori v206 v207
  let c0_i32_152 : BitVec 32 := 0#32
  let v205 : BitVec 1 := Scalar.cmpi .ne v204 c0_i32_152
  let v209 : BitVec 1 := Scalar.andi v208 v205
  let v210 : BitVec 32 := Scalar.addi v204 v203
  let v211 : BitVec 32 := Scalar.select v209 v210 v204
  let c1_i32_156 : BitVec 32 := 1#32
  let v212 : BitVec 32 := Scalar.muli v211 c1_i32_156
  let v213 : BitVec 32 := Scalar.addi c0_i32_157 v212
  v213.toNat
def k0_dev15 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v214 : BitVec 32 := Scalar.addi v2 c15_i32
  let c16_i32_158 : BitVec 32 := 16#32
  let c0_i32_159 : BitVec 32 := 0#32
  let v215 : BitVec 1 := Scalar.cmpi .eq c16_i32_158 c0_i32_159
  let c1_i32_160 : BitVec 32 := 1#32
  let v216 : BitVec 32 := Scalar.select v215 c1_i32_160 c16_i32_158
  let v217 : BitVec 32 := Scalar.remsi v214 v216
  let c0_i32_162 : BitVec 32 := 0#32
  let v219 : BitVec 1 := Scalar.cmpi .slt v217 c0_i32_162
  let c0_i32_163 : BitVec 32 := 0#32
  let v220 : BitVec 1 := Scalar.cmpi .slt v216 c0_i32_163
  let v221 : BitVec 1 := Scalar.xori v219 v220
  let c0_i32_161 : BitVec 32 := 0#32
  let v218 : BitVec 1 := Scalar.cmpi .ne v217 c0_i32_161
  let v222 : BitVec 1 := Scalar.andi v221 v218
  let v223 : BitVec 32 := Scalar.addi v217 v216
  let v224 : BitVec 32 := Scalar.select v222 v223 v217
  let c1_i32_165 : BitVec 32 := 1#32
  let v225 : BitVec 32 := Scalar.muli v224 c1_i32_165
  let v226 : BitVec 32 := Scalar.addi c0_i32_166 v225
  v226.toNat
def k0_off2 (d0 : Dev nD) (c1_i32_239 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v355 : BitVec 32 := Scalar.addi v2 c1_i32_239
  let c16_i32_240 : BitVec 32 := 16#32
  let c0_i32_241 : BitVec 32 := 0#32
  let v356 : BitVec 1 := Scalar.cmpi .eq c16_i32_240 c0_i32_241
  let c1_i32_242 : BitVec 32 := 1#32
  let v357 : BitVec 32 := Scalar.select v356 c1_i32_242 c16_i32_240
  let v358 : BitVec 32 := Scalar.remsi v355 v357
  let c0_i32_244 : BitVec 32 := 0#32
  let v360 : BitVec 1 := Scalar.cmpi .slt v358 c0_i32_244
  let c0_i32_245 : BitVec 32 := 0#32
  let v361 : BitVec 1 := Scalar.cmpi .slt v357 c0_i32_245
  let v362 : BitVec 1 := Scalar.xori v360 v361
  let c0_i32_243 : BitVec 32 := 0#32
  let v359 : BitVec 1 := Scalar.cmpi .ne v358 c0_i32_243
  let v363 : BitVec 1 := Scalar.andi v362 v359
  let v364 : BitVec 32 := Scalar.addi v358 v357
  let v365 : BitVec 32 := Scalar.select v363 v364 v358
  let c16_i32_246 : BitVec 32 := 16#32
  let v366 : BitVec 32 := Scalar.muli v365 c16_i32_246
  let c0_i32_254 : BitVec 32 := 0#32
  ![v366.toNat, 0]
def k0_dev16 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_239 : BitVec 32 := 1#32
  let v355 : BitVec 32 := Scalar.addi v2 c1_i32_239
  let c16_i32_240 : BitVec 32 := 16#32
  let c0_i32_241 : BitVec 32 := 0#32
  let v356 : BitVec 1 := Scalar.cmpi .eq c16_i32_240 c0_i32_241
  let c1_i32_242 : BitVec 32 := 1#32
  let v357 : BitVec 32 := Scalar.select v356 c1_i32_242 c16_i32_240
  let v358 : BitVec 32 := Scalar.remsi v355 v357
  let c0_i32_244 : BitVec 32 := 0#32
  let v360 : BitVec 1 := Scalar.cmpi .slt v358 c0_i32_244
  let c0_i32_245 : BitVec 32 := 0#32
  let v361 : BitVec 1 := Scalar.cmpi .slt v357 c0_i32_245
  let v362 : BitVec 1 := Scalar.xori v360 v361
  let c0_i32_243 : BitVec 32 := 0#32
  let v359 : BitVec 1 := Scalar.cmpi .ne v358 c0_i32_243
  let v363 : BitVec 1 := Scalar.andi v362 v359
  let v364 : BitVec 32 := Scalar.addi v358 v357
  let v365 : BitVec 32 := Scalar.select v363 v364 v358
  let c1_i32_250 : BitVec 32 := 1#32
  let v367 : BitVec 32 := Scalar.muli v365 c1_i32_250
  let v368 : BitVec 32 := Scalar.addi c0_i32_251 v367
  v368.toNat
def k0_dev17 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_255 : BitVec 32 := 2#32
  let v376 : BitVec 32 := Scalar.addi v2 c2_i32_255
  let c16_i32_256 : BitVec 32 := 16#32
  let c0_i32_257 : BitVec 32 := 0#32
  let v377 : BitVec 1 := Scalar.cmpi .eq c16_i32_256 c0_i32_257
  let c1_i32_258 : BitVec 32 := 1#32
  let v378 : BitVec 32 := Scalar.select v377 c1_i32_258 c16_i32_256
  let v379 : BitVec 32 := Scalar.remsi v376 v378
  let c0_i32_260 : BitVec 32 := 0#32
  let v381 : BitVec 1 := Scalar.cmpi .slt v379 c0_i32_260
  let c0_i32_261 : BitVec 32 := 0#32
  let v382 : BitVec 1 := Scalar.cmpi .slt v378 c0_i32_261
  let v383 : BitVec 1 := Scalar.xori v381 v382
  let c0_i32_259 : BitVec 32 := 0#32
  let v380 : BitVec 1 := Scalar.cmpi .ne v379 c0_i32_259
  let v384 : BitVec 1 := Scalar.andi v383 v380
  let v385 : BitVec 32 := Scalar.addi v379 v378
  let v386 : BitVec 32 := Scalar.select v384 v385 v379
  let c1_i32_266 : BitVec 32 := 1#32
  let v388 : BitVec 32 := Scalar.muli v386 c1_i32_266
  let v389 : BitVec 32 := Scalar.addi c0_i32_267 v388
  v389.toNat
def k0_dev18 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_271 : BitVec 32 := 3#32
  let v397 : BitVec 32 := Scalar.addi v2 c3_i32_271
  let c16_i32_272 : BitVec 32 := 16#32
  let c0_i32_273 : BitVec 32 := 0#32
  let v398 : BitVec 1 := Scalar.cmpi .eq c16_i32_272 c0_i32_273
  let c1_i32_274 : BitVec 32 := 1#32
  let v399 : BitVec 32 := Scalar.select v398 c1_i32_274 c16_i32_272
  let v400 : BitVec 32 := Scalar.remsi v397 v399
  let c0_i32_276 : BitVec 32 := 0#32
  let v402 : BitVec 1 := Scalar.cmpi .slt v400 c0_i32_276
  let c0_i32_277 : BitVec 32 := 0#32
  let v403 : BitVec 1 := Scalar.cmpi .slt v399 c0_i32_277
  let v404 : BitVec 1 := Scalar.xori v402 v403
  let c0_i32_275 : BitVec 32 := 0#32
  let v401 : BitVec 1 := Scalar.cmpi .ne v400 c0_i32_275
  let v405 : BitVec 1 := Scalar.andi v404 v401
  let v406 : BitVec 32 := Scalar.addi v400 v399
  let v407 : BitVec 32 := Scalar.select v405 v406 v400
  let c1_i32_282 : BitVec 32 := 1#32
  let v409 : BitVec 32 := Scalar.muli v407 c1_i32_282
  let v410 : BitVec 32 := Scalar.addi c0_i32_283 v409
  v410.toNat
def k0_dev19 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_287 : BitVec 32 := 4#32
  let v418 : BitVec 32 := Scalar.addi v2 c4_i32_287
  let c16_i32_288 : BitVec 32 := 16#32
  let c0_i32_289 : BitVec 32 := 0#32
  let v419 : BitVec 1 := Scalar.cmpi .eq c16_i32_288 c0_i32_289
  let c1_i32_290 : BitVec 32 := 1#32
  let v420 : BitVec 32 := Scalar.select v419 c1_i32_290 c16_i32_288
  let v421 : BitVec 32 := Scalar.remsi v418 v420
  let c0_i32_292 : BitVec 32 := 0#32
  let v423 : BitVec 1 := Scalar.cmpi .slt v421 c0_i32_292
  let c0_i32_293 : BitVec 32 := 0#32
  let v424 : BitVec 1 := Scalar.cmpi .slt v420 c0_i32_293
  let v425 : BitVec 1 := Scalar.xori v423 v424
  let c0_i32_291 : BitVec 32 := 0#32
  let v422 : BitVec 1 := Scalar.cmpi .ne v421 c0_i32_291
  let v426 : BitVec 1 := Scalar.andi v425 v422
  let v427 : BitVec 32 := Scalar.addi v421 v420
  let v428 : BitVec 32 := Scalar.select v426 v427 v421
  let c1_i32_298 : BitVec 32 := 1#32
  let v430 : BitVec 32 := Scalar.muli v428 c1_i32_298
  let v431 : BitVec 32 := Scalar.addi c0_i32_299 v430
  v431.toNat
def k0_dev20 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_303 : BitVec 32 := 5#32
  let v439 : BitVec 32 := Scalar.addi v2 c5_i32_303
  let c16_i32_304 : BitVec 32 := 16#32
  let c0_i32_305 : BitVec 32 := 0#32
  let v440 : BitVec 1 := Scalar.cmpi .eq c16_i32_304 c0_i32_305
  let c1_i32_306 : BitVec 32 := 1#32
  let v441 : BitVec 32 := Scalar.select v440 c1_i32_306 c16_i32_304
  let v442 : BitVec 32 := Scalar.remsi v439 v441
  let c0_i32_308 : BitVec 32 := 0#32
  let v444 : BitVec 1 := Scalar.cmpi .slt v442 c0_i32_308
  let c0_i32_309 : BitVec 32 := 0#32
  let v445 : BitVec 1 := Scalar.cmpi .slt v441 c0_i32_309
  let v446 : BitVec 1 := Scalar.xori v444 v445
  let c0_i32_307 : BitVec 32 := 0#32
  let v443 : BitVec 1 := Scalar.cmpi .ne v442 c0_i32_307
  let v447 : BitVec 1 := Scalar.andi v446 v443
  let v448 : BitVec 32 := Scalar.addi v442 v441
  let v449 : BitVec 32 := Scalar.select v447 v448 v442
  let c1_i32_314 : BitVec 32 := 1#32
  let v451 : BitVec 32 := Scalar.muli v449 c1_i32_314
  let v452 : BitVec 32 := Scalar.addi c0_i32_315 v451
  v452.toNat
def k0_dev21 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_319 : BitVec 32 := 6#32
  let v460 : BitVec 32 := Scalar.addi v2 c6_i32_319
  let c16_i32_320 : BitVec 32 := 16#32
  let c0_i32_321 : BitVec 32 := 0#32
  let v461 : BitVec 1 := Scalar.cmpi .eq c16_i32_320 c0_i32_321
  let c1_i32_322 : BitVec 32 := 1#32
  let v462 : BitVec 32 := Scalar.select v461 c1_i32_322 c16_i32_320
  let v463 : BitVec 32 := Scalar.remsi v460 v462
  let c0_i32_324 : BitVec 32 := 0#32
  let v465 : BitVec 1 := Scalar.cmpi .slt v463 c0_i32_324
  let c0_i32_325 : BitVec 32 := 0#32
  let v466 : BitVec 1 := Scalar.cmpi .slt v462 c0_i32_325
  let v467 : BitVec 1 := Scalar.xori v465 v466
  let c0_i32_323 : BitVec 32 := 0#32
  let v464 : BitVec 1 := Scalar.cmpi .ne v463 c0_i32_323
  let v468 : BitVec 1 := Scalar.andi v467 v464
  let v469 : BitVec 32 := Scalar.addi v463 v462
  let v470 : BitVec 32 := Scalar.select v468 v469 v463
  let c1_i32_330 : BitVec 32 := 1#32
  let v472 : BitVec 32 := Scalar.muli v470 c1_i32_330
  let v473 : BitVec 32 := Scalar.addi c0_i32_331 v472
  v473.toNat
def k0_dev22 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_335 : BitVec 32 := 7#32
  let v481 : BitVec 32 := Scalar.addi v2 c7_i32_335
  let c16_i32_336 : BitVec 32 := 16#32
  let c0_i32_337 : BitVec 32 := 0#32
  let v482 : BitVec 1 := Scalar.cmpi .eq c16_i32_336 c0_i32_337
  let c1_i32_338 : BitVec 32 := 1#32
  let v483 : BitVec 32 := Scalar.select v482 c1_i32_338 c16_i32_336
  let v484 : BitVec 32 := Scalar.remsi v481 v483
  let c0_i32_340 : BitVec 32 := 0#32
  let v486 : BitVec 1 := Scalar.cmpi .slt v484 c0_i32_340
  let c0_i32_341 : BitVec 32 := 0#32
  let v487 : BitVec 1 := Scalar.cmpi .slt v483 c0_i32_341
  let v488 : BitVec 1 := Scalar.xori v486 v487
  let c0_i32_339 : BitVec 32 := 0#32
  let v485 : BitVec 1 := Scalar.cmpi .ne v484 c0_i32_339
  let v489 : BitVec 1 := Scalar.andi v488 v485
  let v490 : BitVec 32 := Scalar.addi v484 v483
  let v491 : BitVec 32 := Scalar.select v489 v490 v484
  let c1_i32_346 : BitVec 32 := 1#32
  let v493 : BitVec 32 := Scalar.muli v491 c1_i32_346
  let v494 : BitVec 32 := Scalar.addi c0_i32_347 v493
  v494.toNat
def k0_dev23 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_351 : BitVec 32 := 8#32
  let v502 : BitVec 32 := Scalar.addi v2 c8_i32_351
  let c16_i32_352 : BitVec 32 := 16#32
  let c0_i32_353 : BitVec 32 := 0#32
  let v503 : BitVec 1 := Scalar.cmpi .eq c16_i32_352 c0_i32_353
  let c1_i32_354 : BitVec 32 := 1#32
  let v504 : BitVec 32 := Scalar.select v503 c1_i32_354 c16_i32_352
  let v505 : BitVec 32 := Scalar.remsi v502 v504
  let c0_i32_356 : BitVec 32 := 0#32
  let v507 : BitVec 1 := Scalar.cmpi .slt v505 c0_i32_356
  let c0_i32_357 : BitVec 32 := 0#32
  let v508 : BitVec 1 := Scalar.cmpi .slt v504 c0_i32_357
  let v509 : BitVec 1 := Scalar.xori v507 v508
  let c0_i32_355 : BitVec 32 := 0#32
  let v506 : BitVec 1 := Scalar.cmpi .ne v505 c0_i32_355
  let v510 : BitVec 1 := Scalar.andi v509 v506
  let v511 : BitVec 32 := Scalar.addi v505 v504
  let v512 : BitVec 32 := Scalar.select v510 v511 v505
  let c1_i32_362 : BitVec 32 := 1#32
  let v514 : BitVec 32 := Scalar.muli v512 c1_i32_362
  let v515 : BitVec 32 := Scalar.addi c0_i32_363 v514
  v515.toNat
def k0_dev24 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_367 : BitVec 32 := 9#32
  let v523 : BitVec 32 := Scalar.addi v2 c9_i32_367
  let c16_i32_368 : BitVec 32 := 16#32
  let c0_i32_369 : BitVec 32 := 0#32
  let v524 : BitVec 1 := Scalar.cmpi .eq c16_i32_368 c0_i32_369
  let c1_i32_370 : BitVec 32 := 1#32
  let v525 : BitVec 32 := Scalar.select v524 c1_i32_370 c16_i32_368
  let v526 : BitVec 32 := Scalar.remsi v523 v525
  let c0_i32_372 : BitVec 32 := 0#32
  let v528 : BitVec 1 := Scalar.cmpi .slt v526 c0_i32_372
  let c0_i32_373 : BitVec 32 := 0#32
  let v529 : BitVec 1 := Scalar.cmpi .slt v525 c0_i32_373
  let v530 : BitVec 1 := Scalar.xori v528 v529
  let c0_i32_371 : BitVec 32 := 0#32
  let v527 : BitVec 1 := Scalar.cmpi .ne v526 c0_i32_371
  let v531 : BitVec 1 := Scalar.andi v530 v527
  let v532 : BitVec 32 := Scalar.addi v526 v525
  let v533 : BitVec 32 := Scalar.select v531 v532 v526
  let c1_i32_378 : BitVec 32 := 1#32
  let v535 : BitVec 32 := Scalar.muli v533 c1_i32_378
  let v536 : BitVec 32 := Scalar.addi c0_i32_379 v535
  v536.toNat
def k0_dev25 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_383 : BitVec 32 := 10#32
  let v544 : BitVec 32 := Scalar.addi v2 c10_i32_383
  let c16_i32_384 : BitVec 32 := 16#32
  let c0_i32_385 : BitVec 32 := 0#32
  let v545 : BitVec 1 := Scalar.cmpi .eq c16_i32_384 c0_i32_385
  let c1_i32_386 : BitVec 32 := 1#32
  let v546 : BitVec 32 := Scalar.select v545 c1_i32_386 c16_i32_384
  let v547 : BitVec 32 := Scalar.remsi v544 v546
  let c0_i32_388 : BitVec 32 := 0#32
  let v549 : BitVec 1 := Scalar.cmpi .slt v547 c0_i32_388
  let c0_i32_389 : BitVec 32 := 0#32
  let v550 : BitVec 1 := Scalar.cmpi .slt v546 c0_i32_389
  let v551 : BitVec 1 := Scalar.xori v549 v550
  let c0_i32_387 : BitVec 32 := 0#32
  let v548 : BitVec 1 := Scalar.cmpi .ne v547 c0_i32_387
  let v552 : BitVec 1 := Scalar.andi v551 v548
  let v553 : BitVec 32 := Scalar.addi v547 v546
  let v554 : BitVec 32 := Scalar.select v552 v553 v547
  let c1_i32_394 : BitVec 32 := 1#32
  let v556 : BitVec 32 := Scalar.muli v554 c1_i32_394
  let v557 : BitVec 32 := Scalar.addi c0_i32_395 v556
  v557.toNat
def k0_dev26 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_399 : BitVec 32 := 11#32
  let v565 : BitVec 32 := Scalar.addi v2 c11_i32_399
  let c16_i32_400 : BitVec 32 := 16#32
  let c0_i32_401 : BitVec 32 := 0#32
  let v566 : BitVec 1 := Scalar.cmpi .eq c16_i32_400 c0_i32_401
  let c1_i32_402 : BitVec 32 := 1#32
  let v567 : BitVec 32 := Scalar.select v566 c1_i32_402 c16_i32_400
  let v568 : BitVec 32 := Scalar.remsi v565 v567
  let c0_i32_404 : BitVec 32 := 0#32
  let v570 : BitVec 1 := Scalar.cmpi .slt v568 c0_i32_404
  let c0_i32_405 : BitVec 32 := 0#32
  let v571 : BitVec 1 := Scalar.cmpi .slt v567 c0_i32_405
  let v572 : BitVec 1 := Scalar.xori v570 v571
  let c0_i32_403 : BitVec 32 := 0#32
  let v569 : BitVec 1 := Scalar.cmpi .ne v568 c0_i32_403
  let v573 : BitVec 1 := Scalar.andi v572 v569
  let v574 : BitVec 32 := Scalar.addi v568 v567
  let v575 : BitVec 32 := Scalar.select v573 v574 v568
  let c1_i32_410 : BitVec 32 := 1#32
  let v577 : BitVec 32 := Scalar.muli v575 c1_i32_410
  let v578 : BitVec 32 := Scalar.addi c0_i32_411 v577
  v578.toNat
def k0_dev27 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_415 : BitVec 32 := 12#32
  let v586 : BitVec 32 := Scalar.addi v2 c12_i32_415
  let c16_i32_416 : BitVec 32 := 16#32
  let c0_i32_417 : BitVec 32 := 0#32
  let v587 : BitVec 1 := Scalar.cmpi .eq c16_i32_416 c0_i32_417
  let c1_i32_418 : BitVec 32 := 1#32
  let v588 : BitVec 32 := Scalar.select v587 c1_i32_418 c16_i32_416
  let v589 : BitVec 32 := Scalar.remsi v586 v588
  let c0_i32_420 : BitVec 32 := 0#32
  let v591 : BitVec 1 := Scalar.cmpi .slt v589 c0_i32_420
  let c0_i32_421 : BitVec 32 := 0#32
  let v592 : BitVec 1 := Scalar.cmpi .slt v588 c0_i32_421
  let v593 : BitVec 1 := Scalar.xori v591 v592
  let c0_i32_419 : BitVec 32 := 0#32
  let v590 : BitVec 1 := Scalar.cmpi .ne v589 c0_i32_419
  let v594 : BitVec 1 := Scalar.andi v593 v590
  let v595 : BitVec 32 := Scalar.addi v589 v588
  let v596 : BitVec 32 := Scalar.select v594 v595 v589
  let c1_i32_426 : BitVec 32 := 1#32
  let v598 : BitVec 32 := Scalar.muli v596 c1_i32_426
  let v599 : BitVec 32 := Scalar.addi c0_i32_427 v598
  v599.toNat
def k0_dev28 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_431 : BitVec 32 := 13#32
  let v607 : BitVec 32 := Scalar.addi v2 c13_i32_431
  let c16_i32_432 : BitVec 32 := 16#32
  let c0_i32_433 : BitVec 32 := 0#32
  let v608 : BitVec 1 := Scalar.cmpi .eq c16_i32_432 c0_i32_433
  let c1_i32_434 : BitVec 32 := 1#32
  let v609 : BitVec 32 := Scalar.select v608 c1_i32_434 c16_i32_432
  let v610 : BitVec 32 := Scalar.remsi v607 v609
  let c0_i32_436 : BitVec 32 := 0#32
  let v612 : BitVec 1 := Scalar.cmpi .slt v610 c0_i32_436
  let c0_i32_437 : BitVec 32 := 0#32
  let v613 : BitVec 1 := Scalar.cmpi .slt v609 c0_i32_437
  let v614 : BitVec 1 := Scalar.xori v612 v613
  let c0_i32_435 : BitVec 32 := 0#32
  let v611 : BitVec 1 := Scalar.cmpi .ne v610 c0_i32_435
  let v615 : BitVec 1 := Scalar.andi v614 v611
  let v616 : BitVec 32 := Scalar.addi v610 v609
  let v617 : BitVec 32 := Scalar.select v615 v616 v610
  let c1_i32_442 : BitVec 32 := 1#32
  let v619 : BitVec 32 := Scalar.muli v617 c1_i32_442
  let v620 : BitVec 32 := Scalar.addi c0_i32_443 v619
  v620.toNat
def k0_dev29 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_447 : BitVec 32 := 14#32
  let v628 : BitVec 32 := Scalar.addi v2 c14_i32_447
  let c16_i32_448 : BitVec 32 := 16#32
  let c0_i32_449 : BitVec 32 := 0#32
  let v629 : BitVec 1 := Scalar.cmpi .eq c16_i32_448 c0_i32_449
  let c1_i32_450 : BitVec 32 := 1#32
  let v630 : BitVec 32 := Scalar.select v629 c1_i32_450 c16_i32_448
  let v631 : BitVec 32 := Scalar.remsi v628 v630
  let c0_i32_452 : BitVec 32 := 0#32
  let v633 : BitVec 1 := Scalar.cmpi .slt v631 c0_i32_452
  let c0_i32_453 : BitVec 32 := 0#32
  let v634 : BitVec 1 := Scalar.cmpi .slt v630 c0_i32_453
  let v635 : BitVec 1 := Scalar.xori v633 v634
  let c0_i32_451 : BitVec 32 := 0#32
  let v632 : BitVec 1 := Scalar.cmpi .ne v631 c0_i32_451
  let v636 : BitVec 1 := Scalar.andi v635 v632
  let v637 : BitVec 32 := Scalar.addi v631 v630
  let v638 : BitVec 32 := Scalar.select v636 v637 v631
  let c1_i32_458 : BitVec 32 := 1#32
  let v640 : BitVec 32 := Scalar.muli v638 c1_i32_458
  let v641 : BitVec 32 := Scalar.addi c0_i32_459 v640
  v641.toNat
def k0_dev30 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_463 : BitVec 32 := 15#32
  let v649 : BitVec 32 := Scalar.addi v2 c15_i32_463
  let c16_i32_464 : BitVec 32 := 16#32
  let c0_i32_465 : BitVec 32 := 0#32
  let v650 : BitVec 1 := Scalar.cmpi .eq c16_i32_464 c0_i32_465
  let c1_i32_466 : BitVec 32 := 1#32
  let v651 : BitVec 32 := Scalar.select v650 c1_i32_466 c16_i32_464
  let v652 : BitVec 32 := Scalar.remsi v649 v651
  let c0_i32_468 : BitVec 32 := 0#32
  let v654 : BitVec 1 := Scalar.cmpi .slt v652 c0_i32_468
  let c0_i32_469 : BitVec 32 := 0#32
  let v655 : BitVec 1 := Scalar.cmpi .slt v651 c0_i32_469
  let v656 : BitVec 1 := Scalar.xori v654 v655
  let c0_i32_467 : BitVec 32 := 0#32
  let v653 : BitVec 1 := Scalar.cmpi .ne v652 c0_i32_467
  let v657 : BitVec 1 := Scalar.andi v656 v653
  let v658 : BitVec 32 := Scalar.addi v652 v651
  let v659 : BitVec 32 := Scalar.select v657 v658 v652
  let c1_i32_474 : BitVec 32 := 1#32
  let v661 : BitVec 32 := Scalar.muli v659 c1_i32_474
  let v662 : BitVec 32 := Scalar.addi c0_i32_475 v661
  v662.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_479 : BitVec 32 := 16#32
  let v670 : BitVec 32 := Scalar.muli v2 c16_i32_479
  let v671 : Index := Scalar.indexCast v670
  let c0_480 : Index := 0#32
  ![v671.toNat, 0]
def k0_off4 (d0 : Dev nD) : Fin 3 → Nat :=
  let c0_639 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_638 : BitVec 32 := 16#32
  let v799 : BitVec 32 := Scalar.muli v2 c16_i32_638
  let v800 : Index := Scalar.indexCast v799
  let c0_640 : Index := 0#32
  ![0, v800.toNat, 0]
def k0_dev31 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_644 : BitVec 32 := 1#32
  let v808 : BitVec 32 := Scalar.addi v2 c1_i32_644
  let c16_i32_645 : BitVec 32 := 16#32
  let c0_i32_646 : BitVec 32 := 0#32
  let v809 : BitVec 1 := Scalar.cmpi .eq c16_i32_645 c0_i32_646
  let c1_i32_647 : BitVec 32 := 1#32
  let v810 : BitVec 32 := Scalar.select v809 c1_i32_647 c16_i32_645
  let v811 : BitVec 32 := Scalar.remsi v808 v810
  let c0_i32_649 : BitVec 32 := 0#32
  let v813 : BitVec 1 := Scalar.cmpi .slt v811 c0_i32_649
  let c0_i32_650 : BitVec 32 := 0#32
  let v814 : BitVec 1 := Scalar.cmpi .slt v810 c0_i32_650
  let v815 : BitVec 1 := Scalar.xori v813 v814
  let c0_i32_648 : BitVec 32 := 0#32
  let v812 : BitVec 1 := Scalar.cmpi .ne v811 c0_i32_648
  let v816 : BitVec 1 := Scalar.andi v815 v812
  let v817 : BitVec 32 := Scalar.addi v811 v810
  let v818 : BitVec 32 := Scalar.select v816 v817 v811
  let c1_i32_655 : BitVec 32 := 1#32
  let v819 : BitVec 32 := Scalar.muli v818 c1_i32_655
  let v820 : BitVec 32 := Scalar.addi c0_i32_656 v819
  v820.toNat
def k0_dev32 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_661 : BitVec 32 := 2#32
  let v829 : BitVec 32 := Scalar.addi v2 c2_i32_661
  let c16_i32_662 : BitVec 32 := 16#32
  let c0_i32_663 : BitVec 32 := 0#32
  let v830 : BitVec 1 := Scalar.cmpi .eq c16_i32_662 c0_i32_663
  let c1_i32_664 : BitVec 32 := 1#32
  let v831 : BitVec 32 := Scalar.select v830 c1_i32_664 c16_i32_662
  let v832 : BitVec 32 := Scalar.remsi v829 v831
  let c0_i32_666 : BitVec 32 := 0#32
  let v834 : BitVec 1 := Scalar.cmpi .slt v832 c0_i32_666
  let c0_i32_667 : BitVec 32 := 0#32
  let v835 : BitVec 1 := Scalar.cmpi .slt v831 c0_i32_667
  let v836 : BitVec 1 := Scalar.xori v834 v835
  let c0_i32_665 : BitVec 32 := 0#32
  let v833 : BitVec 1 := Scalar.cmpi .ne v832 c0_i32_665
  let v837 : BitVec 1 := Scalar.andi v836 v833
  let v838 : BitVec 32 := Scalar.addi v832 v831
  let v839 : BitVec 32 := Scalar.select v837 v838 v832
  let c1_i32_672 : BitVec 32 := 1#32
  let v840 : BitVec 32 := Scalar.muli v839 c1_i32_672
  let v841 : BitVec 32 := Scalar.addi c0_i32_673 v840
  v841.toNat
def k0_dev33 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_678 : BitVec 32 := 3#32
  let v850 : BitVec 32 := Scalar.addi v2 c3_i32_678
  let c16_i32_679 : BitVec 32 := 16#32
  let c0_i32_680 : BitVec 32 := 0#32
  let v851 : BitVec 1 := Scalar.cmpi .eq c16_i32_679 c0_i32_680
  let c1_i32_681 : BitVec 32 := 1#32
  let v852 : BitVec 32 := Scalar.select v851 c1_i32_681 c16_i32_679
  let v853 : BitVec 32 := Scalar.remsi v850 v852
  let c0_i32_683 : BitVec 32 := 0#32
  let v855 : BitVec 1 := Scalar.cmpi .slt v853 c0_i32_683
  let c0_i32_684 : BitVec 32 := 0#32
  let v856 : BitVec 1 := Scalar.cmpi .slt v852 c0_i32_684
  let v857 : BitVec 1 := Scalar.xori v855 v856
  let c0_i32_682 : BitVec 32 := 0#32
  let v854 : BitVec 1 := Scalar.cmpi .ne v853 c0_i32_682
  let v858 : BitVec 1 := Scalar.andi v857 v854
  let v859 : BitVec 32 := Scalar.addi v853 v852
  let v860 : BitVec 32 := Scalar.select v858 v859 v853
  let c1_i32_689 : BitVec 32 := 1#32
  let v861 : BitVec 32 := Scalar.muli v860 c1_i32_689
  let v862 : BitVec 32 := Scalar.addi c0_i32_690 v861
  v862.toNat
def k0_dev34 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_695 : BitVec 32 := 4#32
  let v871 : BitVec 32 := Scalar.addi v2 c4_i32_695
  let c16_i32_696 : BitVec 32 := 16#32
  let c0_i32_697 : BitVec 32 := 0#32
  let v872 : BitVec 1 := Scalar.cmpi .eq c16_i32_696 c0_i32_697
  let c1_i32_698 : BitVec 32 := 1#32
  let v873 : BitVec 32 := Scalar.select v872 c1_i32_698 c16_i32_696
  let v874 : BitVec 32 := Scalar.remsi v871 v873
  let c0_i32_700 : BitVec 32 := 0#32
  let v876 : BitVec 1 := Scalar.cmpi .slt v874 c0_i32_700
  let c0_i32_701 : BitVec 32 := 0#32
  let v877 : BitVec 1 := Scalar.cmpi .slt v873 c0_i32_701
  let v878 : BitVec 1 := Scalar.xori v876 v877
  let c0_i32_699 : BitVec 32 := 0#32
  let v875 : BitVec 1 := Scalar.cmpi .ne v874 c0_i32_699
  let v879 : BitVec 1 := Scalar.andi v878 v875
  let v880 : BitVec 32 := Scalar.addi v874 v873
  let v881 : BitVec 32 := Scalar.select v879 v880 v874
  let c1_i32_706 : BitVec 32 := 1#32
  let v882 : BitVec 32 := Scalar.muli v881 c1_i32_706
  let v883 : BitVec 32 := Scalar.addi c0_i32_707 v882
  v883.toNat
def k0_dev35 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_712 : BitVec 32 := 5#32
  let v892 : BitVec 32 := Scalar.addi v2 c5_i32_712
  let c16_i32_713 : BitVec 32 := 16#32
  let c0_i32_714 : BitVec 32 := 0#32
  let v893 : BitVec 1 := Scalar.cmpi .eq c16_i32_713 c0_i32_714
  let c1_i32_715 : BitVec 32 := 1#32
  let v894 : BitVec 32 := Scalar.select v893 c1_i32_715 c16_i32_713
  let v895 : BitVec 32 := Scalar.remsi v892 v894
  let c0_i32_717 : BitVec 32 := 0#32
  let v897 : BitVec 1 := Scalar.cmpi .slt v895 c0_i32_717
  let c0_i32_718 : BitVec 32 := 0#32
  let v898 : BitVec 1 := Scalar.cmpi .slt v894 c0_i32_718
  let v899 : BitVec 1 := Scalar.xori v897 v898
  let c0_i32_716 : BitVec 32 := 0#32
  let v896 : BitVec 1 := Scalar.cmpi .ne v895 c0_i32_716
  let v900 : BitVec 1 := Scalar.andi v899 v896
  let v901 : BitVec 32 := Scalar.addi v895 v894
  let v902 : BitVec 32 := Scalar.select v900 v901 v895
  let c1_i32_723 : BitVec 32 := 1#32
  let v903 : BitVec 32 := Scalar.muli v902 c1_i32_723
  let v904 : BitVec 32 := Scalar.addi c0_i32_724 v903
  v904.toNat
def k0_dev36 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_729 : BitVec 32 := 6#32
  let v913 : BitVec 32 := Scalar.addi v2 c6_i32_729
  let c16_i32_730 : BitVec 32 := 16#32
  let c0_i32_731 : BitVec 32 := 0#32
  let v914 : BitVec 1 := Scalar.cmpi .eq c16_i32_730 c0_i32_731
  let c1_i32_732 : BitVec 32 := 1#32
  let v915 : BitVec 32 := Scalar.select v914 c1_i32_732 c16_i32_730
  let v916 : BitVec 32 := Scalar.remsi v913 v915
  let c0_i32_734 : BitVec 32 := 0#32
  let v918 : BitVec 1 := Scalar.cmpi .slt v916 c0_i32_734
  let c0_i32_735 : BitVec 32 := 0#32
  let v919 : BitVec 1 := Scalar.cmpi .slt v915 c0_i32_735
  let v920 : BitVec 1 := Scalar.xori v918 v919
  let c0_i32_733 : BitVec 32 := 0#32
  let v917 : BitVec 1 := Scalar.cmpi .ne v916 c0_i32_733
  let v921 : BitVec 1 := Scalar.andi v920 v917
  let v922 : BitVec 32 := Scalar.addi v916 v915
  let v923 : BitVec 32 := Scalar.select v921 v922 v916
  let c1_i32_740 : BitVec 32 := 1#32
  let v924 : BitVec 32 := Scalar.muli v923 c1_i32_740
  let v925 : BitVec 32 := Scalar.addi c0_i32_741 v924
  v925.toNat
def k0_dev37 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_746 : BitVec 32 := 7#32
  let v934 : BitVec 32 := Scalar.addi v2 c7_i32_746
  let c16_i32_747 : BitVec 32 := 16#32
  let c0_i32_748 : BitVec 32 := 0#32
  let v935 : BitVec 1 := Scalar.cmpi .eq c16_i32_747 c0_i32_748
  let c1_i32_749 : BitVec 32 := 1#32
  let v936 : BitVec 32 := Scalar.select v935 c1_i32_749 c16_i32_747
  let v937 : BitVec 32 := Scalar.remsi v934 v936
  let c0_i32_751 : BitVec 32 := 0#32
  let v939 : BitVec 1 := Scalar.cmpi .slt v937 c0_i32_751
  let c0_i32_752 : BitVec 32 := 0#32
  let v940 : BitVec 1 := Scalar.cmpi .slt v936 c0_i32_752
  let v941 : BitVec 1 := Scalar.xori v939 v940
  let c0_i32_750 : BitVec 32 := 0#32
  let v938 : BitVec 1 := Scalar.cmpi .ne v937 c0_i32_750
  let v942 : BitVec 1 := Scalar.andi v941 v938
  let v943 : BitVec 32 := Scalar.addi v937 v936
  let v944 : BitVec 32 := Scalar.select v942 v943 v937
  let c1_i32_757 : BitVec 32 := 1#32
  let v945 : BitVec 32 := Scalar.muli v944 c1_i32_757
  let v946 : BitVec 32 := Scalar.addi c0_i32_758 v945
  v946.toNat
def k0_dev38 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_763 : BitVec 32 := 8#32
  let v955 : BitVec 32 := Scalar.addi v2 c8_i32_763
  let c16_i32_764 : BitVec 32 := 16#32
  let c0_i32_765 : BitVec 32 := 0#32
  let v956 : BitVec 1 := Scalar.cmpi .eq c16_i32_764 c0_i32_765
  let c1_i32_766 : BitVec 32 := 1#32
  let v957 : BitVec 32 := Scalar.select v956 c1_i32_766 c16_i32_764
  let v958 : BitVec 32 := Scalar.remsi v955 v957
  let c0_i32_768 : BitVec 32 := 0#32
  let v960 : BitVec 1 := Scalar.cmpi .slt v958 c0_i32_768
  let c0_i32_769 : BitVec 32 := 0#32
  let v961 : BitVec 1 := Scalar.cmpi .slt v957 c0_i32_769
  let v962 : BitVec 1 := Scalar.xori v960 v961
  let c0_i32_767 : BitVec 32 := 0#32
  let v959 : BitVec 1 := Scalar.cmpi .ne v958 c0_i32_767
  let v963 : BitVec 1 := Scalar.andi v962 v959
  let v964 : BitVec 32 := Scalar.addi v958 v957
  let v965 : BitVec 32 := Scalar.select v963 v964 v958
  let c1_i32_774 : BitVec 32 := 1#32
  let v966 : BitVec 32 := Scalar.muli v965 c1_i32_774
  let v967 : BitVec 32 := Scalar.addi c0_i32_775 v966
  v967.toNat
def k0_dev39 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_780 : BitVec 32 := 9#32
  let v976 : BitVec 32 := Scalar.addi v2 c9_i32_780
  let c16_i32_781 : BitVec 32 := 16#32
  let c0_i32_782 : BitVec 32 := 0#32
  let v977 : BitVec 1 := Scalar.cmpi .eq c16_i32_781 c0_i32_782
  let c1_i32_783 : BitVec 32 := 1#32
  let v978 : BitVec 32 := Scalar.select v977 c1_i32_783 c16_i32_781
  let v979 : BitVec 32 := Scalar.remsi v976 v978
  let c0_i32_785 : BitVec 32 := 0#32
  let v981 : BitVec 1 := Scalar.cmpi .slt v979 c0_i32_785
  let c0_i32_786 : BitVec 32 := 0#32
  let v982 : BitVec 1 := Scalar.cmpi .slt v978 c0_i32_786
  let v983 : BitVec 1 := Scalar.xori v981 v982
  let c0_i32_784 : BitVec 32 := 0#32
  let v980 : BitVec 1 := Scalar.cmpi .ne v979 c0_i32_784
  let v984 : BitVec 1 := Scalar.andi v983 v980
  let v985 : BitVec 32 := Scalar.addi v979 v978
  let v986 : BitVec 32 := Scalar.select v984 v985 v979
  let c1_i32_791 : BitVec 32 := 1#32
  let v987 : BitVec 32 := Scalar.muli v986 c1_i32_791
  let v988 : BitVec 32 := Scalar.addi c0_i32_792 v987
  v988.toNat
def k0_dev40 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_797 : BitVec 32 := 10#32
  let v997 : BitVec 32 := Scalar.addi v2 c10_i32_797
  let c16_i32_798 : BitVec 32 := 16#32
  let c0_i32_799 : BitVec 32 := 0#32
  let v998 : BitVec 1 := Scalar.cmpi .eq c16_i32_798 c0_i32_799
  let c1_i32_800 : BitVec 32 := 1#32
  let v999 : BitVec 32 := Scalar.select v998 c1_i32_800 c16_i32_798
  let v1000 : BitVec 32 := Scalar.remsi v997 v999
  let c0_i32_802 : BitVec 32 := 0#32
  let v1002 : BitVec 1 := Scalar.cmpi .slt v1000 c0_i32_802
  let c0_i32_803 : BitVec 32 := 0#32
  let v1003 : BitVec 1 := Scalar.cmpi .slt v999 c0_i32_803
  let v1004 : BitVec 1 := Scalar.xori v1002 v1003
  let c0_i32_801 : BitVec 32 := 0#32
  let v1001 : BitVec 1 := Scalar.cmpi .ne v1000 c0_i32_801
  let v1005 : BitVec 1 := Scalar.andi v1004 v1001
  let v1006 : BitVec 32 := Scalar.addi v1000 v999
  let v1007 : BitVec 32 := Scalar.select v1005 v1006 v1000
  let c1_i32_808 : BitVec 32 := 1#32
  let v1008 : BitVec 32 := Scalar.muli v1007 c1_i32_808
  let v1009 : BitVec 32 := Scalar.addi c0_i32_809 v1008
  v1009.toNat
def k0_dev41 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_814 : BitVec 32 := 11#32
  let v1018 : BitVec 32 := Scalar.addi v2 c11_i32_814
  let c16_i32_815 : BitVec 32 := 16#32
  let c0_i32_816 : BitVec 32 := 0#32
  let v1019 : BitVec 1 := Scalar.cmpi .eq c16_i32_815 c0_i32_816
  let c1_i32_817 : BitVec 32 := 1#32
  let v1020 : BitVec 32 := Scalar.select v1019 c1_i32_817 c16_i32_815
  let v1021 : BitVec 32 := Scalar.remsi v1018 v1020
  let c0_i32_819 : BitVec 32 := 0#32
  let v1023 : BitVec 1 := Scalar.cmpi .slt v1021 c0_i32_819
  let c0_i32_820 : BitVec 32 := 0#32
  let v1024 : BitVec 1 := Scalar.cmpi .slt v1020 c0_i32_820
  let v1025 : BitVec 1 := Scalar.xori v1023 v1024
  let c0_i32_818 : BitVec 32 := 0#32
  let v1022 : BitVec 1 := Scalar.cmpi .ne v1021 c0_i32_818
  let v1026 : BitVec 1 := Scalar.andi v1025 v1022
  let v1027 : BitVec 32 := Scalar.addi v1021 v1020
  let v1028 : BitVec 32 := Scalar.select v1026 v1027 v1021
  let c1_i32_825 : BitVec 32 := 1#32
  let v1029 : BitVec 32 := Scalar.muli v1028 c1_i32_825
  let v1030 : BitVec 32 := Scalar.addi c0_i32_826 v1029
  v1030.toNat
def k0_dev42 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_831 : BitVec 32 := 12#32
  let v1039 : BitVec 32 := Scalar.addi v2 c12_i32_831
  let c16_i32_832 : BitVec 32 := 16#32
  let c0_i32_833 : BitVec 32 := 0#32
  let v1040 : BitVec 1 := Scalar.cmpi .eq c16_i32_832 c0_i32_833
  let c1_i32_834 : BitVec 32 := 1#32
  let v1041 : BitVec 32 := Scalar.select v1040 c1_i32_834 c16_i32_832
  let v1042 : BitVec 32 := Scalar.remsi v1039 v1041
  let c0_i32_836 : BitVec 32 := 0#32
  let v1044 : BitVec 1 := Scalar.cmpi .slt v1042 c0_i32_836
  let c0_i32_837 : BitVec 32 := 0#32
  let v1045 : BitVec 1 := Scalar.cmpi .slt v1041 c0_i32_837
  let v1046 : BitVec 1 := Scalar.xori v1044 v1045
  let c0_i32_835 : BitVec 32 := 0#32
  let v1043 : BitVec 1 := Scalar.cmpi .ne v1042 c0_i32_835
  let v1047 : BitVec 1 := Scalar.andi v1046 v1043
  let v1048 : BitVec 32 := Scalar.addi v1042 v1041
  let v1049 : BitVec 32 := Scalar.select v1047 v1048 v1042
  let c1_i32_842 : BitVec 32 := 1#32
  let v1050 : BitVec 32 := Scalar.muli v1049 c1_i32_842
  let v1051 : BitVec 32 := Scalar.addi c0_i32_843 v1050
  v1051.toNat
def k0_dev43 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_848 : BitVec 32 := 13#32
  let v1060 : BitVec 32 := Scalar.addi v2 c13_i32_848
  let c16_i32_849 : BitVec 32 := 16#32
  let c0_i32_850 : BitVec 32 := 0#32
  let v1061 : BitVec 1 := Scalar.cmpi .eq c16_i32_849 c0_i32_850
  let c1_i32_851 : BitVec 32 := 1#32
  let v1062 : BitVec 32 := Scalar.select v1061 c1_i32_851 c16_i32_849
  let v1063 : BitVec 32 := Scalar.remsi v1060 v1062
  let c0_i32_853 : BitVec 32 := 0#32
  let v1065 : BitVec 1 := Scalar.cmpi .slt v1063 c0_i32_853
  let c0_i32_854 : BitVec 32 := 0#32
  let v1066 : BitVec 1 := Scalar.cmpi .slt v1062 c0_i32_854
  let v1067 : BitVec 1 := Scalar.xori v1065 v1066
  let c0_i32_852 : BitVec 32 := 0#32
  let v1064 : BitVec 1 := Scalar.cmpi .ne v1063 c0_i32_852
  let v1068 : BitVec 1 := Scalar.andi v1067 v1064
  let v1069 : BitVec 32 := Scalar.addi v1063 v1062
  let v1070 : BitVec 32 := Scalar.select v1068 v1069 v1063
  let c1_i32_859 : BitVec 32 := 1#32
  let v1071 : BitVec 32 := Scalar.muli v1070 c1_i32_859
  let v1072 : BitVec 32 := Scalar.addi c0_i32_860 v1071
  v1072.toNat
def k0_dev44 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_865 : BitVec 32 := 14#32
  let v1081 : BitVec 32 := Scalar.addi v2 c14_i32_865
  let c16_i32_866 : BitVec 32 := 16#32
  let c0_i32_867 : BitVec 32 := 0#32
  let v1082 : BitVec 1 := Scalar.cmpi .eq c16_i32_866 c0_i32_867
  let c1_i32_868 : BitVec 32 := 1#32
  let v1083 : BitVec 32 := Scalar.select v1082 c1_i32_868 c16_i32_866
  let v1084 : BitVec 32 := Scalar.remsi v1081 v1083
  let c0_i32_870 : BitVec 32 := 0#32
  let v1086 : BitVec 1 := Scalar.cmpi .slt v1084 c0_i32_870
  let c0_i32_871 : BitVec 32 := 0#32
  let v1087 : BitVec 1 := Scalar.cmpi .slt v1083 c0_i32_871
  let v1088 : BitVec 1 := Scalar.xori v1086 v1087
  let c0_i32_869 : BitVec 32 := 0#32
  let v1085 : BitVec 1 := Scalar.cmpi .ne v1084 c0_i32_869
  let v1089 : BitVec 1 := Scalar.andi v1088 v1085
  let v1090 : BitVec 32 := Scalar.addi v1084 v1083
  let v1091 : BitVec 32 := Scalar.select v1089 v1090 v1084
  let c1_i32_876 : BitVec 32 := 1#32
  let v1092 : BitVec 32 := Scalar.muli v1091 c1_i32_876
  let v1093 : BitVec 32 := Scalar.addi c0_i32_877 v1092
  v1093.toNat
def k0_dev45 (d0 : Dev nD) : Nat :=
  let c0_i32_894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_882 : BitVec 32 := 15#32
  let v1102 : BitVec 32 := Scalar.addi v2 c15_i32_882
  let c16_i32_883 : BitVec 32 := 16#32
  let c0_i32_884 : BitVec 32 := 0#32
  let v1103 : BitVec 1 := Scalar.cmpi .eq c16_i32_883 c0_i32_884
  let c1_i32_885 : BitVec 32 := 1#32
  let v1104 : BitVec 32 := Scalar.select v1103 c1_i32_885 c16_i32_883
  let v1105 : BitVec 32 := Scalar.remsi v1102 v1104
  let c0_i32_887 : BitVec 32 := 0#32
  let v1107 : BitVec 1 := Scalar.cmpi .slt v1105 c0_i32_887
  let c0_i32_888 : BitVec 32 := 0#32
  let v1108 : BitVec 1 := Scalar.cmpi .slt v1104 c0_i32_888
  let v1109 : BitVec 1 := Scalar.xori v1107 v1108
  let c0_i32_886 : BitVec 32 := 0#32
  let v1106 : BitVec 1 := Scalar.cmpi .ne v1105 c0_i32_886
  let v1110 : BitVec 1 := Scalar.andi v1109 v1106
  let v1111 : BitVec 32 := Scalar.addi v1105 v1104
  let v1112 : BitVec 32 := Scalar.select v1110 v1111 v1105
  let c1_i32_893 : BitVec 32 := 1#32
  let v1113 : BitVec 32 := Scalar.muli v1112 c1_i32_893
  let v1114 : BitVec 32 := Scalar.addi c0_i32_894 v1113
  v1114.toNat
def k0_off5 (d0 : Dev nD) (c0_i32_909 : BitVec 32) : Fin 3 → Nat :=
  let c0_921 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1131 : BitVec 32 := Scalar.addi v2 c0_i32_909
  let c1_i32_910 : BitVec 32 := 1#32
  let v1132 : BitVec 32 := Scalar.addi v1131 c1_i32_910
  let c16_i32_911 : BitVec 32 := 16#32
  let c0_i32_912 : BitVec 32 := 0#32
  let v1133 : BitVec 1 := Scalar.cmpi .eq c16_i32_911 c0_i32_912
  let c1_i32_913 : BitVec 32 := 1#32
  let v1134 : BitVec 32 := Scalar.select v1133 c1_i32_913 c16_i32_911
  let v1135 : BitVec 32 := Scalar.remsi v1132 v1134
  let c0_i32_915 : BitVec 32 := 0#32
  let v1137 : BitVec 1 := Scalar.cmpi .slt v1135 c0_i32_915
  let c0_i32_916 : BitVec 32 := 0#32
  let v1138 : BitVec 1 := Scalar.cmpi .slt v1134 c0_i32_916
  let v1139 : BitVec 1 := Scalar.xori v1137 v1138
  let c0_i32_914 : BitVec 32 := 0#32
  let v1136 : BitVec 1 := Scalar.cmpi .ne v1135 c0_i32_914
  let v1140 : BitVec 1 := Scalar.andi v1139 v1136
  let v1141 : BitVec 32 := Scalar.addi v1135 v1134
  let v1142 : BitVec 32 := Scalar.select v1140 v1141 v1135
  let c16_i32_920 : BitVec 32 := 16#32
  let v1146 : BitVec 32 := Scalar.muli v1142 c16_i32_920
  let v1147 : Index := Scalar.indexCast v1146
  let c0_922 : Index := 0#32
  ![0, v1147.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S1x256x1024 : Shape := ⟨3, ![1, 256, 1024]⟩
abbrev S1024x16384 : Shape := ⟨2, ![1024, 16384]⟩
abbrev S1x4096x32x128 : Shape := ⟨4, ![1, 4096, 32, 128]⟩
abbrev S16384x1024 : Shape := ⟨2, ![16384, 1024]⟩
abbrev S1x256x16384 : Shape := ⟨3, ![1, 256, 16384]⟩
abbrev S1x256x128x128 : Shape := ⟨4, ![1, 256, 128, 128]⟩
abbrev S1x4096x32x4x128 : Shape := ⟨5, ![1, 4096, 32, 4, 128]⟩
abbrev S1x4096x128x128 : Shape := ⟨4, ![1, 4096, 128, 128]⟩
abbrev S_ : Shape := ⟨0, ![]⟩
abbrev S1x128x256x1 : Shape := ⟨4, ![1, 128, 256, 1]⟩
abbrev S1x1024x128x128 : Shape := ⟨4, ![1, 1024, 128, 128]⟩
abbrev S1x128x256x1024 : Shape := ⟨4, ![1, 128, 256, 1024]⟩
abbrev S1x128x256 : Shape := ⟨3, ![1, 128, 256]⟩
abbrev S1x256x128x1 : Shape := ⟨4, ![1, 256, 128, 1]⟩
abbrev S1x128x128x256 : Shape := ⟨4, ![1, 128, 128, 256]⟩

abbrev nBuf : Space → Nat
  | .hbm => 126
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1x4096x32x128, .f32⟩
  | .hbm, ⟨3, _⟩ => ⟨S1x4096x32x128, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S1x4096x32x4x128, .f32⟩
  | .hbm, ⟨8, _⟩ => ⟨S1x4096x128x128, .f32⟩
  | .hbm, ⟨9, _⟩ => ⟨S1x4096x32x4x128, .f32⟩
  | .hbm, ⟨10, _⟩ => ⟨S1x4096x128x128, .f32⟩
  | .hbm, ⟨11, _⟩ => ⟨S_, .f32⟩
  | .hbm, ⟨12, _⟩ => ⟨S1x256x128x128, .f32⟩
  | .hbm, ⟨13, _⟩ => ⟨S_, .f32⟩
  | .hbm, ⟨14, _⟩ => ⟨S1x128x256x1, .f32⟩
  | .hbm, ⟨15, _⟩ => ⟨S_, .f32⟩
  | .hbm, ⟨16, _⟩ => ⟨S1x128x256x1, .f32⟩
  | .hbm, ⟨17, _⟩ => ⟨S1x1024x128x128, .f32⟩
  | .hbm, ⟨18, _⟩ => ⟨S1x1024x128x128, .f32⟩
  | .hbm, ⟨19, _⟩ => ⟨S1x128x256x1024, .f32⟩
  | .hbm, ⟨20, _⟩ => ⟨S_, .f32⟩
  | .hbm, ⟨21, _⟩ => ⟨S1x128x256x1024, .f32⟩
  | .hbm, ⟨22, _⟩ => ⟨S1x128x256x1024, .f32⟩
  | .hbm, ⟨23, _⟩ => ⟨S_, .f32⟩
  | .hbm, ⟨24, _⟩ => ⟨S1x128x256, .f32⟩
  | .hbm, ⟨25, _⟩ => ⟨S1x128x256x1, .f32⟩
  | .hbm, ⟨26, _⟩ => ⟨S1x128x256x1, .f32⟩
  | .hbm, ⟨27, _⟩ => ⟨S1x128x256x1, .f32⟩
  | .hbm, ⟨28, _⟩ => ⟨S1x128x256x1, .f32⟩
  | .hbm, ⟨29, _⟩ => ⟨S1x128x256x1024, .f32⟩
  | .hbm, ⟨30, _⟩ => ⟨S1x128x256x1024, .f32⟩
  | .hbm, ⟨31, _⟩ => ⟨S1x128x256x1024, .f32⟩
  | .hbm, ⟨32, _⟩ => ⟨S1x128x256x1, .f32⟩
  | .hbm, ⟨33, _⟩ => ⟨S_, .f32⟩
  | .hbm, ⟨34, _⟩ => ⟨S1x128x256, .f32⟩
  | .hbm, ⟨35, _⟩ => ⟨S1x128x256x1, .f32⟩
  | .hbm, ⟨36, _⟩ => ⟨S1x128x256x1, .f32⟩
  | .hbm, ⟨37, _⟩ => ⟨S1x256x128x1, .f32⟩
  | .hbm, ⟨38, _⟩ => ⟨S1x256x128x128, .f32⟩
  | .hbm, ⟨39, _⟩ => ⟨S1x256x128x128, .f32⟩
  | .hbm, ⟨40, _⟩ => ⟨S1x128x128x256, .f32⟩
  | .hbm, ⟨41, _⟩ => ⟨S1x256x128x128, .f32⟩
  | .hbm, ⟨42, _⟩ => ⟨S1x256x128x128, .f32⟩
  | .hbm, ⟨43, _⟩ => ⟨S1x1024x128x128, .f32⟩
  | .hbm, ⟨44, _⟩ => ⟨S1x1024x128x128, .f32⟩
  | .hbm, ⟨45, _⟩ => ⟨S1x128x256x1024, .f32⟩
  | .hbm, ⟨46, _⟩ => ⟨S_, .f32⟩
  | .hbm, ⟨47, _⟩ => ⟨S1x128x256x1024, .f32⟩
  | .hbm, ⟨48, _⟩ => ⟨S1x128x256x1024, .f32⟩
  | .hbm, ⟨49, _⟩ => ⟨S_, .f32⟩
  | .hbm, ⟨50, _⟩ => ⟨S1x128x256, .f32⟩
  | .hbm, ⟨51, _⟩ => ⟨S1x128x256x1, .f32⟩
  | .hbm, ⟨52, _⟩ => ⟨S1x128x256x1, .f32⟩
  | .hbm, ⟨53, _⟩ => ⟨S1x128x256x1, .f32⟩
  | .hbm, ⟨54, _⟩ => ⟨S1x128x256x1, .f32⟩
  | .hbm, ⟨55, _⟩ => ⟨S1x128x256x1024, .f32⟩
  | .hbm, ⟨56, _⟩ => ⟨S1x128x256x1024, .f32⟩
  | .hbm, ⟨57, _⟩ => ⟨S1x128x256x1024, .f32⟩
  | .hbm, ⟨58, _⟩ => ⟨S1x128x256x1, .f32⟩
  | .hbm, ⟨59, _⟩ => ⟨S_, .f32⟩
  | .hbm, ⟨60, _⟩ => ⟨S1x128x256, .f32⟩
  | .hbm, ⟨61, _⟩ => ⟨S1x128x256x1, .f32⟩
  | .hbm, ⟨62, _⟩ => ⟨S1x128x256x1, .f32⟩
  | .hbm, ⟨63, _⟩ => ⟨S1x256x128x1, .f32⟩
  | .hbm, ⟨64, _⟩ => ⟨S1x256x128x128, .f32⟩
  | .hbm, ⟨65, _⟩ => ⟨S1x256x128x128, .f32⟩
  | .hbm, ⟨66, _⟩ => ⟨S1x128x128x256, .f32⟩
  | .hbm, ⟨67, _⟩ => ⟨S1x256x128x128, .f32⟩
  | .hbm, ⟨68, _⟩ => ⟨S1x256x128x128, .f32⟩
  | .hbm, ⟨69, _⟩ => ⟨S1x1024x128x128, .f32⟩
  | .hbm, ⟨70, _⟩ => ⟨S1x1024x128x128, .f32⟩
  | .hbm, ⟨71, _⟩ => ⟨S1x128x256x1024, .f32⟩
  | .hbm, ⟨72, _⟩ => ⟨S_, .f32⟩
  | .hbm, ⟨73, _⟩ => ⟨S1x128x256x1024, .f32⟩
  | .hbm, ⟨74, _⟩ => ⟨S1x128x256x1024, .f32⟩
  | .hbm, ⟨75, _⟩ => ⟨S_, .f32⟩
  | .hbm, ⟨76, _⟩ => ⟨S1x128x256, .f32⟩
  | .hbm, ⟨77, _⟩ => ⟨S1x128x256x1, .f32⟩
  | .hbm, ⟨78, _⟩ => ⟨S1x128x256x1, .f32⟩
  | .hbm, ⟨79, _⟩ => ⟨S1x128x256x1, .f32⟩
  | .hbm, ⟨80, _⟩ => ⟨S1x128x256x1, .f32⟩
  | .hbm, ⟨81, _⟩ => ⟨S1x128x256x1024, .f32⟩
  | .hbm, ⟨82, _⟩ => ⟨S1x128x256x1024, .f32⟩
  | .hbm, ⟨83, _⟩ => ⟨S1x128x256x1024, .f32⟩
  | .hbm, ⟨84, _⟩ => ⟨S1x128x256x1, .f32⟩
  | .hbm, ⟨85, _⟩ => ⟨S_, .f32⟩
  | .hbm, ⟨86, _⟩ => ⟨S1x128x256, .f32⟩
  | .hbm, ⟨87, _⟩ => ⟨S1x128x256x1, .f32⟩
  | .hbm, ⟨88, _⟩ => ⟨S1x128x256x1, .f32⟩
  | .hbm, ⟨89, _⟩ => ⟨S1x256x128x1, .f32⟩
  | .hbm, ⟨90, _⟩ => ⟨S1x256x128x128, .f32⟩
  | .hbm, ⟨91, _⟩ => ⟨S1x256x128x128, .f32⟩
  | .hbm, ⟨92, _⟩ => ⟨S1x128x128x256, .f32⟩
  | .hbm, ⟨93, _⟩ => ⟨S1x256x128x128, .f32⟩
  | .hbm, ⟨94, _⟩ => ⟨S1x256x128x128, .f32⟩
  | .hbm, ⟨95, _⟩ => ⟨S1x1024x128x128, .f32⟩
  | .hbm, ⟨96, _⟩ => ⟨S1x1024x128x128, .f32⟩
  | .hbm, ⟨97, _⟩ => ⟨S1x128x256x1024, .f32⟩
  | .hbm, ⟨98, _⟩ => ⟨S_, .f32⟩
  | .hbm, ⟨99, _⟩ => ⟨S1x128x256x1024, .f32⟩
  | .hbm, ⟨100, _⟩ => ⟨S1x128x256x1024, .f32⟩
  | .hbm, ⟨101, _⟩ => ⟨S_, .f32⟩
  | .hbm, ⟨102, _⟩ => ⟨S1x128x256, .f32⟩
  | .hbm, ⟨103, _⟩ => ⟨S1x128x256x1, .f32⟩
  | .hbm, ⟨104, _⟩ => ⟨S1x128x256x1, .f32⟩
  | .hbm, ⟨105, _⟩ => ⟨S1x128x256x1, .f32⟩
  | .hbm, ⟨106, _⟩ => ⟨S1x128x256x1, .f32⟩
  | .hbm, ⟨107, _⟩ => ⟨S1x128x256x1024, .f32⟩
  | .hbm, ⟨108, _⟩ => ⟨S1x128x256x1024, .f32⟩
  | .hbm, ⟨109, _⟩ => ⟨S1x128x256x1024, .f32⟩
  | .hbm, ⟨110, _⟩ => ⟨S1x128x256x1, .f32⟩
  | .hbm, ⟨111, _⟩ => ⟨S_, .f32⟩
  | .hbm, ⟨112, _⟩ => ⟨S1x128x256, .f32⟩
  | .hbm, ⟨113, _⟩ => ⟨S1x128x256x1, .f32⟩
  | .hbm, ⟨114, _⟩ => ⟨S1x128x256x1, .f32⟩
  | .hbm, ⟨115, _⟩ => ⟨S1x256x128x1, .f32⟩
  | .hbm, ⟨116, _⟩ => ⟨S1x256x128x128, .f32⟩
  | .hbm, ⟨117, _⟩ => ⟨S1x256x128x128, .f32⟩
  | .hbm, ⟨118, _⟩ => ⟨S1x128x128x256, .f32⟩
  | .hbm, ⟨119, _⟩ => ⟨S1x256x128x128, .f32⟩
  | .hbm, ⟨120, _⟩ => ⟨S1x256x128x128, .f32⟩
  | .hbm, ⟨121, _⟩ => ⟨S1x256x128x1, .f32⟩
  | .hbm, ⟨122, _⟩ => ⟨S1x256x128x128, .f32⟩
  | .hbm, ⟨123, _⟩ => ⟨S1x256x128x128, .f32⟩
  | .hbm, ⟨124, _⟩ => ⟨S1x256x16384, .f32⟩
  | .hbm, ⟨125, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.Run.Common.lean ====
/-
The sixteen-device exchange of the kernel: the devices' numbering, the buffers' parts, what the buffers hold at each
stage, and the schedule of the semaphores (who pays which cell, and what each payment hands over).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.ValueIdxCore
public import Idealize.ShloMosaic.Lib.Transfers
public import Idealize.ShloMosaic.Lib.Ring
public import Idealize.ShloMosaic.Lib.Tactic

@[expose] public section

set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resources: the pipeline library's copy and the rounds' (duties are numbered) -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The devices around -/

/-- The device `d` places after `c`, around. -/
def peer (c : Dev nD) (d : ℕ) : Dev nD := ⟨(c.val + d) % 16, Nat.mod_lt _ (by decide)⟩

theorem peer_val (c : Dev nD) (d : ℕ) : (peer c d).val = (c.val + d) % 16 := rfl
theorem dev_lt (c : Dev nD) : c.val < 16 := c.isLt
theorem peer_peer (c : Dev nD) (d e : ℕ) : peer (peer c d) e = peer c (d + e) :=
  Fin.ext (by simp only [peer_val]; omega)
theorem peer_back (c : Dev nD) {d : ℕ} (h : d % 16 = 0) : peer c d = c :=
  Fin.ext (by have := dev_lt c; simp only [peer_val]; omega)
theorem peer_round (c : Dev nD) {d e : ℕ} (h : (d + e) % 16 = 0) : peer (peer c d) e = c := by
  rw [peer_peer, peer_back c h]

/-! ## The memrefs -/

/-- Slot `k` of the reduce-scatter landing buffer, of the all-gather landing buffer, of the key/value buffer. -/
abbrev rsSl (k : ℕ) (h : ∀ a, (![k, 0, 0] : Fin 3 → Nat) a + S1x16x1024.size a ≤ S16x16x1024.size a) : Memref sig .tc .vmem S16x1024 .bf16 :=
  ((Memref.whole cc0_scratch1).slice (Rect.unit (s := S16x16x1024) ![k, 0, 0] S1x16x1024.size h) (fun _ => rfl)).squeeze S16x1024 squeezes_S1x16x1024_S16x1024
abbrev agSl (k : ℕ) (h : ∀ a, (![k, 0, 0] : Fin 3 → Nat) a + S1x16x1024.size a ≤ S15x16x1024.size a) : Memref sig .tc .vmem S16x1024 .bf16 :=
  ((Memref.whole cc0_scratch2).slice (Rect.unit (s := S15x16x1024) ![k, 0, 0] S1x16x1024.size h) (fun _ => rfl)).squeeze S16x1024 squeezes_S1x16x1024_S16x1024
abbrev kvSl (k : ℕ) (h : ∀ a, (![k, 0, 0] : Fin 3 → Nat) a + S1x4096x128.size a ≤ S4x4096x128.size a) : Memref sig .tc .vmem S4096x128 .f32 :=
  ((Memref.whole cc0_scratch3).slice (Rect.unit (s := S4x4096x128) ![k, 0, 0] S1x4096x128.size h) (fun _ => rfl)).squeeze S4096x128 squeezes_S1x4096x128_S4096x128
/-- Sixteen rows of the partial product from the row offsets `off`. -/
abbrev accR (off : Fin 2 → Nat) (h : ∀ a, off a + S16x1024.size a ≤ S256x1024.size a) : Memref sig .tc .vmem S16x1024 .bf16 :=
  (Memref.whole cc0_scratch0).slice (Rect.unit (s := S256x1024) off S16x1024.size h) (fun _ => rfl)
/-- One head of the keys (`b = main_arg2`) or of the values (`b = main_arg3`). -/
abbrev headK (off : Fin 4 → Nat) (h : ∀ a, off a + S1x4096x1x128.size a ≤ S1x4096x32x128.size a) : Memref sig .tc .hbm S4096x128 .f32 :=
  ((Memref.whole main_arg2).slice (Rect.unit (s := S1x4096x32x128) off S1x4096x1x128.size h) (fun _ => rfl)).squeeze S4096x128 squeezes_S1x4096x1x128_S4096x128
abbrev headV (off : Fin 4 → Nat) (h : ∀ a, off a + S1x4096x1x128.size a ≤ S1x4096x32x128.size a) : Memref sig .tc .hbm S4096x128 .f32 :=
  ((Memref.whole main_arg3).slice (Rect.unit (s := S1x4096x32x128) off S1x4096x1x128.size h) (fun _ => rfl)).squeeze S4096x128 squeezes_S1x4096x1x128_S4096x128

/-! ## The parts as sets of indices -/

def rsSet (k : ℕ) : Finset S16x16x1024.Idx := Finset.univ.filter fun i => (i 0).val = k
def agSet (k : ℕ) : Finset S15x16x1024.Idx := Finset.univ.filter fun i => (i 0).val = k
def kvSet (k : ℕ) : Finset S4x4096x128.Idx := Finset.univ.filter fun i => (i 0).val = k
def accSet (p : ℕ) : Finset S256x1024.Idx := Finset.univ.filter fun i => (i 0).val / 16 = p
def headSet (h : ℕ) : Finset S1x4096x32x128.Idx := Finset.univ.filter fun i => (i 2).val = h

theorem mem_rsSet {k : ℕ} {i : S16x16x1024.Idx} : i ∈ rsSet k ↔ (i 0).val = k := by simp only [rsSet, Finset.mem_filter, Finset.mem_univ, true_and]
theorem mem_agSet {k : ℕ} {i : S15x16x1024.Idx} : i ∈ agSet k ↔ (i 0).val = k := by simp only [agSet, Finset.mem_filter, Finset.mem_univ, true_and]
theorem mem_kvSet {k : ℕ} {i : S4x4096x128.Idx} : i ∈ kvSet k ↔ (i 0).val = k := by simp only [kvSet, Finset.mem_filter, Finset.mem_univ, true_and]
theorem mem_accSet {k : ℕ} {i : S256x1024.Idx} : i ∈ accSet k ↔ (i 0).val / 16 = k := by simp only [accSet, Finset.mem_filter, Finset.mem_univ, true_and]
theorem mem_headSet {k : ℕ} {i : S1x4096x32x128.Idx} : i ∈ headSet k ↔ (i 2).val = k := by simp only [headSet, Finset.mem_filter, Finset.mem_univ, true_and]

/-- A box of one slot is the slot's set. -/
theorem rsRect_set (k : ℕ) (h) : (Rect.unit (s := S16x16x1024) ![k, 0, 0] S1x16x1024.size h).set = rsSet k := by
  ext i
  have h1 : (i 1).val < 16 := (i 1).isLt
  have h2 : (i 2).val < 1024 := (i 2).isLt
  rw [Rect.mem_set_unit, mem_rsSet]
  constructor
  · intro H; have := H 0; simp [S1x16x1024] at this; omega
  · intro H a; fin_cases a <;> simp [S1x16x1024] <;> omega
theorem agRect_set (k : ℕ) (h) : (Rect.unit (s := S15x16x1024) ![k, 0, 0] S1x16x1024.size h).set = agSet k := by
  ext i
  have h1 : (i 1).val < 16 := (i 1).isLt
  have h2 : (i 2).val < 1024 := (i 2).isLt
  rw [Rect.mem_set_unit, mem_agSet]
  constructor
  · intro H; have := H 0; simp [S1x16x1024] at this; omega
  · intro H a; fin_cases a <;> simp [S1x16x1024] <;> omega
theorem kvRect_set (k : ℕ) (h) : (Rect.unit (s := S4x4096x128) ![k, 0, 0] S1x4096x128.size h).set = kvSet k := by
  ext i
  have h1 : (i 1).val < 4096 := (i 1).isLt
  have h2 : (i 2).val < 128 := (i 2).isLt
  rw [Rect.mem_set_unit, mem_kvSet]
  constructor
  · intro H; have := H 0; simp [S1x4096x128] at this; omega
  · intro H a; fin_cases a <;> simp [S1x4096x128] <;> omega
theorem accRect_set (p : ℕ) (h) : (Rect.unit (s := S256x1024) ![16 * p, 0] S16x1024.size h).set = accSet p := by
  ext i
  have h1 : (i 1).val < 1024 := (i 1).isLt
  rw [Rect.mem_set_unit, mem_accSet]
  constructor
  · intro H; have := H 0; simp [S16x1024] at this; omega
  · intro H a; fin_cases a <;> simp [S16x1024] <;> omega
theorem headRect_set (p : ℕ) (h) : (Rect.unit (s := S1x4096x32x128) ![0, 0, p, 0] S1x4096x1x128.size h).set = headSet p := by
  ext i
  have h0 : (i 0).val < 1 := (i 0).isLt
  have h1 : (i 1).val < 4096 := (i 1).isLt
  have h3 : (i 3).val < 128 := (i 3).isLt
  rw [Rect.mem_set_unit, mem_headSet]
  constructor
  · intro H; have := H 2; simp [S1x4096x1x128] at this; omega
  · intro H a; fin_cases a <;> simp [S1x4096x1x128] <;> omega

theorem rsSl_set (k : ℕ) (h) : (rsSl k h).view.set = rsSet k := by
  exact ((View.set_reshape _ _).trans (View.set_slice_whole _ _)).trans (rsRect_set k h)
theorem agSl_set (k : ℕ) (h) : (agSl k h).view.set = agSet k := by
  exact ((View.set_reshape _ _).trans (View.set_slice_whole _ _)).trans (agRect_set k h)
theorem kvSl_set (k : ℕ) (h) : (kvSl k h).view.set = kvSet k := by
  exact ((View.set_reshape _ _).trans (View.set_slice_whole _ _)).trans (kvRect_set k h)
theorem accR_set (p : ℕ) (h) : (accR ![16 * p, 0] h).view.set = accSet p := (View.set_slice_whole _ _).trans (accRect_set p h)
theorem headK_set (p : ℕ) (h) : (headK ![0, 0, p, 0] h).view.set = headSet p := by
  exact ((View.set_reshape _ _).trans (View.set_slice_whole _ _)).trans (headRect_set p h)
theorem headV_set (p : ℕ) (h) : (headV ![0, 0, p, 0] h).view.set = headSet p := by
  exact ((View.set_reshape _ _).trans (View.set_slice_whole _ _)).trans (headRect_set p h)

/-! ## What a transfer leaves in its destination, and what a read of a part is -/

section Land
variable {Val : EltTy → Type}

theorem rsSl_emb (k : ℕ) (h) (hk : k < 16) (a : Fin 16) (b : Fin 1024) : (rsSl k h).view.emb (ix2 a b) = (ix3 (⟨k, hk⟩ : Fin 16) a b : S16x16x1024.Idx) := by
  show (Rect.unit (s := S16x16x1024) ![k, 0, 0] S1x16x1024.size h).emb (Shape.reshapeEquiv _ (ix2 a b)) = _
  rw [reshapeEquiv_ix2_1ab]
  funext x; apply Fin.ext; rw [Rect.emb_apply]
  fin_cases x <;> simp
theorem agSl_emb (k : ℕ) (h) (hk : k < 15) (a : Fin 16) (b : Fin 1024) : (agSl k h).view.emb (ix2 a b) = (ix3 (⟨k, hk⟩ : Fin 15) a b : S15x16x1024.Idx) := by
  show (Rect.unit (s := S15x16x1024) ![k, 0, 0] S1x16x1024.size h).emb (Shape.reshapeEquiv _ (ix2 a b)) = _
  rw [reshapeEquiv_ix2_1ab]
  funext x; apply Fin.ext; rw [Rect.emb_apply]
  fin_cases x <;> simp
theorem kvSl_emb (k : ℕ) (h) (hk : k < 4) (a : Fin 4096) (b : Fin 128) : (kvSl k h).view.emb (ix2 a b) = (ix3 (⟨k, hk⟩ : Fin 4) a b : S4x4096x128.Idx) := by
  show (Rect.unit (s := S4x4096x128) ![k, 0, 0] S1x4096x128.size h).emb (Shape.reshapeEquiv _ (ix2 a b)) = _
  rw [reshapeEquiv_ix2_1ab]
  funext x; apply Fin.ext; rw [Rect.emb_apply]
  fin_cases x <;> simp
theorem accR_emb (p : ℕ) (h) (hp : p < 16) (a : Fin 16) (b : Fin 1024) :
    (accR ![16 * p, 0] h).view.emb (ix2 a b) = (ix2 (⟨16 * p + a.val, by omega⟩ : Fin 256) b : S256x1024.Idx) := by
  show (Rect.unit (s := S256x1024) ![16 * p, 0] S16x1024.size h).emb (ix2 a b) = _
  funext x; apply Fin.ext; rw [Rect.emb_apply]
  fin_cases x <;> simp
theorem squeeze_head (h) (a : Fin 4096) (b : Fin 128) :
    Shape.reshapeEquiv (s := S1x4096x1x128) (s' := S4096x128) h (ix2 a b) = (ix4 (⟨0, Nat.one_pos⟩ : Fin 1) a (⟨0, Nat.one_pos⟩ : Fin 1) b : S1x4096x1x128.Idx) :=
  Shape.reshapeEquiv_eq_of_rowMajor h (by
    rw [Shape.rowMajor_val_four, Shape.rowMajor_val_two]
    show (((0 * 4096 + a.val) * 1 + 0) * 128 + b.val) = a.val * 128 + b.val
    simp only [Nat.zero_mul, Nat.zero_add, Nat.mul_one, Nat.add_zero])
theorem headK_emb (p : ℕ) (h) (hp : p < 32) (a : Fin 4096) (b : Fin 128) :
    (headK ![0, 0, p, 0] h).view.emb (ix2 a b) = (ix4 (⟨0, Nat.one_pos⟩ : Fin 1) a (⟨p, hp⟩ : Fin 32) b : S1x4096x32x128.Idx) := by
  show (Rect.unit (s := S1x4096x32x128) ![0, 0, p, 0] S1x4096x1x128.size h).emb (Shape.reshapeEquiv _ (ix2 a b)) = _
  rw [squeeze_head]
  funext x; apply Fin.ext; rw [Rect.emb_apply]
  fin_cases x <;> simp
theorem headV_emb (p : ℕ) (h) (hp : p < 32) (a : Fin 4096) (b : Fin 128) :
    (headV ![0, 0, p, 0] h).view.emb (ix2 a b) = (ix4 (⟨0, Nat.one_pos⟩ : Fin 1) a (⟨p, hp⟩ : Fin 32) b : S1x4096x32x128.Idx) := by
  show (Rect.unit (s := S1x4096x32x128) ![0, 0, p, 0] S1x4096x1x128.size h).emb (Shape.reshapeEquiv _ (ix2 a b)) = _
  rw [squeeze_head]
  funext x; apply Fin.ext; rw [Rect.emb_apply]
  fin_cases x <;> simp

theorem rs_land (k : ℕ) (h) (f : (cc0_scratch1 : Ref sig .tc).ty.Contents Val) (w : S16x1024.Idx → Val .bf16) (i : S16x16x1024.Idx) (hi : i ∈ rsSet k) :
    (rsSl k h).view.write Val f w Finset.univ i = w (ix2 (i 1) (i 2)) := by
  have hk := mem_rsSet.mp hi
  have hk' : k < 16 := hk ▸ (i 0).isLt
  have e : i = (rsSl k h).view.emb (ix2 (i 1) (i 2)) := by
    rw [rsSl_emb k h hk' (i 1) (i 2)]; refine (eq_ix3 i).trans ?_; congr 1; exact Fin.ext hk
  conv_lhs => rw [e]
  rw [View.write_emb_of_mem _ _ (Finset.mem_univ _)]; rfl
theorem ag_land (k : ℕ) (h) (f : (cc0_scratch2 : Ref sig .tc).ty.Contents Val) (w : S16x1024.Idx → Val .bf16) (i : S15x16x1024.Idx) (hi : i ∈ agSet k) :
    (agSl k h).view.write Val f w Finset.univ i = w (ix2 (i 1) (i 2)) := by
  have hk := mem_agSet.mp hi
  have hk' : k < 15 := hk ▸ (i 0).isLt
  have e : i = (agSl k h).view.emb (ix2 (i 1) (i 2)) := by
    rw [agSl_emb k h hk' (i 1) (i 2)]; refine (eq_ix3 i).trans ?_; congr 1; exact Fin.ext hk
  conv_lhs => rw [e]
  rw [View.write_emb_of_mem _ _ (Finset.mem_univ _)]; rfl
theorem kv_land (k : ℕ) (h) (f : (cc0_scratch3 : Ref sig .tc).ty.Contents Val) (w : S4096x128.Idx → Val .f32) (i : S4x4096x128.Idx) (hi : i ∈ kvSet k) :
    (kvSl k h).view.write Val f w Finset.univ i = w (ix2 (i 1) (i 2)) := by
  have hk := mem_kvSet.mp hi
  have hk' : k < 4 := hk ▸ (i 0).isLt
  have e : i = (kvSl k h).view.emb (ix2 (i 1) (i 2)) := by
    rw [kvSl_emb k h hk' (i 1) (i 2)]; refine (eq_ix3 i).trans ?_; congr 1; exact Fin.ext hk
  conv_lhs => rw [e]
  rw [View.write_emb_of_mem _ _ (Finset.mem_univ _)]; rfl

theorem accR_read (p : ℕ) (h) (hp : p < 16) (f : (accR ![16 * p, 0] h).view.ty.Contents Val) (a : Fin 16) (b : Fin 1024) :
    (accR ![16 * p, 0] h).view.read Val f (ix2 a b) = f (ix2 (⟨16 * p + a.val, by omega⟩ : Fin 256) b : S256x1024.Idx) := by
  rw [View.read_apply, accR_emb p h hp]; rfl
theorem rsSl_read (k : ℕ) (h) (hk : k < 16) (f : (cc0_scratch1 : Ref sig .tc).ty.Contents Val) (a : Fin 16) (b : Fin 1024) :
    (rsSl k h).view.read Val f (ix2 a b) = f (ix3 (⟨k, hk⟩ : Fin 16) a b : S16x16x1024.Idx) := by
  rw [View.read_apply, rsSl_emb k h hk]; rfl
theorem headK_read (p : ℕ) (h) (hp : p < 32) (f : (main_arg2 : Ref sig .tc).ty.Contents Val) (a : Fin 4096) (b : Fin 128) :
    (headK ![0, 0, p, 0] h).view.read Val f (ix2 a b) = f (ix4 (⟨0, Nat.one_pos⟩ : Fin 1) a (⟨p, hp⟩ : Fin 32) b : S1x4096x32x128.Idx) := by
  rw [View.read_apply, headK_emb p h hp]; rfl
theorem headV_read (p : ℕ) (h) (hp : p < 32) (f : (main_arg3 : Ref sig .tc).ty.Contents Val) (a : Fin 4096) (b : Fin 128) :
    (headV ![0, 0, p, 0] h).view.read Val f (ix2 a b) = f (ix4 (⟨0, Nat.one_pos⟩ : Fin 1) a (⟨p, hp⟩ : Fin 32) b : S1x4096x32x128.Idx) := by
  rw [View.read_apply, headV_emb p h hp]; rfl

end Land
end Cert.KernelIdeal.Run

end
-- ==== Proof.Run.Sched.lean ====
/-
What the buffers hold at each stage of the exchange, and the schedule of the semaphores.
-/
module

public import proofs.«01_k».proof.Proof.Run.Common

@[expose] public section

set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Contents -/

/-- The staged inputs: the activations, the query weights, the output weights. -/
def xs (c : Dev nD) : (cc0_stg0_0 : Ref sig .tc).ty.Contents (Elt F) := (win0_0.blk (0 : Fin 1)).view.read (Elt F) ((s₀ m ρ).mem ((c : Thread nD τ).loc main_arg0))
def wqs (c : Dev nD) : (cc0_stg1_0 : Ref sig .tc).ty.Contents (Elt F) := (win0_1.blk (0 : Fin 1)).view.read (Elt F) ((s₀ m ρ).mem ((c : Thread nD τ).loc main_arg1))
def wos (c : Dev nD) : (cc0_stg2_0 : Ref sig .tc).ty.Contents (Elt F) := (win0_2.blk (0 : Fin 1)).view.read (Elt F) ((s₀ m ρ).mem ((c : Thread nD τ).loc main_arg4))

theorem head_lt (c : Dev nD) (j : ℕ) : 2 * c.val + j % 2 < 32 := by have := dev_lt c; omega

/-- The key/value buffer once its four heads have landed: slots 0 and 1 the keys, slots 2 and 3 the values. -/
def kvBuf (c : Dev nD) : (cc0_scratch3 : Ref sig .tc).ty.Contents (Elt F) := fun i =>
  if (i 0).val < 2 then m ((c : Thread nD τ).loc main_arg2) (ix4 (⟨0, Nat.one_pos⟩ : Fin 1) (i 1) (⟨2 * c.val + (i 0).val % 2, head_lt c _⟩ : Fin 32) (i 2) : S1x4096x32x128.Idx)
  else m ((c : Thread nD τ).loc main_arg3) (ix4 (⟨0, Nat.one_pos⟩ : Fin 1) (i 1) (⟨2 * c.val + (i 0).val % 2, head_lt c _⟩ : Fin 32) (i 2) : S1x4096x32x128.Idx)

/-- A slot of the key/value buffer as the body reads it. -/
def kvRd (c : Dev nD) (k : ℕ) (h : ∀ a, (![k, 0, 0] : Fin 3 → Nat) a + S1x4096x128.size a ≤ S4x4096x128.size a) : Vec F S1x4096x128 .f32 :=
  (Memref.whole cc0_scratch3 : Memref sig .tc .vmem S4x4096x128 .f32).view.readAt (Elt F) (Rect.unit (s := S4x4096x128) ![k, 0, 0] S1x4096x128.size h).toLoadRect (kvBuf m c)

abbrev k0 (c : Dev nD) : Vec F S1x4096x128 .f32 := kvRd m c 0 inb_S4x4096x128_S1x4096x128_0_0_0
abbrev k1 (c : Dev nD) : Vec F S1x4096x128 .f32 := kvRd m c 1 inb_S4x4096x128_S1x4096x128_1_0_0
abbrev v0 (c : Dev nD) : Vec F S1x4096x128 .f32 := kvRd m c 2 inb_S4x4096x128_S1x4096x128_2_0_0
abbrev v1 (c : Dev nD) : Vec F S1x4096x128 .f32 := kvRd m c 3 inb_S4x4096x128_S1x4096x128_3_0_0

/-- The scaled queries, and the device's partial product. -/
def qv (c : Dev nD) : FVec F S256x1024 .bf16 := k0_pay1 (xs m ρ c) (wqs m ρ c)
def acc (c : Dev nD) : (cc0_scratch0 : Ref sig .tc).ty.Contents (Elt F) :=
  k0_pay14 (qv m ρ c) (k0_pay4 (qv m ρ c) (k0 m c) (v0 m c)) (k0_pay5 (qv m ρ c) (k0 m c) (v0 m c)) (k0_pay6 (qv m ρ c) (k0 m c) (v0 m c)) (k0_pay7 (qv m ρ c) (k0 m c) (v0 m c))
    (k0_pay8 (k1 m c)) (k0_pay9 (v1 m c)) (k0_pay10 (qv m ρ c) (k1 m c) (v1 m c)) (k0_pay12 (qv m ρ c) (k1 m c)) (k0_pay13 (qv m ρ c) (k1 m c))
    (constant S256x128 .f32 0x00000000#32) (wos m ρ c)

theorem row_lt (c : Dev nD) (a : Fin 16) : 16 * c.val + a.val < 256 := by have := dev_lt c; omega

/-- The landing buffer of the reduce-scatter once every device's rows are in: slot `k` holds the rows of device `c` in the
    partial product of the device `k` places after `c`. -/
def rsBuf (c : Dev nD) : (cc0_scratch1 : Ref sig .tc).ty.Contents (Elt F) := fun i =>
  acc m ρ (peer c (i 0).val) (ix2 (⟨16 * c.val + (i 1).val, row_lt c (i 1)⟩ : Fin 256) (i 2) : S256x1024.Idx)

/-- The reduced rows, as the body stores them in slot 0, and the buffer after that store. -/
def redB (c : Dev nD) : FVec F S1x16x1024 .bf16 := k0_pay18 (rsBuf m ρ c)
def rsRed (c : Dev nD) : (cc0_scratch1 : Ref sig .tc).ty.Contents (Elt F) := fun i => redB m ρ c (ix3 (⟨0, Nat.one_pos⟩ : Fin 1) (i 1) (i 2) : S1x16x1024.Idx)
/-- The landing buffer of the all-gather: slot `s` holds the reduced rows of the device `s + 1` places after `c`. -/
def agBuf (c : Dev nD) : (cc0_scratch2 : Ref sig .tc).ty.Contents (Elt F) := fun i =>
  redB m ρ (peer c ((i 0).val + 1)) (ix3 (⟨0, Nat.one_pos⟩ : Fin 1) (i 1) (i 2) : S1x16x1024.Idx)

/-! ## Semaphores, cells, and the two amounts -/

abbrev barS : Sem sig := 0
theorem dsem_lt (n : ℕ) : n % 72 < sig.nDmaSem := Nat.mod_lt _ (by decide)
/-- The transfer semaphore number `n`. -/
def dsem (n : ℕ) : DmaSem sig := ⟨n % 72, dsem_lt n⟩
abbrev bar (c : Dev nD) : GSem nD τ sig := ((c : Thread nD τ), .reg barS)
abbrev dc (c : Dev nD) (n : ℕ) : GSem nD τ sig := ((c : Thread nD τ), .dma (dsem n))

theorem dsem_val {n : ℕ} (h : n < 72) : (dsem n).val = n := Nat.mod_eq_of_lt h

/-- The units of a transfer of sixteen rows, and of one of a head. -/
def N : ℕ := RefSig.tileCredit S16x1024 .bf16
def Nkv : ℕ := RefSig.tileCredit S4096x128 .f32
theorem N_pos : 0 < N := by decide +kernel
theorem Nkv_pos : 0 < Nkv := by decide +kernel

/-! ## The parts as resources -/

def rsPts (c : Dev nD) (k : ℕ) (f : (cc0_scratch1 : Ref sig .tc).ty.Contents (Elt F)) : sProp 𝕄 := (c : Thread nD τ).loc cc0_scratch1 ↦[rsSet k]{fullShare} f
def agPts (c : Dev nD) (k : ℕ) (f : (cc0_scratch2 : Ref sig .tc).ty.Contents (Elt F)) : sProp 𝕄 := (c : Thread nD τ).loc cc0_scratch2 ↦[agSet k]{fullShare} f
def kvPts (c : Dev nD) (k : ℕ) (f : (cc0_scratch3 : Ref sig .tc).ty.Contents (Elt F)) : sProp 𝕄 := (c : Thread nD τ).loc cc0_scratch3 ↦[kvSet k]{fullShare} f
def accPts (c : Dev nD) (p : ℕ) (f : (cc0_scratch0 : Ref sig .tc).ty.Contents (Elt F)) : sProp 𝕄 := (c : Thread nD τ).loc cc0_scratch0 ↦[accSet p]{fullShare} f
/-- A share of slot 0 holding the reduced rows. -/
def redPts (c : Dev nD) (q : PosShare TreeShare) : sProp 𝕄 := (c : Thread nD τ).loc cc0_scratch1 ↦[rsSet 0]{q} rsRed m ρ c
/-- The head a transfer of keys or values reads: half of the array's share of it. -/
def srcPts (c : Dev nD) (k : ℕ) : sProp 𝕄 :=
  if k < 2 then (c : Thread nD τ).loc main_arg2 ↦[headSet (2 * c.val + k % 2)]{if k % 2 = 0 then fullShare.left else fullShare.right} m ((c : Thread nD τ).loc main_arg2)
  else (c : Thread nD τ).loc main_arg3 ↦[headSet (2 * c.val + k % 2)]{if k % 2 = 0 then fullShare.left else fullShare.right} m ((c : Thread nD τ).loc main_arg3)

instance (c : Dev nD) (k f) : BI.Storable (upEmb : UEmb _ 𝕄) (rsPts (F := F) c k f) := by unfold rsPts; infer_instance
instance (c : Dev nD) (k f) : BI.Storable (upEmb : UEmb _ 𝕄) (agPts (F := F) c k f) := by unfold agPts; infer_instance
instance (c : Dev nD) (k f) : BI.Storable (upEmb : UEmb _ 𝕄) (kvPts (F := F) c k f) := by unfold kvPts; infer_instance
instance (c : Dev nD) (k f) : BI.Storable (upEmb : UEmb _ 𝕄) (accPts (F := F) c k f) := by unfold accPts; infer_instance
instance (c : Dev nD) (q) : BI.Storable (upEmb : UEmb _ 𝕄) (redPts (F := F) m ρ c q) := by unfold redPts; infer_instance
instance (c : Dev nD) (k) : BI.Storable (upEmb : UEmb _ 𝕄) (srcPts (F := F) m c k) := by unfold srcPts; split <;> infer_instance

/-! ## The schedule -/

/-- What the signal of the device `j + 1` places after `p` hands `p`: the two landing slots there that `p`'s transfers fill. -/
def barPay (p : Dev nD) (j : ℕ) : sProp 𝕄 := iprop((∃ f, rsPts (peer p (j + 1)) (15 - j) f) ∗ (∃ f, agPts (peer p (j + 1)) (14 - j) f))

/-- What the arrival at transfer semaphore `i` of `c` hands `c`. -/
def dmaPay (c : Dev nD) (i : ℕ) : sProp 𝕄 :=
  if i < 8 then iprop(kvPts c (i - 4) (kvBuf m c) ∗ srcPts m c (i - 4))
  else if i < 24 then accPts c (peer c (i - 8)).val (acc m ρ c)
  else if i < 40 then rsPts c (i - 24) (rsBuf m ρ c)
  else if i < 56 then redPts m ρ c (shareTokN fullShare (i - 41))
  else agPts c (i - 56) (agBuf m ρ c)

/-- The semaphores the transfers use. -/
abbrev Used (i : ℕ) : Prop := 4 ≤ i ∧ i ≠ 8 ∧ i ≠ 24 ∧ i ≠ 40 ∧ i ≠ 71

def Rd : Rounds.Schedule (GSem nD τ sig) ℕ 𝕄 where
  duties g r := if r = 0 ∧ g.1.2 = .tc then (match g.2 with | .reg _ => Finset.range 15 | .dma i => if Used i.val then {0} else ∅) else ∅
  unitless _ := False
  amount g _ _ := match g.2 with | .reg _ => 1 | .dma i => if i.val < 8 then Nkv else N
  payload g _ d := match g.2 with | .reg _ => barPay g.1.1 d | .dma i => dmaPay m ρ g.1.1 i.val
  amount_pos g _ _ _ := by
    rcases g with ⟨t, (s | i)⟩
    · exact Nat.one_pos
    · show 0 < if i.val < 8 then Nkv else N
      split
      · exact Nkv_pos
      · exact N_pos

instance dmaPay_storable (c : Dev nD) (i : ℕ) : BI.Storable (upEmb : UEmb _ 𝕄) (dmaPay (F := F) m ρ c i) := by
  unfold dmaPay
  (repeat' split) <;> infer_instance

instance Rd_payload_storable (g : GSem nD τ sig) (r : ℕ) (d : ℕ) : BI.Storable (upEmb : UEmb _ 𝕄) ((Rd (F := F) m ρ).payload g r d) := by
  rcases g with ⟨t, (s | i)⟩
  · show BI.Storable upEmb (barPay t.1 d); unfold barPay; infer_instance
  · show BI.Storable upEmb (dmaPay m ρ t.1 i.val); infer_instance

section Sched
variable (c : Dev nD)

theorem duties_bar : (Rd (F := F) m ρ).duties (bar c) 0 = Finset.range 15 := by
  dsimp only [Rd]
  exact if_pos ⟨rfl, rfl⟩
theorem duties_dma {n : ℕ} (hn : n < 72) (hu : Used n) : (Rd (F := F) m ρ).duties (dc c n) 0 = {0} := by
  dsimp only [Rd]
  rw [if_pos ⟨rfl, rfl⟩, dsem_val hn]; exact if_pos hu
theorem duties_off {n : ℕ} (hn : n < 72) (hu : ¬ Used n) (r : ℕ) : (Rd (F := F) m ρ).duties (dc c n) r = ∅ := by
  dsimp only [Rd]
  rw [dsem_val hn, if_neg hu]; split <;> rfl
theorem duties_later (g : GSem nD τ sig) : ∀ r, 1 ≤ r → (Rd (F := F) m ρ).duties g r = ∅ :=
  fun r hr => if_neg fun h => by omega

theorem amount_bar (d : ℕ) : (Rd (F := F) m ρ).amount (bar c) 0 d = 1 := rfl
theorem amount_dma {n : ℕ} (hn : n < 72) (h8 : 8 ≤ n) (d : ℕ) : (Rd (F := F) m ρ).amount (dc c n) 0 d = N := by
  show (if (dsem n).val < 8 then Nkv else N) = N; rw [dsem_val hn, if_neg (by omega)]
theorem amount_kv {n : ℕ} (h8 : n < 8) (d : ℕ) : (Rd (F := F) m ρ).amount (dc c n) 0 d = Nkv := by
  show (if (dsem n).val < 8 then Nkv else N) = Nkv; rw [dsem_val (by omega), if_pos h8]
theorem expect_bar : (Rd (F := F) m ρ).expect (bar c) 0 = 15 := by
  unfold Schedule.expect Schedule.amountOf
  rw [duties_bar, Finset.sum_congr rfl fun d _ => amount_bar m ρ c d]; rfl
theorem expect_dma {n : ℕ} (hn : n < 72) (h8 : 8 ≤ n) (hu : Used n) : (Rd (F := F) m ρ).expect (dc c n) 0 = N := by
  unfold Schedule.expect Schedule.amountOf; rw [duties_dma m ρ c hn hu, Finset.sum_singleton, amount_dma m ρ c hn h8]
theorem expect_kv {n : ℕ} (h8 : n < 8) (hu : Used n) : (Rd (F := F) m ρ).expect (dc c n) 0 = Nkv := by
  unfold Schedule.expect Schedule.amountOf; rw [duties_dma m ρ c (by omega) hu, Finset.sum_singleton, amount_kv m ρ c h8]

theorem payload_bar (d : ℕ) : (Rd (F := F) m ρ).payload (bar c) 0 d = barPay c d := rfl
theorem payload_dma {n : ℕ} (hn : n < 72) (d : ℕ) : (Rd (F := F) m ρ).payload (dc c n) 0 d = dmaPay m ρ c n := by
  show dmaPay m ρ c (dsem n).val = _; rw [dsem_val hn]

theorem pay_kv {k : ℕ} (hk : k < 4) : dmaPay m ρ c (4 + k) = iprop(kvPts c k (kvBuf m c) ∗ srcPts m c k) := by
  unfold dmaPay; rw [if_pos (by omega), Nat.add_sub_cancel_left]
theorem pay_rsS {j : ℕ} (hj : j < 15) : dmaPay m ρ c (9 + j) = accPts c (peer c (j + 1)).val (acc m ρ c) := by
  unfold dmaPay; rw [if_neg (by omega), if_pos (by omega), show 9 + j - 8 = j + 1 by omega]
theorem pay_rsR {k : ℕ} (hk : k < 16) : dmaPay m ρ c (24 + k) = rsPts c k (rsBuf m ρ c) := by
  unfold dmaPay; rw [if_neg (by omega), if_neg (by omega), if_pos (by omega), Nat.add_sub_cancel_left]
theorem pay_agS {j : ℕ} (hj : j < 15) : dmaPay m ρ c (41 + j) = redPts m ρ c (shareTokN fullShare j) := by
  unfold dmaPay; rw [if_neg (by omega), if_neg (by omega), if_neg (by omega), if_pos (by omega), Nat.add_sub_cancel_left]
theorem pay_agR {s : ℕ} (hs : s < 15) : dmaPay m ρ c (56 + s) = agPts c s (agBuf m ρ c) := by
  unfold dmaPay; rw [if_neg (by omega), if_neg (by omega), if_neg (by omega), if_neg (by omega), Nat.add_sub_cancel_left]

theorem rest_bar : bigSep ((Rd (F := F) m ρ).duties (bar c) 0 \ ∅) (fun d => (Rd (F := F) m ρ).payload (bar c) 0 d) = bigSep (Finset.range 15) (fun j => barPay c j) := by
  rw [Finset.sdiff_empty, duties_bar]; rfl
theorem rest_dma {n : ℕ} (hn : n < 72) (hu : Used n) :
    bigSep ((Rd (F := F) m ρ).duties (dc c n) 0 \ ∅) (fun d => (Rd (F := F) m ρ).payload (dc c n) 0 d) = dmaPay m ρ c n := by
  rw [Finset.sdiff_empty, duties_dma m ρ c hn hu, bigSep_singleton, payload_dma m ρ c hn]
end Sched

/-! ## What a device owes; the levels -/

/-- After `a` signals, `b` transfers of the reduce-scatter and `g` of the all-gather, a device still owes the rest. -/
def Ow (c : Dev nD) (a b g : ℕ) : CellTallies nD τ sig Unit :=
  (∑ j ∈ Finset.Ico a 15, tallyAt (bar (peer c (j + 1))) () 1) + (∑ j ∈ Finset.Ico b 15, tallyAt (dc (peer c (j + 1)) (24 + (15 - j))) () N)
    + ∑ j ∈ Finset.Ico g 15, tallyAt (dc (peer c (j + 1)) (56 + (14 - j))) () N

theorem Ow_a (c : Dev nD) {a : ℕ} (b g : ℕ) (h : a < 15) : Ow c a b g = Ow c (a + 1) b g + tallyAt (bar (peer c (a + 1))) () 1 := by
  unfold Ow; rw [Finset.sum_eq_sum_Ico_succ_bot h]; ac_rfl
theorem Ow_b (c : Dev nD) {b : ℕ} (a g : ℕ) (h : b < 15) : Ow c a b g = Ow c a (b + 1) g + tallyAt (dc (peer c (b + 1)) (24 + (15 - b))) () N := by
  unfold Ow; rw [Finset.sum_eq_sum_Ico_succ_bot h]; ac_rfl
theorem Ow_g (c : Dev nD) {g : ℕ} (a b : ℕ) (h : g < 15) : Ow c a b g = Ow c a b (g + 1) + tallyAt (dc (peer c (g + 1)) (56 + (14 - g))) () N := by
  unfold Ow; rw [Finset.sum_eq_sum_Ico_succ_bot h]; ac_rfl
theorem Ow_end (c : Dev nD) : Ow c 15 15 15 = 0 := by
  unfold Ow; simp

theorem tally_sum_pos (f : ℕ → CellTallies nD τ sig Unit) {g : GSem nD τ sig} {u : Unit} :
    ∀ (S : Finset ℕ), 0 < (∑ j ∈ S, f j) g u → ∃ j ∈ S, 0 < f j g u := by
  intro S
  induction S using Finset.induction_on with
  | empty => intro h; simp at h
  | insert a S ha ih =>
    intro h
    rw [Finset.sum_insert ha, Pi.add_apply, Finsupp.add_apply] at h
    by_cases h1 : 0 < f a g u
    · exact ⟨a, Finset.mem_insert_self _ _, h1⟩
    · obtain ⟨j, hj, h2⟩ := ih (by omega)
      exact ⟨j, Finset.mem_insert_of_mem hj, h2⟩

theorem tally_pos {g g' : GSem nD τ sig} {u u' : Unit} {k : ℕ} (h : 0 < (tallyAt g u k : CellTallies nD τ sig Unit) g' u') : g' = g := by
  rw [tallyAt_apply] at h; by_contra hc; rw [if_neg (fun h' => hc h'.1)] at h; exact Nat.lt_irrefl 0 h

theorem Ow_pos {c : Dev nD} {a b l : ℕ} {g : GSem nD τ sig} {u : Unit} (h : 0 < Ow c a b l g u) :
    (∃ j, a ≤ j ∧ j < 15 ∧ g = bar (peer c (j + 1))) ∨ (∃ j, b ≤ j ∧ j < 15 ∧ g = dc (peer c (j + 1)) (24 + (15 - j)))
      ∨ ∃ j, l ≤ j ∧ j < 15 ∧ g = dc (peer c (j + 1)) (56 + (14 - j)) := by
  unfold Ow at h
  rw [Pi.add_apply, Finsupp.add_apply, Pi.add_apply, Finsupp.add_apply] at h
  have key : ∀ (f : ℕ → GSem nD τ sig) (k n : ℕ), 0 < (∑ j ∈ Finset.Ico n 15, (tallyAt (f j) () k : CellTallies nD τ sig Unit)) g u → ∃ j, n ≤ j ∧ j < 15 ∧ g = f j := by
    intro f k n hp
    obtain ⟨j, hj, h2⟩ := tally_sum_pos _ _ hp
    rw [Finset.mem_Ico] at hj
    exact ⟨j, hj.1, hj.2, tally_pos h2⟩
  by_cases h1 : 0 < (∑ j ∈ Finset.Ico a 15, (tallyAt (bar (peer c (j + 1))) () 1 : CellTallies nD τ sig Unit)) g u
  · exact .inl (key _ _ _ h1)
  by_cases h2 : 0 < (∑ j ∈ Finset.Ico b 15, (tallyAt (dc (peer c (j + 1)) (24 + (15 - j))) () N : CellTallies nD τ sig Unit)) g u
  · exact .inr (.inl (key _ _ _ h2))
  · exact .inr (.inr (key (fun j => dc (peer c (j + 1)) (56 + (14 - j))) N l (by omega)))

def L (g : GSem nD τ sig) : Finset Unit := if g.1.2 = .tc then {()} else ∅
/-- The barrier at 1, the arrivals of the reduce-scatter at 2 and of the all-gather at 3, everything else at 0. -/
def lv (g : GSem nD τ sig) (_ : Unit) : ℕ := match g.2 with | .reg _ => 1 | .dma i => if i.val < 24 then 0 else if i.val < 40 then 2 else if i.val < 56 then 0 else 3

theorem L_of_ne (g : GSem nD τ sig) (h : g.1.2 ≠ .tc) : L g = ∅ := if_neg h
theorem L_tc (c : Dev nD) (sm : SemLoc sig) : L ((c : Thread nD τ), sm) = {()} := if_pos rfl
theorem lv_rsR (c : Dev nD) {k : ℕ} (hk : k < 16) : lv (dc c (24 + k)) () = 2 := by
  show (if (dsem (24 + k)).val < 24 then 0 else if (dsem (24 + k)).val < 40 then 2 else if (dsem (24 + k)).val < 56 then 0 else 3) = 2
  rw [dsem_val (by omega), if_neg (by omega), if_pos (by omega)]
theorem lv_agR (c : Dev nD) {k : ℕ} (hk : k < 15) : lv (dc c (56 + k)) () = 3 := by
  show (if (dsem (56 + k)).val < 24 then 0 else if (dsem (56 + k)).val < 40 then 2 else if (dsem (56 + k)).val < 56 then 0 else 3) = 3
  rw [dsem_val (by omega), if_neg (by omega), if_neg (by omega), if_neg (by omega)]

/-- A device may wait at a cell lying below everything it still owes. -/
theorem mayWait (c : Dev nD) (sm : SemLoc sig) (a b l v : ℕ) (hv : lv ((c : Thread nD τ), sm) () = v)
    (ha : a < 15 → v < 1) (hb : b < 15 → v < 2) (hl : l < 15 → v < 3) :
    (levAts L lv : sProp 𝕄) ⊢ MayWait (c : Thread nD τ) sm () (Ow c a b l) :=
  MayOwe.of_cut (L := L) (lev := lv) v (fun p hp => by rw [Finset.mem_singleton.mp hp, L_tc]; exact Finset.mem_singleton_self _)
    (fun g u hg => by rcases Ow_pos hg with ⟨j, _, _, rfl⟩ | ⟨j, _, _, rfl⟩ | ⟨j, _, _, rfl⟩ <;> (rw [L_tc]; exact Finset.mem_singleton_self _))
    (fun p hp => by rw [Finset.mem_singleton.mp hp, hv])
    (fun g u hg => by
      rcases Ow_pos hg with ⟨j, h1, h2, rfl⟩ | ⟨j, h1, h2, rfl⟩ | ⟨j, h1, h2, rfl⟩
      · exact ha (by omega)
      · rw [lv_rsR _ (by omega)]; exact hb (by omega)
      · rw [lv_agR _ (by omega)]; exact hl (by omega))

end Cert.KernelIdeal.Run

end
-- ==== Proof.Run.Steps.lean ====
/-
One lemma for each kind of effect of the exchange, over the state the device is in between its effects.
-/
module

public import proofs.«01_k».proof.Proof.Run.Sched
public import Idealize.SL.BI.BigOpNat

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells, numbered, and what every device knows of them -/

/-- The semaphores of a device the exchange uses, numbered: the barrier, then the transfer semaphores from number 4. -/
def csem (i : Fin 69) : SemLoc sig := if i.val = 0 then .reg barS else .dma (dsem (i.val + 3))
def kcell (x : Dev nD × Fin 69) : GSem nD τ sig := ((x.1 : Thread nD τ), csem x.2)

/-- Every cell's invariant, and that its round 0 is open. -/
def Recs (K : Dev nD × Fin 69 → ℕ) : sProp 𝕄 :=
  bigSep (Finset.univ : Finset (Dev nD × Fin 69)) fun x => iprop(cellInv ER (Rd m ρ) (K x) (kcell x) ∗ reached ER (kcell x) 0)
def Ctx (K : Dev nD × Fin 69 → ℕ) : sProp 𝕄 := iprop(Recs m ρ K ∗ levAts L lv)

instance (K : Dev nD × Fin 69 → ℕ) : BI.Persistent (Recs m ρ K) := by unfold Recs; infer_instance
instance (K : Dev nD × Fin 69 → ℕ) : BI.Persistent (Ctx m ρ K) := by unfold Ctx; infer_instance

def kn (n : ℕ) : Fin 69 := ⟨(n - 3) % 69, Nat.mod_lt _ (by decide)⟩

theorem kcell_bar (c : Dev nD) : kcell (c, 0) = bar c := rfl
theorem kcell_dma (c : Dev nD) {n : ℕ} (h4 : 4 ≤ n) (h : n < 72) : kcell (c, kn n) = dc c n := by
  have hv : (kn n).val = n - 3 := Nat.mod_eq_of_lt (by omega)
  unfold kcell csem
  rw [hv, if_neg (by omega), show n - 3 + 3 = n by omega]

variable (K : Dev nD × Fin 69 → ℕ)

theorem ctx_bar (c : Dev nD) : Ctx m ρ K ⊢ iprop(cellInv ER (Rd m ρ) (K (c, 0)) (bar c) ∗ reached ER (bar c) 0) := by
  unfold Ctx Recs
  refine sep_elim_left.trans ?_
  exact bigSep_elim (Φ := fun x : Dev nD × Fin 69 => iprop(cellInv ER (Rd m ρ) (K x) (kcell x) ∗ reached ER (kcell x) 0)) (Finset.mem_univ ((c, 0) : Dev nD × Fin 69))
theorem ctx_dma (c : Dev nD) {n : ℕ} (h4 : 4 ≤ n) (h : n < 72) : Ctx m ρ K ⊢ iprop(cellInv ER (Rd m ρ) (K (c, kn n)) (dc c n) ∗ reached ER (dc c n) 0) := by
  unfold Ctx Recs
  refine sep_elim_left.trans ?_
  rw [← kcell_dma c h4 h]
  exact bigSep_elim (Φ := fun x : Dev nD × Fin 69 => iprop(cellInv ER (Rd m ρ) (K x) (kcell x) ∗ reached ER (kcell x) 0)) (Finset.mem_univ ((c, kn n) : Dev nD × Fin 69))
theorem ctx_lev : Ctx m ρ K ⊢ (levAts L lv : sProp 𝕄) := by
  unfold Ctx; exact sep_elim_right

abbrev 𝒱₀ : Variants := Variants.none

/-! ## The state in each phase: what is still to do, what is done -/

/-- What a device owes, at some record of waits. -/
def Od (c : Dev nD) (a b g : ℕ) : sProp 𝕄 := iprop(∃ W : Waits sig Unit, owes (c : Thread nD τ) (Ow c a b g) W)

/-- `n` of fifteen steps done: `pre` of each still to do, `post` of each done. -/
def Fam (pre post : ℕ → sProp 𝕄) (n : ℕ) : sProp 𝕄 := iprop(bigSep (Finset.Ico n 15) pre ∗ bigSep (Finset.range n) post)

theorem Fam_step (pre post : ℕ → sProp 𝕄) {n : ℕ} (hn : n < 15) :
    Fam (F := F) pre post n ⊢ iprop(pre n ∗ (post n -∗ Fam (F := F) pre post (n + 1))) := by
  unfold Fam
  rw [bigSep_Ico_succ_bot hn pre, bigSep_range_succ n post]
  iintro ⟨⟨H, Hp⟩, Hd⟩
  isplitl [H]; · iexact H
  iintro H'
  isplitl [Hp]; · iexact Hp
  isplitl [H']; · iexact H'
  iexact Hd

/-- Before and after each signal: the duty's token and the two own slots it hands over; nothing. -/
def preA (c : Dev nD) (j : ℕ) : sProp 𝕄 := iprop(dutyTok ER (bar (peer c (j + 1))) 0 (14 - j) ∗ (∃ f, rsPts c (j + 1) f) ∗ (∃ f, agPts c j f))
def StA (c : Dev nD) (n : ℕ) : sProp 𝕄 := iprop(Od c n 0 0 ∗ Fam (preA c) (fun _ => iprop(emp)) n)
/-- Each transfer of the reduce-scatter: the two tokens, the rows, the destination; the credit for its departure. -/
def preB (c : Dev nD) (j : ℕ) : sProp 𝕄 :=
  iprop(dutyTok ER (dc c (9 + j)) 0 0 ∗ dutyTok ER (dc (peer c (j + 1)) (24 + (15 - j))) 0 0 ∗ accPts c (peer c (j + 1)).val (acc m ρ c) ∗ (∃ f, rsPts (peer c (j + 1)) (15 - j) f))
def StB (c : Dev nD) (n : ℕ) : sProp 𝕄 := iprop(Od c 15 n 0 ∗ Fam (preB m ρ c) (fun j => cred (tallyAt (dc c (9 + j)) () N)) n)
/-- Each arrival of the reduce-scatter: position and credit; position and the filled slot. -/
def preC (c : Dev nD) (j : ℕ) : sProp 𝕄 := iprop(atPos ER (dc c (24 + (j + 1))) 0 ∅ 0 ∗ cred (tallyAt (dc c (24 + (j + 1))) () N))
def postC (c : Dev nD) (j : ℕ) : sProp 𝕄 := iprop(atPos ER (dc c (24 + (j + 1))) 1 ∅ 0 ∗ rsPts c (j + 1) (rsBuf m ρ c))
def StC (c : Dev nD) (n : ℕ) : sProp 𝕄 := iprop(Od c 15 15 0 ∗ Fam (preC c) (postC m ρ c) n)
/-- Each transfer of the all-gather: the two tokens, a share of the reduced rows, the destination; the credit for its departure. -/
def preD (c : Dev nD) (j : ℕ) : sProp 𝕄 :=
  iprop(dutyTok ER (dc c (41 + j)) 0 0 ∗ dutyTok ER (dc (peer c (j + 1)) (56 + (14 - j))) 0 0 ∗ redPts m ρ c (shareTokN fullShare j) ∗ (∃ f, agPts (peer c (j + 1)) (14 - j) f))
def StD (c : Dev nD) (n : ℕ) : sProp 𝕄 := iprop(Od c 15 15 n ∗ Fam (preD m ρ c) (fun j => cred (tallyAt (dc c (41 + j)) () N)) n)
/-- Each arrival of the all-gather. -/
def preE (c : Dev nD) (j : ℕ) : sProp 𝕄 := iprop(atPos ER (dc c (56 + j)) 0 ∅ 0 ∗ cred (tallyAt (dc c (56 + j)) () N))
def postE (c : Dev nD) (j : ℕ) : sProp 𝕄 := iprop(atPos ER (dc c (56 + j)) 1 ∅ 0 ∗ agPts c j (agBuf m ρ c))
def StE (c : Dev nD) (n : ℕ) : sProp 𝕄 := iprop(Od c 15 15 15 ∗ Fam (preE c) (postE m ρ c) n)
/-- Each departure of the reduce-scatter, then of the all-gather. -/
def preG (c : Dev nD) (j : ℕ) : sProp 𝕄 := iprop(atPos ER (dc c (9 + j)) 0 ∅ 0 ∗ cred (tallyAt (dc c (9 + j)) () N))
def postG (c : Dev nD) (j : ℕ) : sProp 𝕄 := iprop(atPos ER (dc c (9 + j)) 1 ∅ 0 ∗ accPts c (peer c (j + 1)).val (acc m ρ c))
def StG (c : Dev nD) (n : ℕ) : sProp 𝕄 := iprop(Od c 15 15 15 ∗ Fam (preG c) (postG m ρ c) n)
def preH (c : Dev nD) (j : ℕ) : sProp 𝕄 := iprop(atPos ER (dc c (41 + j)) 0 ∅ 0 ∗ cred (tallyAt (dc c (41 + j)) () N))
def postH (c : Dev nD) (j : ℕ) : sProp 𝕄 := iprop(atPos ER (dc c (41 + j)) 1 ∅ 0 ∗ redPts m ρ c (shareTokN fullShare j))
def StH (c : Dev nD) (n : ℕ) : sProp 𝕄 := iprop(Od c 15 15 15 ∗ Fam (preH c) (postH m ρ c) n)

section Steps
variable {α : Type} {Q : α → sProp (MT nD τ sig Unit (Elt F) ℕ UU ℕ)} {k : PUnit → Prog (TpuEff nD τ sig (Elt F) Λ₀ .tc) α}

theorem step_signal (c p : Dev nD) {sm : Sem sig} {u : ℕ} (n : ℕ) (hn : n < 15) (hp : p = peer c (n + 1)) (hs : sm = barS) (hu : u = 1) :
    iprop(Ctx m ρ K ∗ StA c n)
      ⊢ iprop((StA c (n + 1) -∗ wp frame (wpE (defs₀ (F := F)) 𝒱₀ (c : Thread nD τ) none) Set.univ (k ⟨⟩) Q) -∗ wp frame (wpE (defs₀ (F := F)) 𝒱₀ (c : Thread nD τ) none) Set.univ (.op (.semSignal (p : Thread nD τ) sm u) k) Q) := by
  subst hp hs hu
  have e1 : peer (peer c (n + 1)) (14 - n + 1) = c := peer_round c (by omega)
  unfold StA Od
  iintro ⟨#HC, ⟨%W, HO⟩, HF⟩ Hk
  ihave HF' := (Fam_step (preA c) (fun _ => iprop(emp)) hn) $$ HF
  icases HF' with ⟨Hpre, HF⟩
  unfold preA
  icases Hpre with ⟨Ht, ⟨%f, Hr⟩, ⟨%g, Ha⟩⟩
  ihave HI := (ctx_bar m ρ K (peer c (n + 1))) $$ HC
  icases HI with ⟨#HI, #HR⟩
  iapply (Rounds.wp_signal 𝒱₀ ER (Rd m ρ) (c : Thread nD τ) none (dst := (peer c (n + 1) : Thread nD τ)) (sem := barS) (κ := K (peer c (n + 1), 0))
      (r := 0) (d := 14 - n) (by rw [duties_bar]; exact Finset.mem_range.mpr (by omega)) (amount_bar m ρ (peer c (n + 1)) (14 - n)) () (Ow c (n + 1) 0 0) (Ow_a c 0 0 hn))
    $$ [HO Ht Hr Ha]
  · isplitr; · iexact HI
    isplitl [HO]; · iexact HO
    isplitl [Ht]; · iexact Ht
    isplitl [Hr Ha]
    · rw [payload_bar]; unfold barPay; rw [e1, show 15 - (14 - n) = n + 1 by omega, show 14 - (14 - n) = n by omega]
      isplitl [Hr]; · iexists f; iexact Hr
      iexists g; iexact Ha
    · iexact HR
  iintro HO
  iapply Hk
  isplitl [HO]; · iexists W; iexact HO
  iapply HF; iempintro

/-- The barrier: every other device's two slots for this device's transfers. -/
theorem step_barrier (c : Dev nD) {sm : Sem sig} {u : ℕ} (hs : sm = barS) (hu : u = 15) :
    iprop(Ctx m ρ K ∗ Od c 15 0 0 ∗ cred (tallyAt (bar c) () 15) ∗ atPos ER (bar c) 0 ∅ 0)
      ⊢ iprop((Od c 15 0 0 ∗ atPos ER (bar c) 1 ∅ 0 ∗ bigSep (Finset.range 15) (fun j => barPay c j) -∗ wp frame (wpE (defs₀ (F := F)) 𝒱₀ (c : Thread nD τ) none) Set.univ (k ⟨⟩) Q) -∗ wp frame (wpE (defs₀ (F := F)) 𝒱₀ (c : Thread nD τ) none) Set.univ (.op (.semWait sm u) k) Q) := by
  subst hs hu
  unfold Od
  iintro ⟨#HC, ⟨%W, HO⟩, Hc, Hat⟩ Hk
  ihave HI := (ctx_bar m ρ K c) $$ HC
  icases HI with ⟨#HI, #HR⟩
  ihave Hmw := ((ctx_lev m ρ K).trans (mayWait c (.reg barS) 15 0 0 1 rfl (by omega) (by omega) (by omega))) $$ HC
  iapply (Rounds.wp_wait_rest_token 𝒱₀ ER (Rd m ρ) (c : Thread nD τ) none (κ := K (c, 0)) (sm := .reg barS) (k' := 15)
      (wpE_semWait_eq 𝒱₀ (c : Thread nD τ) none Set.univ) (Set.mem_univ _) () (O := Ow c 15 0 0) (W := W) (R := 0) (m := 0) (T := ∅)
      (by rw [expect_bar])) $$ [Hc HO Hat]
  · isplitr; · iexact HI
    isplitl [Hc]; · iexact Hc
    isplitl [HO]; · iexact HO
    isplitr; · iexact Hmw
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- A wait for a transfer's arrival or departure at semaphore `n`, owing what lies above it. -/
theorem step_wait (c : Dev nD) {sS : DmaSem sig} {M : ℕ} {s' s₁ : Shape} {e' e₁ : EltTy} {sp sp' : Space} {κ' : Kind} {src : Memref sig .tc sp' s' e'} {dst : Memref sig κ' sp s₁ e₁}
    {hsrc : src.view.WordExact} {hdst : dst.view.WordExact} (n a b g : ℕ) (h4 : 4 ≤ n) (h72 : n < 72)
    (hu : Used n) (hS : sS = dsem n) (hM : (Rd (F := F) m ρ).expect (dc c n) 0 = M) (hd : dst.view.dmaCredit = M)
    (v : ℕ) (hv : lv (dc c n) () = v) (ha : a < 15 → v < 1) (hb : b < 15 → v < 2) (hl : g < 15 → v < 3) :
    iprop(Ctx m ρ K ∗ Od c a b g ∗ atPos ER (dc c n) 0 ∅ 0 ∗ cred (tallyAt (dc c n) () M))
      ⊢ iprop((Od c a b g ∗ atPos ER (dc c n) 1 ∅ 0 ∗ dmaPay m ρ c n -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sS src dst hsrc hdst) k) Q) := by
  subst hS
  unfold Od
  iintro ⟨#HC, ⟨%W, HO⟩, Hat, Hc⟩ Hk
  ihave HI := (ctx_dma m ρ K c h4 h72) $$ HC
  icases HI with ⟨#HI, #HR⟩
  ihave Hmw := ((ctx_lev m ρ K).trans (mayWait c (.dma (dsem n)) a b g v hv ha hb hl)) $$ HC
  iapply (Rounds.wp_wait_rest_token 𝒱₀ ER (Rd m ρ) (c : Thread nD τ) none (κ := K (c, kn n)) (sm := .dma (dsem n)) (k' := dst.view.dmaCredit)
      (wpE_waitDma2_eq 𝒱₀ (c : Thread nD τ) none Set.univ) (Set.mem_univ _) () (O := Ow c a b g) (W := W) (R := 0) (m := 0) (T := ∅)
      (by rw [Nat.zero_add, hd, hM])) $$ [Hc HO Hat]
  · isplitr; · iexact HI
    isplitl [Hc]; · rw [hd]; iexact Hc
    isplitl [HO]; · iexact HO
    isplitr; · iexact Hmw
    iexact Hat
  iintro ⟨HO, Hat, -, Hpay⟩
  ihave Hp := (Entails.of_eq (rest_dma m ρ c h72 hu)) $$ Hpay
  iapply Hk
  isplitl [HO]; · iexists _; iexact HO
  isplitl [Hat]; · iexact Hat
  iexact Hp

end Steps
end Cert.KernelIdeal.Run

end
-- ==== Proof.Run.StepsB.lean ====
/-
The transfers and the waits, over the states between effects.
-/
module

public import proofs.«01_k».proof.Proof.Run.Steps

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

section Steps
variable {α : Type} {Q : α → sProp (MT nD τ sig Unit (Elt F) ℕ UU ℕ)} {k : PUnit → Prog (TpuEff nD τ sig (Elt F) Λ₀ .tc) α}

theorem srcPts_K (c : Dev nD) (j : ℕ) (hj : j < 2) {h : ∀ a, (![0, 0, 2 * c.val + j, 0] : Fin 4 → Nat) a + S1x4096x1x128.size a ≤ S1x4096x32x128.size a} :
    srcPts m c (0 + j) = ((headK ![0, 0, 2 * c.val + j, 0] h).view.loc (c : Thread nD τ) ↦[(headK ![0, 0, 2 * c.val + j, 0] h).view.set]{if j = 0 then fullShare.left else fullShare.right} m ((c : Thread nD τ).loc main_arg2) : sProp (MT nD τ sig Unit (Elt F) ℕ UU ℕ)) := by
  have hm : (0 + j) % 2 = j := by omega
  unfold srcPts
  rw [headK_set, if_pos (by omega), hm]

/-- The transfer of one head of the keys into its slot. -/
theorem step_copyK (c : Dev nD) (j sl : ℕ) (hj : j < 2) (hsl : sl = 0 + j) {off : Fin 4 → Nat} {h : ∀ a, off a + S1x4096x1x128.size a ≤ S1x4096x32x128.size a}
    (hoff : off = ![0, 0, 2 * c.val + j, 0]) {hk : ∀ a, (![sl, 0, 0] : Fin 3 → Nat) a + S1x4096x128.size a ≤ S4x4096x128.size a} {sS : DmaSem sig} (hS : sS = dsem (4 + sl))
    {hsrc : (headK off h).view.WordExact} {hdst : (kvSl sl hk).view.WordExact} {hsem : DmaTarget.Typed (nD := nD) (τ := τ) (sig := sig) (p := Proc.tc) .hbm (.dma sS) (.here (kvSl sl hk))} :
    iprop(Ctx m ρ K ∗ srcPts m c sl ∗ (∃ f, kvPts c sl f) ∗ dutyTok ER (dc c (4 + sl)) 0 0)
      ⊢ iprop((cred (tallyAt (dc c (4 + sl)) () Nkv) -∗ wp frame (wpE (defs₀ (F := F)) 𝒱₀ (c : Thread nD τ) none) Set.univ (k ⟨⟩) Q) -∗ wp frame (wpE (defs₀ (F := F)) 𝒱₀ (c : Thread nD τ) none) Set.univ (.op (.enqueueDma (headK off h) (.here (kvSl sl hk)) (.dma sS) hsrc hdst hsem) k) Q) := by
  subst hoff hS hsl
  have hm : (0 + j) % 2 = j := by omega
  have hp : 2 * c.val + j < 32 := by have := dev_lt c; omega
  iintro ⟨#HC, Hs, ⟨%fd, Hd⟩, Ht⟩ Hk
  ihave Hs := (Entails.of_eq (srcPts_K m c j hj (h := h))) $$ Hs
  ihave HI := (ctx_dma m ρ K c (n := 4 + (0 + j)) (by omega) (by omega)) $$ HC
  icases HI with ⟨#HI, #HR⟩
  iapply (Rounds.wp_copy_pointsTo 𝒱₀ ER (Rd m ρ) (c : Thread nD τ) none (src := headK ![0, 0, 2 * c.val + j, 0] h) (dst := kvSl (0 + j) hk) (sem := .dma (dsem (4 + (0 + j)))) (κ := K (c, kn (4 + (0 + j))))
      (q := if j = 0 then fullShare.left else fullShare.right) (fs := m ((c : Thread nD τ).loc main_arg2)) (fd := fd)
      (r := 0) (d := 0) (by rw [duties_dma m ρ c (by omega) (by omega)]; exact Finset.mem_singleton_self _) () Nkv rfl (amount_kv m ρ c (by omega) 0)
      (by
        rw [payload_dma m ρ c (by omega), pay_kv m ρ c (by omega)]
        refine Laws.sep_mono ?_ ?_
        · unfold kvPts
          rw [kvSl_set]
          refine Entails.of_eq (pointsTo_congr fun i hi => ?_)
          refine (kv_land _ _ _ _ i hi).trans ?_
          refine (headK_read _ _ hp _ _ _).trans ?_
          have h0 := mem_kvSet.mp hi
          unfold kvBuf
          refine Eq.symm ((if_pos (by omega)).trans ?_)
          congr 2
          exact Fin.ext (by show 2 * c.val + (i 0).val % 2 = 2 * c.val + j; omega)
        · exact Entails.of_eq (srcPts_K m c j hj).symm)) $$ [Hs Hd Ht]
  · isplitr; · iexact HI
    isplitl [Hs]; · iexact Hs
    isplitl [Hd]
    · unfold kvPts
      rw [kvSl_set]
      iexact Hd
    isplitl [Ht]; · iexact Ht
    iexact HR
  iexact Hk

theorem srcPts_V (c : Dev nD) (j : ℕ) (hj : j < 2) {h : ∀ a, (![0, 0, 2 * c.val + j, 0] : Fin 4 → Nat) a + S1x4096x1x128.size a ≤ S1x4096x32x128.size a} :
    srcPts m c (2 + j) = ((headV ![0, 0, 2 * c.val + j, 0] h).view.loc (c : Thread nD τ) ↦[(headV ![0, 0, 2 * c.val + j, 0] h).view.set]{if j = 0 then fullShare.left else fullShare.right} m ((c : Thread nD τ).loc main_arg3) : sProp (MT nD τ sig Unit (Elt F) ℕ UU ℕ)) := by
  have hm : (2 + j) % 2 = j := by omega
  unfold srcPts
  rw [headV_set, if_neg (by omega), hm]

/-- The transfer of one head of the values into its slot. -/
theorem step_copyV (c : Dev nD) (j sl : ℕ) (hj : j < 2) (hsl : sl = 2 + j) {off : Fin 4 → Nat} {h : ∀ a, off a + S1x4096x1x128.size a ≤ S1x4096x32x128.size a}
    (hoff : off = ![0, 0, 2 * c.val + j, 0]) {hk : ∀ a, (![sl, 0, 0] : Fin 3 → Nat) a + S1x4096x128.size a ≤ S4x4096x128.size a} {sS : DmaSem sig} (hS : sS = dsem (4 + sl))
    {hsrc : (headV off h).view.WordExact} {hdst : (kvSl sl hk).view.WordExact} {hsem : DmaTarget.Typed (nD := nD) (τ := τ) (sig := sig) (p := Proc.tc) .hbm (.dma sS) (.here (kvSl sl hk))} :
    iprop(Ctx m ρ K ∗ srcPts m c sl ∗ (∃ f, kvPts c sl f) ∗ dutyTok ER (dc c (4 + sl)) 0 0)
      ⊢ iprop((cred (tallyAt (dc c (4 + sl)) () Nkv) -∗ wp frame (wpE (defs₀ (F := F)) 𝒱₀ (c : Thread nD τ) none) Set.univ (k ⟨⟩) Q) -∗ wp frame (wpE (defs₀ (F := F)) 𝒱₀ (c : Thread nD τ) none) Set.univ (.op (.enqueueDma (headV off h) (.here (kvSl sl hk)) (.dma sS) hsrc hdst hsem) k) Q) := by
  subst hoff hS hsl
  have hm : (2 + j) % 2 = j := by omega
  have hp : 2 * c.val + j < 32 := by have := dev_lt c; omega
  iintro ⟨#HC, Hs, ⟨%fd, Hd⟩, Ht⟩ Hk
  ihave Hs := (Entails.of_eq (srcPts_V m c j hj (h := h))) $$ Hs
  ihave HI := (ctx_dma m ρ K c (n := 4 + (2 + j)) (by omega) (by omega)) $$ HC
  icases HI with ⟨#HI, #HR⟩
  iapply (Rounds.wp_copy_pointsTo 𝒱₀ ER (Rd m ρ) (c : Thread nD τ) none (src := headV ![0, 0, 2 * c.val + j, 0] h) (dst := kvSl (2 + j) hk) (sem := .dma (dsem (4 + (2 + j)))) (κ := K (c, kn (4 + (2 + j))))
      (q := if j = 0 then fullShare.left else fullShare.right) (fs := m ((c : Thread nD τ).loc main_arg3)) (fd := fd)
      (r := 0) (d := 0) (by rw [duties_dma m ρ c (by omega) (by omega)]; exact Finset.mem_singleton_self _) () Nkv rfl (amount_kv m ρ c (by omega) 0)
      (by
        rw [payload_dma m ρ c (by omega), pay_kv m ρ c (by omega)]
        refine Laws.sep_mono ?_ ?_
        · unfold kvPts
          rw [kvSl_set]
          refine Entails.of_eq (pointsTo_congr fun i hi => ?_)
          refine (kv_land _ _ _ _ i hi).trans ?_
          refine (headV_read _ _ hp _ _ _).trans ?_
          have h0 := mem_kvSet.mp hi
          unfold kvBuf
          refine Eq.symm ((if_neg (by omega)).trans ?_)
          congr 2
          exact Fin.ext (by show 2 * c.val + (i 0).val % 2 = 2 * c.val + j; omega)
        · exact Entails.of_eq (srcPts_V m c j hj).symm)) $$ [Hs Hd Ht]
  · isplitr; · iexact HI
    isplitl [Hs]; · iexact Hs
    isplitl [Hd]
    · unfold kvPts
      rw [kvSl_set]
      iexact Hd
    isplitl [Ht]; · iexact Ht
    iexact HR
  iexact Hk

/-- One transfer of the reduce-scatter: the rows of the device `n + 1` places after `c` go to its slot `15 - n`. -/
theorem step_sendB (c p : Dev nD) (n sl : ℕ) (hn : n < 15) (hp : p = peer c (n + 1)) (hsl : sl = 15 - n) {off : Fin 2 → Nat} {h : ∀ a, off a + S16x1024.size a ≤ S256x1024.size a}
    (hoff : off = ![16 * (peer c (n + 1)).val, 0]) {hk : ∀ a, (![sl, 0, 0] : Fin 3 → Nat) a + S1x16x1024.size a ≤ S16x16x1024.size a} {sS sR : DmaSem sig}
    (hS : sS = dsem (9 + n)) (hR : sR = dsem (24 + sl)) {hsc : (rsSl sl hk).view.ref.isScScratch = false}
    {hsrc : (accR off h).view.WordExact} {hdst : (rsSl sl hk).view.WordExact}
    {hsem : DmaTarget.Typed .vmem (.dma sR) (.remote (p : Thread nD τ) (rsSl sl hk) (.dma sS) hsc)} :
    iprop(Ctx m ρ K ∗ StB m ρ c n)
      ⊢ iprop((StB m ρ c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (accR off h) (.remote (p : Thread nD τ) (rsSl sl hk) (.dma sS) hsc) (.dma sR) hsrc hdst hsem) k) Q) := by
  subst hp hoff hS hR hsl
  have hp16 := dev_lt (peer c (n + 1))
  unfold StB Od
  iintro ⟨#HC, ⟨%W, HO⟩, HF⟩ Hk
  ihave HF' := (Fam_step (preB m ρ c) (fun j => cred (tallyAt (dc c (9 + j)) () N)) hn) $$ HF
  icases HF' with ⟨Hpre, HF⟩
  unfold preB
  icases Hpre with ⟨Ht1, Ht2, Hs, ⟨%fd, Hd⟩⟩
  ihave HI := (ctx_dma m ρ K c (n := 9 + n) (by omega) (by omega)) $$ HC
  icases HI with ⟨#HI1, #HR1⟩
  ihave HI := (ctx_dma m ρ K (peer c (n + 1)) (n := 24 + (15 - n)) (by omega) (by omega)) $$ HC
  icases HI with ⟨#HI2, #HR2⟩
  iapply (Rounds.wp_send_pointsTo 𝒱₀ ER (Rd m ρ) (c : Thread nD τ) none (c' := (peer c (n + 1) : Thread nD τ)) (src := accR ![16 * (peer c (n + 1)).val, 0] h) (dst := rsSl (15 - n) hk)
      (sS := .dma (dsem (9 + n))) (sem := .dma (dsem (24 + (15 - n)))) (κ₁ := K (c, kn (9 + n))) (κ₂ := K (peer c (n + 1), kn (24 + (15 - n))))
      (q := fullShare) (fs := acc m ρ c) (fd := fd)
      (r₁ := 0) (r₂ := 0) (d₁ := 0) (d₂ := 0) (by rw [duties_dma m ρ c (by omega) (by omega)]; exact Finset.mem_singleton_self _)
      (by rw [duties_dma m ρ (peer c (n + 1)) (by omega) (by omega)]; exact Finset.mem_singleton_self _) () () N rfl (amount_dma m ρ c (by omega) (by omega) 0)
      (amount_dma m ρ (peer c (n + 1)) (by omega) (by omega) 0) (Ow c 15 (n + 1) 0) (Ow_b c 15 0 hn) (W := W)
      (by rw [payload_dma m ρ c (by omega), pay_rsS m ρ c hn]; unfold accPts; rw [accR_set])
      (by
        rw [payload_dma m ρ (peer c (n + 1)) (by omega), pay_rsR m ρ (peer c (n + 1)) (by omega)]
        unfold rsPts
        rw [rsSl_set]
        refine Entails.of_eq (pointsTo_congr fun i hi => ?_)
        refine (rs_land _ _ _ _ i hi).trans ?_
        refine (accR_read _ _ hp16 _ _ _).trans ?_
        have h0 := mem_rsSet.mp hi
        unfold rsBuf
        rw [h0, peer_round c (by omega : (n + 1 + (15 - n)) % 16 = 0)])) $$ [Hs Hd HO Ht1 Ht2]
  · isplitr; · iexact HI1
    isplitr; · iexact HI2
    isplitl [Hs]
    · unfold accPts
      rw [accR_set]
      iexact Hs
    isplitl [Hd]
    · unfold rsPts
      rw [rsSl_set]
      iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iapply HF; iexact Hc

/-- One transfer of the all-gather: the reduced rows go to slot `14 - n` of the device `n + 1` places after `c`. -/
theorem step_sendD (c p : Dev nD) (n sl : ℕ) (hn : n < 15) (hp : p = peer c (n + 1)) (hsl : sl = 14 - n)
    {h0 : ∀ a, (![0, 0, 0] : Fin 3 → Nat) a + S1x16x1024.size a ≤ S16x16x1024.size a}
    {hk : ∀ a, (![sl, 0, 0] : Fin 3 → Nat) a + S1x16x1024.size a ≤ S15x16x1024.size a} {sS sR : DmaSem sig}
    (hS : sS = dsem (41 + n)) (hR : sR = dsem (56 + sl)) {hsc : (agSl sl hk).view.ref.isScScratch = false}
    {hsrc : (rsSl 0 h0).view.WordExact} {hdst : (agSl sl hk).view.WordExact}
    {hsem : DmaTarget.Typed .vmem (.dma sR) (.remote (p : Thread nD τ) (agSl sl hk) (.dma sS) hsc)} :
    iprop(Ctx m ρ K ∗ StD m ρ c n)
      ⊢ iprop((StD m ρ c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (rsSl 0 h0) (.remote (p : Thread nD τ) (agSl sl hk) (.dma sS) hsc) (.dma sR) hsrc hdst hsem) k) Q) := by
  subst hp hS hR hsl
  unfold StD Od
  iintro ⟨#HC, ⟨%W, HO⟩, HF⟩ Hk
  ihave HF' := (Fam_step (preD m ρ c) (fun j => cred (tallyAt (dc c (41 + j)) () N)) hn) $$ HF
  icases HF' with ⟨Hpre, HF⟩
  unfold preD
  icases Hpre with ⟨Ht1, Ht2, Hs, ⟨%fd, Hd⟩⟩
  ihave HI := (ctx_dma m ρ K c (n := 41 + n) (by omega) (by omega)) $$ HC
  icases HI with ⟨#HI1, #HR1⟩
  ihave HI := (ctx_dma m ρ K (peer c (n + 1)) (n := 56 + (14 - n)) (by omega) (by omega)) $$ HC
  icases HI with ⟨#HI2, #HR2⟩
  iapply (Rounds.wp_send_pointsTo 𝒱₀ ER (Rd m ρ) (c : Thread nD τ) none (c' := (peer c (n + 1) : Thread nD τ)) (src := rsSl 0 h0) (dst := agSl (14 - n) hk)
      (sS := .dma (dsem (41 + n))) (sem := .dma (dsem (56 + (14 - n)))) (κ₁ := K (c, kn (41 + n))) (κ₂ := K (peer c (n + 1), kn (56 + (14 - n))))
      (q := shareTokN fullShare n) (fs := rsRed m ρ c) (fd := fd)
      (r₁ := 0) (r₂ := 0) (d₁ := 0) (d₂ := 0) (by rw [duties_dma m ρ c (by omega) (by omega)]; exact Finset.mem_singleton_self _)
      (by rw [duties_dma m ρ (peer c (n + 1)) (by omega) (by omega)]; exact Finset.mem_singleton_self _) () () N rfl (amount_dma m ρ c (by omega) (by omega) 0)
      (amount_dma m ρ (peer c (n + 1)) (by omega) (by omega) 0) (Ow c 15 15 (n + 1)) (Ow_g c 15 15 hn) (W := W)
      (by rw [payload_dma m ρ c (by omega), pay_agS m ρ c hn]; unfold redPts; rw [rsSl_set])
      (by
        rw [payload_dma m ρ (peer c (n + 1)) (by omega), pay_agR m ρ (peer c (n + 1)) (by omega)]
        unfold agPts
        rw [agSl_set]
        refine Entails.of_eq (pointsTo_congr fun i hi => ?_)
        refine (ag_land _ _ _ _ i hi).trans ?_
        refine (rsSl_read 0 _ (by omega) _ _ _).trans ?_
        have hi0 := mem_agSet.mp hi
        unfold agBuf rsRed
        rw [hi0, peer_round c (by omega : (n + 1 + (14 - n + 1)) % 16 = 0)]
        rfl)) $$ [Hs Hd HO Ht1 Ht2]
  · isplitr; · iexact HI1
    isplitr; · iexact HI2
    isplitl [Hs]
    · unfold redPts
      rw [rsSl_set]
      iexact Hs
    isplitl [Hd]
    · unfold agPts
      rw [agSl_set]
      iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iapply HF; iexact Hc

theorem lv_low (c : Dev nD) {n : ℕ} (hn : n < 24 ∨ (40 ≤ n ∧ n < 56)) : lv (dc c n) () = 0 := by
  show (if (dsem n).val < 24 then 0 else if (dsem n).val < 40 then 2 else if (dsem n).val < 56 then 0 else 3) = 0
  rw [dsem_val (by omega)]
  rcases hn with h | ⟨h, h'⟩
  · exact if_pos h
  · rw [if_neg (by omega), if_neg (by omega), if_pos h']

/-- The wait for arrival `n + 1` of the reduce-scatter. -/
theorem step_waitC (c : Dev nD) {sS : DmaSem sig} {s' s₁ : Shape} {e' e₁ : EltTy} {sp sp' : Space} {κ' : Kind} {src : Memref sig .tc sp' s' e'} {dst : Memref sig κ' sp s₁ e₁}
    {hsrc : src.view.WordExact} {hdst : dst.view.WordExact} (n : ℕ) (hn : n < 15) (hS : sS = dsem (24 + (n + 1))) (hd : dst.view.dmaCredit = N) :
    iprop(Ctx m ρ K ∗ StC m ρ c n)
      ⊢ iprop((StC m ρ c (n + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sS src dst hsrc hdst) k) Q) := by
  unfold StC
  iintro ⟨#HC, HO, HF⟩ Hk
  ihave HF' := (Fam_step (preC c) (postC m ρ c) hn) $$ HF
  icases HF' with ⟨Hpre, HF⟩
  unfold preC
  icases Hpre with ⟨Hat, Hc⟩
  iapply (step_wait m ρ K c (24 + (n + 1)) 15 15 0 (by omega) (by omega) (by omega) hS (expect_dma m ρ c (by omega) (by omega) (by omega)) hd 2 (lv_rsR c (by omega)) (by omega) (by omega) (by omega)) $$ [HO Hat Hc]
  · isplitr; · iexact HC
    isplitl [HO]; · iexact HO
    isplitl [Hat]; · iexact Hat
    iexact Hc
  iintro ⟨HO, Hat, Hp⟩
  ihave Hp := (Entails.of_eq (pay_rsR m ρ c (k := n + 1) (by omega))) $$ Hp
  iapply Hk
  isplitl [HO]; · iexact HO
  iapply HF
  unfold postC
  isplitl [Hat]; · iexact Hat
  iexact Hp

/-- The wait for arrival `n` of the all-gather. -/
theorem step_waitE (c : Dev nD) {sS : DmaSem sig} {s' s₁ : Shape} {e' e₁ : EltTy} {sp sp' : Space} {κ' : Kind} {src : Memref sig .tc sp' s' e'} {dst : Memref sig κ' sp s₁ e₁}
    {hsrc : src.view.WordExact} {hdst : dst.view.WordExact} (n : ℕ) (hn : n < 15) (hS : sS = dsem (56 + n)) (hd : dst.view.dmaCredit = N) :
    iprop(Ctx m ρ K ∗ StE m ρ c n)
      ⊢ iprop((StE m ρ c (n + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sS src dst hsrc hdst) k) Q) := by
  unfold StE
  iintro ⟨#HC, HO, HF⟩ Hk
  ihave HF' := (Fam_step (preE c) (postE m ρ c) hn) $$ HF
  icases HF' with ⟨Hpre, HF⟩
  unfold preE
  icases Hpre with ⟨Hat, Hc⟩
  iapply (step_wait m ρ K c (56 + n) 15 15 15 (by omega) (by omega) (by omega) hS (expect_dma m ρ c (by omega) (by omega) (by omega)) hd 3 (lv_agR c hn) (by omega) (by omega) (by omega)) $$ [HO Hat Hc]
  · isplitr; · iexact HC
    isplitl [HO]; · iexact HO
    isplitl [Hat]; · iexact Hat
    iexact Hc
  iintro ⟨HO, Hat, Hp⟩
  ihave Hp := (Entails.of_eq (pay_agR m ρ c hn)) $$ Hp
  iapply Hk
  isplitl [HO]; · iexact HO
  iapply HF
  unfold postE
  isplitl [Hat]; · iexact Hat
  iexact Hp

/-- The wait for departure `n` of the reduce-scatter. -/
theorem step_waitG (c : Dev nD) {sS : DmaSem sig} {s' s₁ : Shape} {e' e₁ : EltTy} {sp sp' : Space} {κ' : Kind} {src : Memref sig .tc sp' s' e'} {dst : Memref sig κ' sp s₁ e₁}
    {hsrc : src.view.WordExact} {hdst : dst.view.WordExact} (n : ℕ) (hn : n < 15) (hS : sS = dsem (9 + n)) (hd : dst.view.dmaCredit = N) :
    iprop(Ctx m ρ K ∗ StG m ρ c n)
      ⊢ iprop((StG m ρ c (n + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sS src dst hsrc hdst) k) Q) := by
  unfold StG
  iintro ⟨#HC, HO, HF⟩ Hk
  ihave HF' := (Fam_step (preG c) (postG m ρ c) hn) $$ HF
  icases HF' with ⟨Hpre, HF⟩
  unfold preG
  icases Hpre with ⟨Hat, Hc⟩
  iapply (step_wait m ρ K c (9 + n) 15 15 15 (by omega) (by omega) (by omega) hS (expect_dma m ρ c (by omega) (by omega) (by omega)) hd 0 (lv_low c (by omega)) (by omega) (by omega) (by omega)) $$ [HO Hat Hc]
  · isplitr; · iexact HC
    isplitl [HO]; · iexact HO
    isplitl [Hat]; · iexact Hat
    iexact Hc
  iintro ⟨HO, Hat, Hp⟩
  ihave Hp := (Entails.of_eq (pay_rsS m ρ c hn)) $$ Hp
  iapply Hk
  isplitl [HO]; · iexact HO
  iapply HF
  unfold postG
  isplitl [Hat]; · iexact Hat
  iexact Hp

/-- The wait for departure `n` of the all-gather. -/
theorem step_waitH (c : Dev nD) {sS : DmaSem sig} {s' s₁ : Shape} {e' e₁ : EltTy} {sp sp' : Space} {κ' : Kind} {src : Memref sig .tc sp' s' e'} {dst : Memref sig κ' sp s₁ e₁}
    {hsrc : src.view.WordExact} {hdst : dst.view.WordExact} (n : ℕ) (hn : n < 15) (hS : sS = dsem (41 + n)) (hd : dst.view.dmaCredit = N) :
    iprop(Ctx m ρ K ∗ StH m ρ c n)
      ⊢ iprop((StH m ρ c (n + 1) -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sS src dst hsrc hdst) k) Q) := by
  unfold StH
  iintro ⟨#HC, HO, HF⟩ Hk
  ihave HF' := (Fam_step (preH c) (postH m ρ c) hn) $$ HF
  icases HF' with ⟨Hpre, HF⟩
  unfold preH
  icases Hpre with ⟨Hat, Hc⟩
  iapply (step_wait m ρ K c (41 + n) 15 15 15 (by omega) (by omega) (by omega) hS (expect_dma m ρ c (by omega) (by omega) (by omega)) hd 0 (lv_low c (by omega)) (by omega) (by omega) (by omega)) $$ [HO Hat Hc]
  · isplitr; · iexact HC
    isplitl [HO]; · iexact HO
    isplitl [Hat]; · iexact Hat
    iexact Hc
  iintro ⟨HO, Hat, Hp⟩
  ihave Hp := (Entails.of_eq (pay_agS m ρ c hn)) $$ Hp
  iapply Hk
  isplitl [HO]; · iexact HO
  iapply HF
  unfold postH
  isplitl [Hat]; · iexact Hat
  iexact Hp

/-- The wait for a head of keys or values, while the device still owes its transfers' arrivals. -/
theorem step_waitK (c : Dev nD) {sS : DmaSem sig} {s' s₁ : Shape} {e' e₁ : EltTy} {sp sp' : Space} {κ' : Kind} {src : Memref sig .tc sp' s' e'} {dst : Memref sig κ' sp s₁ e₁}
    {hsrc : src.view.WordExact} {hdst : dst.view.WordExact} (sl : ℕ) (hn : sl < 4) (hS : sS = dsem (4 + sl)) (hd : dst.view.dmaCredit = Nkv) :
    iprop(Ctx m ρ K ∗ Od c 15 0 0 ∗ atPos ER (dc c (4 + sl)) 0 ∅ 0 ∗ cred (tallyAt (dc c (4 + sl)) () Nkv))
      ⊢ iprop((Od c 15 0 0 ∗ atPos ER (dc c (4 + sl)) 1 ∅ 0 ∗ kvPts c sl (kvBuf m c) ∗ srcPts m c sl -∗ wp frame (wpE (defs₀ (F := F)) 𝒱₀ (c : Thread nD τ) none) Set.univ (k ⟨⟩) Q) -∗ wp frame (wpE (defs₀ (F := F)) 𝒱₀ (c : Thread nD τ) none) Set.univ (.op (.waitDma2 sS src dst hsrc hdst) k) Q) := by
  rw [← pay_kv m ρ c hn]
  exact step_wait m ρ K c (4 + sl) 15 0 0 (by omega) (by omega) (by omega) hS (expect_kv m ρ c (by omega) (by omega)) hd 0 (lv_low c (by omega)) (by omega) (by omega) (by omega)

end Steps
end Cert.KernelIdeal.Run

end
-- ==== Proof.Run.StepsC.lean ====
/-
The loads and stores of the body, and how the buffers come apart and together again.
-/
module

public import proofs.«01_k».proof.Proof.Run.StepsB

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

/-! ## Families -/

theorem bigSep_range_shift (n : ℕ) (Φ : ℕ → sProp (MT nD τ sig Unit (Elt F) ℕ UU ℕ)) :
    bigSep (Finset.range (n + 1)) Φ = iprop(Φ 0 ∗ bigSep (Finset.range n) fun j => Φ (j + 1)) := by
  have e : Finset.Ico (0 + 1) (n + 1) = (Finset.range n).map ⟨(· + 1), fun a b h => by simpa using h⟩ := by
    ext x; simp only [Finset.mem_Ico, Finset.mem_map, Finset.mem_range, Function.Embedding.coeFn_mk]
    constructor
    · intro h; exact ⟨x - 1, by omega, by show x - 1 + 1 = x; omega⟩
    · rintro ⟨y, hy, rfl⟩; show 0 + 1 ≤ y + 1 ∧ y + 1 < n + 1; omega
  rw [Finset.range_eq_Ico, bigSep_Ico_succ_bot (Nat.succ_pos n), e, bigSep_map]
  rfl

theorem Fam_init (pre post : ℕ → sProp (MT nD τ sig Unit (Elt F) ℕ UU ℕ)) : bigSep (Finset.range 15) pre ⊢ Fam (F := F) pre post 0 := by
  unfold Fam
  rw [← Finset.range_eq_Ico, Finset.range_zero, bigSep_empty]
  iintro H
  isplitl [H]; · iexact H
  iempintro
theorem Fam_fin (pre post : ℕ → sProp (MT nD τ sig Unit (Elt F) ℕ UU ℕ)) : Fam (F := F) pre post 15 ⊢ bigSep (Finset.range 15) post := by
  unfold Fam
  rw [Finset.Ico_self, bigSep_empty]
  iintro ⟨-, H⟩
  iexact H
/-- The last step done, looked at and put back. -/
theorem Fam_last (pre post : ℕ → sProp (MT nD τ sig Unit (Elt F) ℕ UU ℕ)) {n : ℕ} :
    Fam (F := F) pre post (n + 1) ⊢ iprop(post n ∗ (post n -∗ Fam (F := F) pre post (n + 1))) := by
  unfold Fam
  rw [bigSep_range_succ n post]
  iintro ⟨Hp, ⟨H, Hd⟩⟩
  isplitl [H]; · iexact H
  iintro H
  isplitl [Hp]; · iexact Hp
  isplitl [H]; · iexact H
  iexact Hd

theorem setOn_wh (b : Ref sig .tc) (r : Rect b.ty.shape) : (View.whole b).setOn r.toLoadRect.set = r.set :=
  (View.set_slice (View.whole b) r).symm.trans (View.set_slice_whole b r)

/-! ## Buffers apart and together -/

theorem peer_inj (c : Dev nD) {i j : ℕ} (hi : i < 16) (hj : j < 16) (h : (peer c i).val = (peer c j).val) : i = j := by
  have := dev_lt c; simp only [peer_val] at h; omega

theorem rs_parts (c : Dev nD) (f : (cc0_scratch1 : Ref sig .tc).ty.Contents (Elt F)) :
    ((c : Thread nD τ).loc cc0_scratch1 ↦{fullShare} f : sProp (MT nD τ sig Unit (Elt F) ℕ UU ℕ)) = iprop(rsPts c 0 f ∗ bigSep (Finset.range 15) fun j => rsPts c (j + 1) f) := by
  refine Eq.trans ?_ (bigSep_range_shift 15 fun j => rsPts c j f)
  have h := pointsTo_biUnion (Ix := Unit) (Name := ℕ) (U := UU) (Lvl := ℕ) (ℓ := (c : Thread nD τ).loc cc0_scratch1) (q := fullShare) (f := f) (Finset.range 16) rsSet (fun a _ b _ hab => Finset.disjoint_left.mpr fun i ha hb => hab ((mem_rsSet.mp ha).symm.trans (mem_rsSet.mp hb)))
  refine Eq.trans (congrArg (fun S => ((c : Thread nD τ).loc cc0_scratch1 ↦[S]{fullShare} f : sProp (MT nD τ sig Unit (Elt F) ℕ UU ℕ))) (Finset.eq_univ_of_forall fun i => ?_).symm) h
  exact Finset.mem_biUnion.mpr ⟨(i 0).val, Finset.mem_range.mpr (i 0).isLt, mem_rsSet.mpr rfl⟩

theorem ag_parts (c : Dev nD) (f : (cc0_scratch2 : Ref sig .tc).ty.Contents (Elt F)) :
    ((c : Thread nD τ).loc cc0_scratch2 ↦{fullShare} f : sProp (MT nD τ sig Unit (Elt F) ℕ UU ℕ)) = bigSep (Finset.range 15) fun j => agPts c j f := by
  have h := pointsTo_biUnion (Ix := Unit) (Name := ℕ) (U := UU) (Lvl := ℕ) (ℓ := (c : Thread nD τ).loc cc0_scratch2) (q := fullShare) (f := f) (Finset.range 15) agSet (fun a _ b _ hab => Finset.disjoint_left.mpr fun i ha hb => hab ((mem_agSet.mp ha).symm.trans (mem_agSet.mp hb)))
  refine Eq.trans (congrArg (fun S => ((c : Thread nD τ).loc cc0_scratch2 ↦[S]{fullShare} f : sProp (MT nD τ sig Unit (Elt F) ℕ UU ℕ))) (Finset.eq_univ_of_forall fun i => ?_).symm) h
  exact Finset.mem_biUnion.mpr ⟨(i 0).val, Finset.mem_range.mpr (i 0).isLt, mem_agSet.mpr rfl⟩

theorem kv_parts (c : Dev nD) (f : (cc0_scratch3 : Ref sig .tc).ty.Contents (Elt F)) :
    ((c : Thread nD τ).loc cc0_scratch3 ↦{fullShare} f : sProp (MT nD τ sig Unit (Elt F) ℕ UU ℕ)) = iprop(kvPts c 3 f ∗ kvPts c 2 f ∗ kvPts c 1 f ∗ kvPts c 0 f ∗ emp) := by
  have h := pointsTo_biUnion (Ix := Unit) (Name := ℕ) (U := UU) (Lvl := ℕ) (ℓ := (c : Thread nD τ).loc cc0_scratch3) (q := fullShare) (f := f) (Finset.range 4) kvSet (fun a _ b _ hab => Finset.disjoint_left.mpr fun i ha hb => hab ((mem_kvSet.mp ha).symm.trans (mem_kvSet.mp hb)))
  refine Eq.trans (congrArg (fun S => ((c : Thread nD τ).loc cc0_scratch3 ↦[S]{fullShare} f : sProp (MT nD τ sig Unit (Elt F) ℕ UU ℕ))) (Finset.eq_univ_of_forall fun i => ?_).symm) (h.trans ?_)
  · exact Finset.mem_biUnion.mpr ⟨(i 0).val, Finset.mem_range.mpr (i 0).isLt, mem_kvSet.mpr rfl⟩
  · rw [bigSep_range_succ, bigSep_range_succ, bigSep_range_succ, bigSep_range_succ, Finset.range_zero, bigSep_empty]
    unfold kvPts
    rfl

theorem acc_parts (c : Dev nD) (f : (cc0_scratch0 : Ref sig .tc).ty.Contents (Elt F)) :
    ((c : Thread nD τ).loc cc0_scratch0 ↦{fullShare} f : sProp (MT nD τ sig Unit (Elt F) ℕ UU ℕ)) = iprop(accPts c (peer c 0).val f ∗ bigSep (Finset.range 15) fun j => accPts c (peer c (j + 1)).val f) := by
  refine Eq.trans ?_ (bigSep_range_shift 15 fun j => accPts c (peer c j).val f)
  have h := pointsTo_biUnion (Ix := Unit) (Name := ℕ) (U := UU) (Lvl := ℕ) (ℓ := (c : Thread nD τ).loc cc0_scratch0) (q := fullShare) (f := f) (Finset.range 16) (fun j => accSet (peer c j).val) (fun a ha b hb hab => Finset.disjoint_left.mpr fun i h1 h2 =>
    hab (peer_inj c (Finset.mem_range.mp ha) (Finset.mem_range.mp hb) ((mem_accSet.mp h1).symm.trans (mem_accSet.mp h2))))
  refine Eq.trans (congrArg (fun S => ((c : Thread nD τ).loc cc0_scratch0 ↦[S]{fullShare} f : sProp (MT nD τ sig Unit (Elt F) ℕ UU ℕ))) (Finset.eq_univ_of_forall fun i => ?_).symm) h
  have hi : (i 0).val < 256 := (i 0).isLt
  have hc := dev_lt c
  exact Finset.mem_biUnion.mpr ⟨((i 0).val / 16 + 16 - c.val) % 16, Finset.mem_range.mpr (by omega), mem_accSet.mpr (by rw [peer_val]; omega)⟩

/-! ## The result -/

/-- The sixteen rows of the result that belong to the device `j` places after `c`. -/
def outChunk (c : Dev nD) (j : ℕ) : FVec F S1x16x1024 .f32 := if j = 0 then k0_pay17 (rsBuf m ρ c) else k0_pay19 (redB m ρ (peer c j))
/-- The whole result on a device. -/
def outFin (c : Dev nD) : (cc0_stg3_0 : Ref sig .tc).ty.Contents (Elt F) := fun i =>
  outChunk m ρ c (((i 1).val / 16 + 16 - c.val) % 16) (ix3 (⟨0, Nat.one_pos⟩ : Fin 1) (⟨(i 1).val % 16, Nat.mod_lt _ (by decide)⟩ : Fin 16) (i 2) : S1x16x1024.Idx)
/-- The result buffer once the rows of the device and of the `n` after it are in. -/
def Outs (c : Dev nD) (n : ℕ) : sProp 𝕄 :=
  iprop(∃ f, ⌜∀ i : S1x256x1024.Idx, ((i 1).val / 16 + 16 - c.val) % 16 < n → f i = outFin m ρ c i⌝ ∗ ((c : Thread nD τ).loc cc0_stg3_0 ↦{fullShare} f))

theorem outs_init (c : Dev nD) (f : (cc0_stg3_0 : Ref sig .tc).ty.Contents (Elt F)) : ((c : Thread nD τ).loc cc0_stg3_0 ↦{fullShare} f : sProp (MT nD τ sig Unit (Elt F) ℕ UU ℕ)) ⊢ Outs m ρ c 0 := by
  unfold Outs
  iintro H
  iexists f
  isplitr; · ipureintro; intro i hi; omega
  iexact H
theorem outs_fin (c : Dev nD) : Outs m ρ c 16 ⊢ ((c : Thread nD τ).loc cc0_stg3_0 ↦{fullShare} outFin m ρ c : sProp (MT nD τ sig Unit (Elt F) ℕ UU ℕ)) := by
  unfold Outs
  iintro ⟨%f, %hf, H⟩
  have e : f = outFin m ρ c := funext fun i => hf i (Nat.mod_lt _ (by decide))
  subst e
  iexact H

section Steps
variable {α : Type} {Q : α → sProp (MT nD τ sig Unit (Elt F) ℕ UU ℕ)}

/-! ## Loads -/

theorem step_load_x (c : Dev nD) {inb : ∀ a, (![0, 0, 0] : Fin 3 → Nat) a + S1x256x1024.size a ≤ S1x256x1024.size a} {hl} {q : PosShare TreeShare} {f : (cc0_stg0_0 : Ref sig .tc).ty.Contents (Elt F)} {k : Vec F S1x256x1024 .f32 → Prog (TpuEff nD τ sig (Elt F) Λ₀ .tc) α} :
    ((c : Thread nD τ).loc cc0_stg0_0 ↦{q} f : sProp (MT nD τ sig Unit (Elt F) ℕ UU ℕ))
      ⊢ iprop((((c : Thread nD τ).loc cc0_stg0_0 ↦{q} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_stg0_0) (Rect.unit (s := S1x256x1024) ![0, 0, 0] S1x256x1024.size inb).toLoadRect hl) k) Q) := by
  have e : (Memref.whole cc0_stg0_0 : Memref sig .tc .vmem S1x256x1024 .f32).view.readAt (Elt F) (Rect.unit (s := S1x256x1024) ![0, 0, 0] S1x256x1024.size inb).toLoadRect f = f := Memref.readAt_unit_zero (Elt F) cc0_stg0_0 (off := ![0, 0, 0]) (by funext a; fin_cases a <;> rfl) inb f
  have W := wp_load (Q := Q) (defs := defs₀ (F := F)) 𝒱₀ (c : Thread nD τ) none (Γ := .empty) Set.univ (m := Memref.whole cc0_stg0_0) (r := (Rect.unit (s := S1x256x1024) ![0, 0, 0] S1x256x1024.size inb).toLoadRect) (hl := hl) (k := k) (S := Finset.univ) (q := q) (f := f) (Finset.subset_univ _)
  rw [e] at W
  exact W

theorem step_load_wq (c : Dev nD) {inb : ∀ a, (![0, 0] : Fin 2 → Nat) a + S1024x1024.size a ≤ S1024x1024.size a} {hl} {q : PosShare TreeShare} {f : (cc0_stg1_0 : Ref sig .tc).ty.Contents (Elt F)} {k : Vec F S1024x1024 .f32 → Prog (TpuEff nD τ sig (Elt F) Λ₀ .tc) α} :
    ((c : Thread nD τ).loc cc0_stg1_0 ↦{q} f : sProp (MT nD τ sig Unit (Elt F) ℕ UU ℕ))
      ⊢ iprop((((c : Thread nD τ).loc cc0_stg1_0 ↦{q} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_stg1_0) (Rect.unit (s := S1024x1024) ![0, 0] S1024x1024.size inb).toLoadRect hl) k) Q) := by
  have e : (Memref.whole cc0_stg1_0 : Memref sig .tc .vmem S1024x1024 .f32).view.readAt (Elt F) (Rect.unit (s := S1024x1024) ![0, 0] S1024x1024.size inb).toLoadRect f = f := Memref.readAt_unit_zero (Elt F) cc0_stg1_0 (off := ![0, 0]) (by funext a; fin_cases a <;> rfl) inb f
  have W := wp_load (Q := Q) (defs := defs₀ (F := F)) 𝒱₀ (c : Thread nD τ) none (Γ := .empty) Set.univ (m := Memref.whole cc0_stg1_0) (r := (Rect.unit (s := S1024x1024) ![0, 0] S1024x1024.size inb).toLoadRect) (hl := hl) (k := k) (S := Finset.univ) (q := q) (f := f) (Finset.subset_univ _)
  rw [e] at W
  exact W

theorem step_load_wo (c : Dev nD) {inb : ∀ a, (![0, 0] : Fin 2 → Nat) a + S1024x1024.size a ≤ S1024x1024.size a} {hl} {q : PosShare TreeShare} {f : (cc0_stg2_0 : Ref sig .tc).ty.Contents (Elt F)} {k : Vec F S1024x1024 .f32 → Prog (TpuEff nD τ sig (Elt F) Λ₀ .tc) α} :
    ((c : Thread nD τ).loc cc0_stg2_0 ↦{q} f : sProp (MT nD τ sig Unit (Elt F) ℕ UU ℕ))
      ⊢ iprop((((c : Thread nD τ).loc cc0_stg2_0 ↦{q} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_stg2_0) (Rect.unit (s := S1024x1024) ![0, 0] S1024x1024.size inb).toLoadRect hl) k) Q) := by
  have e : (Memref.whole cc0_stg2_0 : Memref sig .tc .vmem S1024x1024 .f32).view.readAt (Elt F) (Rect.unit (s := S1024x1024) ![0, 0] S1024x1024.size inb).toLoadRect f = f := Memref.readAt_unit_zero (Elt F) cc0_stg2_0 (off := ![0, 0]) (by funext a; fin_cases a <;> rfl) inb f
  have W := wp_load (Q := Q) (defs := defs₀ (F := F)) 𝒱₀ (c : Thread nD τ) none (Γ := .empty) Set.univ (m := Memref.whole cc0_stg2_0) (r := (Rect.unit (s := S1024x1024) ![0, 0] S1024x1024.size inb).toLoadRect) (hl := hl) (k := k) (S := Finset.univ) (q := q) (f := f) (Finset.subset_univ _)
  rw [e] at W
  exact W

theorem step_load_acc (c : Dev nD) {inb : ∀ a, (![0, 0] : Fin 2 → Nat) a + S256x1024.size a ≤ S256x1024.size a} {hl} {q : PosShare TreeShare} {f : (cc0_scratch0 : Ref sig .tc).ty.Contents (Elt F)} {k : Vec F S256x1024 .bf16 → Prog (TpuEff nD τ sig (Elt F) Λ₀ .tc) α} :
    ((c : Thread nD τ).loc cc0_scratch0 ↦{q} f : sProp (MT nD τ sig Unit (Elt F) ℕ UU ℕ))
      ⊢ iprop((((c : Thread nD τ).loc cc0_scratch0 ↦{q} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_scratch0) (Rect.unit (s := S256x1024) ![0, 0] S256x1024.size inb).toLoadRect hl) k) Q) := by
  have e : (Memref.whole cc0_scratch0 : Memref sig .tc .vmem S256x1024 .bf16).view.readAt (Elt F) (Rect.unit (s := S256x1024) ![0, 0] S256x1024.size inb).toLoadRect f = f := Memref.readAt_unit_zero (Elt F) cc0_scratch0 (off := ![0, 0]) (by funext a; fin_cases a <;> rfl) inb f
  have W := wp_load (Q := Q) (defs := defs₀ (F := F)) 𝒱₀ (c : Thread nD τ) none (Γ := .empty) Set.univ (m := Memref.whole cc0_scratch0) (r := (Rect.unit (s := S256x1024) ![0, 0] S256x1024.size inb).toLoadRect) (hl := hl) (k := k) (S := Finset.univ) (q := q) (f := f) (Finset.subset_univ _)
  rw [e] at W
  exact W

theorem step_load_rs (c : Dev nD) {inb : ∀ a, (![0, 0, 0] : Fin 3 → Nat) a + S16x16x1024.size a ≤ S16x16x1024.size a} {hl} {q : PosShare TreeShare} {f : (cc0_scratch1 : Ref sig .tc).ty.Contents (Elt F)} {k : Vec F S16x16x1024 .bf16 → Prog (TpuEff nD τ sig (Elt F) Λ₀ .tc) α} :
    ((c : Thread nD τ).loc cc0_scratch1 ↦{q} f : sProp (MT nD τ sig Unit (Elt F) ℕ UU ℕ))
      ⊢ iprop((((c : Thread nD τ).loc cc0_scratch1 ↦{q} f) -∗ wp frame (wpE (defs₀ (F := F)) 𝒱₀ (c : Thread nD τ) none) Set.univ (k f) Q) -∗ wp frame (wpE (defs₀ (F := F)) 𝒱₀ (c : Thread nD τ) none) Set.univ (.op (.load (Memref.whole cc0_scratch1) (Rect.unit (s := S16x16x1024) ![0, 0, 0] S16x16x1024.size inb).toLoadRect hl) k) Q) := by
  have e : (Memref.whole cc0_scratch1 : Memref sig .tc .vmem S16x16x1024 .bf16).view.readAt (Elt F) (Rect.unit (s := S16x16x1024) ![0, 0, 0] S16x16x1024.size inb).toLoadRect f = f := Memref.readAt_unit_zero (Elt F) cc0_scratch1 (off := ![0, 0, 0]) (by funext a; fin_cases a <;> rfl) inb f
  have W := wp_load (Q := Q) (defs := defs₀ (F := F)) 𝒱₀ (c : Thread nD τ) none (Γ := .empty) Set.univ (m := Memref.whole cc0_scratch1) (r := (Rect.unit (s := S16x16x1024) ![0, 0, 0] S16x16x1024.size inb).toLoadRect) (hl := hl) (k := k) (S := Finset.univ) (q := q) (f := f) (Finset.subset_univ _)
  rw [e] at W
  exact W

theorem step_loadKV (c : Dev nD) (sl : ℕ) {h : ∀ a, (![sl, 0, 0] : Fin 3 → Nat) a + S1x4096x128.size a ≤ S4x4096x128.size a} {hl} {k : Vec F S1x4096x128 .f32 → Prog (TpuEff nD τ sig (Elt F) Λ₀ .tc) α} :
    kvPts c sl (kvBuf m c)
      ⊢ iprop((kvPts c sl (kvBuf m c) -∗ wp frame (wpE (defs₀ (F := F)) 𝒱₀ (c : Thread nD τ) none) Set.univ (k (kvRd m c sl h)) Q) -∗ wp frame (wpE (defs₀ (F := F)) 𝒱₀ (c : Thread nD τ) none) Set.univ (.op (.load (Memref.whole cc0_scratch3) (Rect.unit (s := S4x4096x128) ![sl, 0, 0] S1x4096x128.size h).toLoadRect hl) k) Q) := by
  unfold kvPts
  exact wp_load (Q := Q) (defs := defs₀ (F := F)) 𝒱₀ (c : Thread nD τ) none (Γ := .empty) Set.univ (m := Memref.whole cc0_scratch3) (r := (Rect.unit (s := S4x4096x128) ![sl, 0, 0] S1x4096x128.size h).toLoadRect) (hl := hl) (k := k)
    (S := kvSet sl) (q := fullShare) (f := kvBuf m c) ((setOn_wh _ _).trans (kvRect_set sl h)).subset

/-- The device's own rows of the partial product. -/
def ownRows (c : Dev nD) : Vec F S16x1024 .bf16 := fun i => acc m ρ c (ix2 (⟨16 * c.val + (i 0).val, row_lt c (i 0)⟩ : Fin 256) (i 1) : S256x1024.Idx)

theorem step_loadAcc (c : Dev nD) {off : Fin 2 → Nat} (hoff : off = ![16 * c.val, 0]) {h : ∀ a, off a + S16x1024.size a ≤ S256x1024.size a} {hl} {k : Vec F S16x1024 .bf16 → Prog (TpuEff nD τ sig (Elt F) Λ₀ .tc) α} :
    accPts c (peer c 0).val (acc m ρ c)
      ⊢ iprop((accPts c (peer c 0).val (acc m ρ c) -∗ wp frame (wpE (defs₀ (F := F)) 𝒱₀ (c : Thread nD τ) none) Set.univ (k (ownRows m ρ c)) Q) -∗ wp frame (wpE (defs₀ (F := F)) 𝒱₀ (c : Thread nD τ) none) Set.univ (.op (.load (Memref.whole cc0_scratch0) (Rect.unit (s := S256x1024) off S16x1024.size h).toLoadRect hl) k) Q) := by
  subst hoff
  rw [peer_back c rfl]
  unfold accPts
  have W := wp_load (Q := Q) (defs := defs₀ (F := F)) 𝒱₀ (c : Thread nD τ) none (Γ := .empty) Set.univ (m := Memref.whole cc0_scratch0) (r := (Rect.unit (s := S256x1024) ![16 * c.val, 0] S16x1024.size h).toLoadRect) (hl := hl) (k := k)
    (S := accSet c.val) (q := fullShare) (f := acc m ρ c) ((setOn_wh _ _).trans (accRect_set c.val h)).subset
  have e : (Memref.whole cc0_scratch0 : Memref sig .tc .vmem S256x1024 .bf16).view.readAt (Elt F) (Rect.unit (s := S256x1024) ![16 * c.val, 0] S16x1024.size h).toLoadRect (acc m ρ c) = ownRows m ρ c := by
    funext i
    rw [eq_ix2 i]
    exact accR_read c.val h (dev_lt c) (acc m ρ c) (i 0) (i 1)
  rw [e] at W
  exact W

theorem step_loadRS (c : Dev nD) (f : (cc0_scratch1 : Ref sig .tc).ty.Contents (Elt F)) {h : ∀ a, (![0, 0, 0] : Fin 3 → Nat) a + S1x16x1024.size a ≤ S16x16x1024.size a} {hl} {k : Vec F S1x16x1024 .bf16 → Prog (TpuEff nD τ sig (Elt F) Λ₀ .tc) α} :
    rsPts c 0 f
      ⊢ iprop((∀ v, rsPts c 0 f -∗ wp frame (wpE (defs₀ (F := F)) 𝒱₀ (c : Thread nD τ) none) Set.univ (k v) Q) -∗ wp frame (wpE (defs₀ (F := F)) 𝒱₀ (c : Thread nD τ) none) Set.univ (.op (.load (Memref.whole cc0_scratch1) (Rect.unit (s := S16x16x1024) ![0, 0, 0] S1x16x1024.size h).toLoadRect hl) k) Q) := by
  unfold rsPts
  have W := wp_load (Q := Q) (defs := defs₀ (F := F)) 𝒱₀ (c : Thread nD τ) none (Γ := .empty) Set.univ (m := Memref.whole cc0_scratch1) (r := (Rect.unit (s := S16x16x1024) ![0, 0, 0] S1x16x1024.size h).toLoadRect) (hl := hl) (k := k)
    (S := rsSet 0) (q := fullShare) (f := f) ((setOn_wh _ _).trans (rsRect_set 0 h)).subset
  iintro H Hk
  iapply W $$ H
  iintro H
  iapply Hk; iexact H

theorem step_loadAG (c : Dev nD) (n : ℕ) (hn : n < 15) {h : ∀ a, (![n, 0, 0] : Fin 3 → Nat) a + S1x16x1024.size a ≤ S15x16x1024.size a} {hl} {k : Vec F S1x16x1024 .bf16 → Prog (TpuEff nD τ sig (Elt F) Λ₀ .tc) α} :
    StE m ρ c (n + 1)
      ⊢ iprop((StE m ρ c (n + 1) -∗ wp frame (wpE (defs₀ (F := F)) 𝒱₀ (c : Thread nD τ) none) Set.univ (k (redB m ρ (peer c (n + 1)))) Q) -∗ wp frame (wpE (defs₀ (F := F)) 𝒱₀ (c : Thread nD τ) none) Set.univ (.op (.load (Memref.whole cc0_scratch2) (Rect.unit (s := S15x16x1024) ![n, 0, 0] S1x16x1024.size h).toLoadRect hl) k) Q) := by
  have W := wp_load (Q := Q) (defs := defs₀ (F := F)) 𝒱₀ (c : Thread nD τ) none (Γ := .empty) Set.univ (m := Memref.whole cc0_scratch2) (r := (Rect.unit (s := S15x16x1024) ![n, 0, 0] S1x16x1024.size h).toLoadRect) (hl := hl) (k := k)
    (S := agSet n) (q := fullShare) (f := agBuf m ρ c) ((setOn_wh _ _).trans (agRect_set n h)).subset
  have e : (Memref.whole cc0_scratch2 : Memref sig .tc .vmem S15x16x1024 .bf16).view.readAt (Elt F) (Rect.unit (s := S15x16x1024) ![n, 0, 0] S1x16x1024.size h).toLoadRect (agBuf m ρ c) = redB m ρ (peer c (n + 1)) := by
    funext i
    show redB m ρ (peer c (((Rect.unit (s := S15x16x1024) ![n, 0, 0] S1x16x1024.size h).emb i 0).val + 1)) (ix3 _ ((Rect.unit (s := S15x16x1024) ![n, 0, 0] S1x16x1024.size h).emb i 1) ((Rect.unit (s := S15x16x1024) ![n, 0, 0] S1x16x1024.size h).emb i 2)) = _
    have h0 : (i 0).val < 1 := (i 0).isLt
    have e0 : ((Rect.unit (s := S15x16x1024) ![n, 0, 0] S1x16x1024.size h).emb i 0).val = n := by rw [Rect.emb_apply]; simp; omega
    rw [e0]
    congr 1
    refine Eq.trans ?_ (eq_ix3 i).symm
    funext a; apply Fin.ext
    fin_cases a
    · simp; omega
    · show ((Rect.unit (s := S15x16x1024) ![n, 0, 0] S1x16x1024.size h).emb i 1).val = (i 1).val
      rw [Rect.emb_apply]; simp
    · show ((Rect.unit (s := S15x16x1024) ![n, 0, 0] S1x16x1024.size h).emb i 2).val = (i 2).val
      rw [Rect.emb_apply]; simp
  rw [e] at W
  unfold StE
  iintro ⟨HO, HF⟩ Hk
  ihave HF' := (Fam_last (preE c) (postE m ρ c)) $$ HF
  icases HF' with ⟨Hp, HF⟩
  unfold postE agPts
  icases Hp with ⟨Hat, Ha⟩
  iapply W $$ Ha
  iintro Ha
  iapply Hk
  isplitl [HO]; · iexact HO
  iapply HF
  isplitl [Hat]; · iexact Hat
  iexact Ha

theorem step_loadOut (c : Dev nD) (n : ℕ) {off : Fin 3 → Nat} {h : ∀ a, off a + S1x16x1024.size a ≤ S1x256x1024.size a} {hl} {k : Vec F S1x16x1024 .f32 → Prog (TpuEff nD τ sig (Elt F) Λ₀ .tc) α} :
    Outs m ρ c n
      ⊢ iprop((∀ v, Outs m ρ c n -∗ wp frame (wpE (defs₀ (F := F)) 𝒱₀ (c : Thread nD τ) none) Set.univ (k v) Q) -∗ wp frame (wpE (defs₀ (F := F)) 𝒱₀ (c : Thread nD τ) none) Set.univ (.op (.load (Memref.whole cc0_stg3_0) (Rect.unit (s := S1x256x1024) off S1x16x1024.size h).toLoadRect hl) k) Q) := by
  unfold Outs
  iintro ⟨%f, %hf, H⟩ Hk
  iapply (wp_load (Q := Q) (defs := defs₀ (F := F)) 𝒱₀ (c : Thread nD τ) none (Γ := .empty) Set.univ (m := Memref.whole cc0_stg3_0) (r := (Rect.unit (s := S1x256x1024) off S1x16x1024.size h).toLoadRect) (hl := hl) (k := k)
    (S := Finset.univ) (q := fullShare) (f := f) (Finset.subset_univ _)) $$ H
  iintro H
  iapply Hk
  iexists f
  isplitr; · ipureintro; exact hf
  iexact H

/-! ## Stores -/

theorem step_storeAcc (c : Dev nD) {inb : ∀ a, (![0, 0] : Fin 2 → Nat) a + S256x1024.size a ≤ S256x1024.size a}
    {hx hm} {f w : (cc0_scratch0 : Ref sig .tc).ty.Contents (Elt F)} {k : PUnit → Prog (TpuEff nD τ sig (Elt F) Λ₀ .tc) α} :
    ((c : Thread nD τ).loc cc0_scratch0 ↦{fullShare} f : sProp (MT nD τ sig Unit (Elt F) ℕ UU ℕ))
      ⊢ iprop((((c : Thread nD τ).loc cc0_scratch0 ↦{fullShare} w) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_scratch0) (Rect.unit (s := S256x1024) ![0, 0] S256x1024.size inb) w Finset.univ hx hm) k) Q) := by
  have e : ((Memref.whole cc0_scratch0 : Memref sig .tc .vmem S256x1024 .bf16).access (Rect.unit (s := S256x1024) ![0, 0] S256x1024.size inb) : View sig .tc _ _ _).write (Elt F) f w Finset.univ = w := Memref.write_access_unit_zero_univ (Elt F) cc0_scratch0 (off := ![0, 0]) (by funext a; fin_cases a <;> rfl) inb f w
  have W := wp_store (Q := Q) (defs := defs₀ (F := F)) 𝒱₀ (c : Thread nD τ) none (Γ := .empty) Set.univ (m := Memref.whole cc0_scratch0) (r := Rect.unit (s := S256x1024) ![0, 0] S256x1024.size inb) (w := w) (Mk := Finset.univ) (hx := hx) (hm := hm) (k := k) (S := Finset.univ) (f := f) (Finset.subset_univ _)
  rw [e] at W
  exact W

/-- A store into slot 0 of the landing buffer. -/
theorem step_storeRS (c : Dev nD) (f g : (cc0_scratch1 : Ref sig .tc).ty.Contents (Elt F)) {h : ∀ a, (![0, 0, 0] : Fin 3 → Nat) a + S1x16x1024.size a ≤ S16x16x1024.size a} {w : Vec F S1x16x1024 .bf16} {hx hm} {k : PUnit → Prog (TpuEff nD τ sig (Elt F) Λ₀ .tc) α}
    (hw : ∀ (a : Fin 16) (b : Fin 1024), w (ix3 (⟨0, Nat.one_pos⟩ : Fin 1) a b) = g (ix3 (⟨0, by decide⟩ : Fin 16) a b)) :
    rsPts c 0 f
      ⊢ iprop((rsPts c 0 g -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_scratch1) (Rect.unit (s := S16x16x1024) ![0, 0, 0] S1x16x1024.size h) w Finset.univ hx hm) k) Q) := by
  have e : ((c : Thread nD τ).loc cc0_scratch1 ↦[rsSet 0]{fullShare} (((Memref.whole cc0_scratch1 : Memref sig .tc .vmem S16x16x1024 .bf16).access (Rect.unit (s := S16x16x1024) ![0, 0, 0] S1x16x1024.size h)).write (Elt F) f w Finset.univ) : sProp (MT nD τ sig Unit (Elt F) ℕ UU ℕ)) = ((c : Thread nD τ).loc cc0_scratch1 ↦[rsSet 0]{fullShare} g) := by
    refine pointsTo_congr fun i hi => ?_
    have hk := mem_rsSet.mp hi
    have ei : i = ((Memref.whole cc0_scratch1 : Memref sig .tc .vmem S16x16x1024 .bf16).access (Rect.unit (s := S16x16x1024) ![0, 0, 0] S1x16x1024.size h)).emb (ix3 (⟨0, Nat.one_pos⟩ : Fin 1) (i 1) (i 2) : S1x16x1024.Idx) := by
      show i = (Rect.unit (s := S16x16x1024) ![0, 0, 0] S1x16x1024.size h).emb _
      funext a; apply Fin.ext; rw [Rect.emb_apply]
      fin_cases a
      · simp [hk]
      · simp
      · simp; rfl
    conv_lhs => rw [ei]
    rw [View.write_emb_of_mem _ _ (Finset.mem_univ _)]
    refine (hw (i 1) (i 2)).trans ?_
    congr 1
    refine Eq.trans ?_ (eq_ix3 i).symm
    congr 1
    exact Fin.ext hk.symm
  unfold rsPts
  iintro H Hk
  iapply (wp_store (Q := Q) (defs := defs₀ (F := F)) 𝒱₀ (c : Thread nD τ) none (Γ := .empty) Set.univ (m := Memref.whole cc0_scratch1) (r := Rect.unit (s := S16x16x1024) ![0, 0, 0] S1x16x1024.size h) (w := w) (Mk := Finset.univ) (hx := hx) (hm := hm) (k := k)
    (S := rsSet 0) (f := f) ((View.setOn_univ _).trans ((View.set_slice_whole _ _).trans (rsRect_set 0 h))).subset) $$ H
  iintro H
  ihave H := (Entails.of_eq e) $$ H
  iapply Hk; iexact H

/-- A store of the rows of the device `n` places on. -/
theorem step_storeOut (c : Dev nD) (n : ℕ) (hn : n < 16) {off : Fin 3 → Nat} (hoff : off = ![0, 16 * (peer c n).val, 0]) {h : ∀ a, off a + S1x16x1024.size a ≤ S1x256x1024.size a} {w : Vec F S1x16x1024 .f32} {hx hm} {k : PUnit → Prog (TpuEff nD τ sig (Elt F) Λ₀ .tc) α}
    (hw : w = outChunk m ρ c n) :
    Outs m ρ c n
      ⊢ iprop((Outs m ρ c (n + 1) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_stg3_0) (Rect.unit (s := S1x256x1024) off S1x16x1024.size h) w Finset.univ hx hm) k) Q) := by
  subst hoff hw
  unfold Outs
  iintro ⟨%f, %hf, H⟩ Hk
  iapply (wp_store (Q := Q) (defs := defs₀ (F := F)) 𝒱₀ (c : Thread nD τ) none (Γ := .empty) Set.univ (m := Memref.whole cc0_stg3_0) (r := Rect.unit (s := S1x256x1024) ![0, 16 * (peer c n).val, 0] S1x16x1024.size h) (w := outChunk m ρ c n) (Mk := Finset.univ) (hx := hx) (hm := hm) (k := k)
    (S := Finset.univ) (f := f) (Finset.subset_univ _)) $$ H
  iintro H
  iapply Hk
  iexists (((Memref.whole cc0_stg3_0 : Memref sig .tc .vmem S1x256x1024 .f32).access (Rect.unit (s := S1x256x1024) ![0, 16 * (peer c n).val, 0] S1x16x1024.size h)).write (Elt F) f (outChunk m ρ c n) Finset.univ)
  isplitr
  · ipureintro
    intro i hi
    have hc := dev_lt c
    have hi1 : (i 1).val < 256 := (i 1).isLt
    have hp := peer_val c n
    by_cases hin : ((i 1).val / 16 + 16 - c.val) % 16 = n
    · have ei : i = ((Memref.whole cc0_stg3_0 : Memref sig .tc .vmem S1x256x1024 .f32).access (Rect.unit (s := S1x256x1024) ![0, 16 * (peer c n).val, 0] S1x16x1024.size h)).emb (ix3 (⟨0, Nat.one_pos⟩ : Fin 1) (⟨(i 1).val % 16, Nat.mod_lt _ (by decide)⟩ : Fin 16) (i 2) : S1x16x1024.Idx) := by
        show i = (Rect.unit (s := S1x256x1024) ![0, 16 * (peer c n).val, 0] S1x16x1024.size h).emb _
        have h0 : (i 0).val < 1 := (i 0).isLt
        funext a; apply Fin.ext; rw [Rect.emb_apply]
        fin_cases a
        · simp; omega
        · simp; omega
        · simp
      conv_lhs => rw [ei]
      rw [View.write_emb_of_mem _ _ (Finset.mem_univ _)]
      unfold outFin
      rw [hin]
      rfl
    · refine Eq.trans ?_ (hf i (by omega))
      refine View.write_of_not_mem _ _ _ ?_
      intro hmem
      rw [View.setOn_univ] at hmem
      have h2 : i ∈ (Rect.unit (s := S1x256x1024) ![0, 16 * (peer c n).val, 0] S1x16x1024.size h).set := by
        exact (View.set_slice_whole cc0_stg3_0 (Rect.unit (s := S1x256x1024) ![0, 16 * (peer c n).val, 0] S1x16x1024.size h)) ▸ hmem
      rw [Rect.mem_set_unit] at h2
      have := h2 1
      simp [S1x16x1024] at this
      omega
  iexact H

end Steps
end Cert.KernelIdeal.Run
end
-- ==== Proof.Run.Dev.lean ====
/-
The devices and offsets the body computes, in the numbering of the devices around.
-/
module

public import proofs.«01_k».proof.Proof.Run.Common

@[expose] public section

namespace Cert.KernelIdeal.Run

open Cert.KernelIdeal Cert.KernelIdeal.Gen
open Idealize.ShloMosaic

theorem dev1_eq (c : Dev nD) : (⟨k0_dev1 c, k0_dev1_lt c⟩ : Dev nD) = peer c (0 + 1) := by revert c; decide +kernel
theorem dev2_eq (c : Dev nD) : (⟨k0_dev2 c, k0_dev2_lt c⟩ : Dev nD) = peer c (1 + 1) := by revert c; decide +kernel
theorem dev3_eq (c : Dev nD) : (⟨k0_dev3 c, k0_dev3_lt c⟩ : Dev nD) = peer c (2 + 1) := by revert c; decide +kernel
theorem dev4_eq (c : Dev nD) : (⟨k0_dev4 c, k0_dev4_lt c⟩ : Dev nD) = peer c (3 + 1) := by revert c; decide +kernel
theorem dev5_eq (c : Dev nD) : (⟨k0_dev5 c, k0_dev5_lt c⟩ : Dev nD) = peer c (4 + 1) := by revert c; decide +kernel
theorem dev6_eq (c : Dev nD) : (⟨k0_dev6 c, k0_dev6_lt c⟩ : Dev nD) = peer c (5 + 1) := by revert c; decide +kernel
theorem dev7_eq (c : Dev nD) : (⟨k0_dev7 c, k0_dev7_lt c⟩ : Dev nD) = peer c (6 + 1) := by revert c; decide +kernel
theorem dev8_eq (c : Dev nD) : (⟨k0_dev8 c, k0_dev8_lt c⟩ : Dev nD) = peer c (7 + 1) := by revert c; decide +kernel
theorem dev9_eq (c : Dev nD) : (⟨k0_dev9 c, k0_dev9_lt c⟩ : Dev nD) = peer c (8 + 1) := by revert c; decide +kernel
theorem dev10_eq (c : Dev nD) : (⟨k0_dev10 c, k0_dev10_lt c⟩ : Dev nD) = peer c (9 + 1) := by revert c; decide +kernel
theorem dev11_eq (c : Dev nD) : (⟨k0_dev11 c, k0_dev11_lt c⟩ : Dev nD) = peer c (10 + 1) := by revert c; decide +kernel
theorem dev12_eq (c : Dev nD) : (⟨k0_dev12 c, k0_dev12_lt c⟩ : Dev nD) = peer c (11 + 1) := by revert c; decide +kernel
theorem dev13_eq (c : Dev nD) : (⟨k0_dev13 c, k0_dev13_lt c⟩ : Dev nD) = peer c (12 + 1) := by revert c; decide +kernel
theorem dev14_eq (c : Dev nD) : (⟨k0_dev14 c, k0_dev14_lt c⟩ : Dev nD) = peer c (13 + 1) := by revert c; decide +kernel
theorem dev15_eq (c : Dev nD) : (⟨k0_dev15 c, k0_dev15_lt c⟩ : Dev nD) = peer c (14 + 1) := by revert c; decide +kernel
theorem dev16_eq (c : Dev nD) : (⟨k0_dev16 c, k0_dev16_lt c⟩ : Dev nD) = peer c (0 + 1) := by revert c; decide +kernel
theorem dev17_eq (c : Dev nD) : (⟨k0_dev17 c, k0_dev17_lt c⟩ : Dev nD) = peer c (1 + 1) := by revert c; decide +kernel
theorem dev18_eq (c : Dev nD) : (⟨k0_dev18 c, k0_dev18_lt c⟩ : Dev nD) = peer c (2 + 1) := by revert c; decide +kernel
theorem dev19_eq (c : Dev nD) : (⟨k0_dev19 c, k0_dev19_lt c⟩ : Dev nD) = peer c (3 + 1) := by revert c; decide +kernel
theorem dev20_eq (c : Dev nD) : (⟨k0_dev20 c, k0_dev20_lt c⟩ : Dev nD) = peer c (4 + 1) := by revert c; decide +kernel
theorem dev21_eq (c : Dev nD) : (⟨k0_dev21 c, k0_dev21_lt c⟩ : Dev nD) = peer c (5 + 1) := by revert c; decide +kernel
theorem dev22_eq (c : Dev nD) : (⟨k0_dev22 c, k0_dev22_lt c⟩ : Dev nD) = peer c (6 + 1) := by revert c; decide +kernel
theorem dev23_eq (c : Dev nD) : (⟨k0_dev23 c, k0_dev23_lt c⟩ : Dev nD) = peer c (7 + 1) := by revert c; decide +kernel
theorem dev24_eq (c : Dev nD) : (⟨k0_dev24 c, k0_dev24_lt c⟩ : Dev nD) = peer c (8 + 1) := by revert c; decide +kernel
theorem dev25_eq (c : Dev nD) : (⟨k0_dev25 c, k0_dev25_lt c⟩ : Dev nD) = peer c (9 + 1) := by revert c; decide +kernel
theorem dev26_eq (c : Dev nD) : (⟨k0_dev26 c, k0_dev26_lt c⟩ : Dev nD) = peer c (10 + 1) := by revert c; decide +kernel
theorem dev27_eq (c : Dev nD) : (⟨k0_dev27 c, k0_dev27_lt c⟩ : Dev nD) = peer c (11 + 1) := by revert c; decide +kernel
theorem dev28_eq (c : Dev nD) : (⟨k0_dev28 c, k0_dev28_lt c⟩ : Dev nD) = peer c (12 + 1) := by revert c; decide +kernel
theorem dev29_eq (c : Dev nD) : (⟨k0_dev29 c, k0_dev29_lt c⟩ : Dev nD) = peer c (13 + 1) := by revert c; decide +kernel
theorem dev30_eq (c : Dev nD) : (⟨k0_dev30 c, k0_dev30_lt c⟩ : Dev nD) = peer c (14 + 1) := by revert c; decide +kernel
theorem dev31_eq (c : Dev nD) : (⟨k0_dev31 c, k0_dev31_lt c⟩ : Dev nD) = peer c (0 + 1) := by revert c; decide +kernel
theorem dev32_eq (c : Dev nD) : (⟨k0_dev32 c, k0_dev32_lt c⟩ : Dev nD) = peer c (1 + 1) := by revert c; decide +kernel
theorem dev33_eq (c : Dev nD) : (⟨k0_dev33 c, k0_dev33_lt c⟩ : Dev nD) = peer c (2 + 1) := by revert c; decide +kernel
theorem dev34_eq (c : Dev nD) : (⟨k0_dev34 c, k0_dev34_lt c⟩ : Dev nD) = peer c (3 + 1) := by revert c; decide +kernel
theorem dev35_eq (c : Dev nD) : (⟨k0_dev35 c, k0_dev35_lt c⟩ : Dev nD) = peer c (4 + 1) := by revert c; decide +kernel
theorem dev36_eq (c : Dev nD) : (⟨k0_dev36 c, k0_dev36_lt c⟩ : Dev nD) = peer c (5 + 1) := by revert c; decide +kernel
theorem dev37_eq (c : Dev nD) : (⟨k0_dev37 c, k0_dev37_lt c⟩ : Dev nD) = peer c (6 + 1) := by revert c; decide +kernel
theorem dev38_eq (c : Dev nD) : (⟨k0_dev38 c, k0_dev38_lt c⟩ : Dev nD) = peer c (7 + 1) := by revert c; decide +kernel
theorem dev39_eq (c : Dev nD) : (⟨k0_dev39 c, k0_dev39_lt c⟩ : Dev nD) = peer c (8 + 1) := by revert c; decide +kernel
theorem dev40_eq (c : Dev nD) : (⟨k0_dev40 c, k0_dev40_lt c⟩ : Dev nD) = peer c (9 + 1) := by revert c; decide +kernel
theorem dev41_eq (c : Dev nD) : (⟨k0_dev41 c, k0_dev41_lt c⟩ : Dev nD) = peer c (10 + 1) := by revert c; decide +kernel
theorem dev42_eq (c : Dev nD) : (⟨k0_dev42 c, k0_dev42_lt c⟩ : Dev nD) = peer c (11 + 1) := by revert c; decide +kernel
theorem dev43_eq (c : Dev nD) : (⟨k0_dev43 c, k0_dev43_lt c⟩ : Dev nD) = peer c (12 + 1) := by revert c; decide +kernel
theorem dev44_eq (c : Dev nD) : (⟨k0_dev44 c, k0_dev44_lt c⟩ : Dev nD) = peer c (13 + 1) := by revert c; decide +kernel
theorem dev45_eq (c : Dev nD) : (⟨k0_dev45 c, k0_dev45_lt c⟩ : Dev nD) = peer c (14 + 1) := by revert c; decide +kernel
theorem off2_1_eq (c : Dev nD) : k0_off2 c 1#32 = ![16 * (peer c (0 + 1)).val, 0] := by revert c; decide +kernel
theorem off2_2_eq (c : Dev nD) : k0_off2 c 2#32 = ![16 * (peer c (1 + 1)).val, 0] := by revert c; decide +kernel
theorem off2_3_eq (c : Dev nD) : k0_off2 c 3#32 = ![16 * (peer c (2 + 1)).val, 0] := by revert c; decide +kernel
theorem off2_4_eq (c : Dev nD) : k0_off2 c 4#32 = ![16 * (peer c (3 + 1)).val, 0] := by revert c; decide +kernel
theorem off2_5_eq (c : Dev nD) : k0_off2 c 5#32 = ![16 * (peer c (4 + 1)).val, 0] := by revert c; decide +kernel
theorem off2_6_eq (c : Dev nD) : k0_off2 c 6#32 = ![16 * (peer c (5 + 1)).val, 0] := by revert c; decide +kernel
theorem off2_7_eq (c : Dev nD) : k0_off2 c 7#32 = ![16 * (peer c (6 + 1)).val, 0] := by revert c; decide +kernel
theorem off2_8_eq (c : Dev nD) : k0_off2 c 8#32 = ![16 * (peer c (7 + 1)).val, 0] := by revert c; decide +kernel
theorem off2_9_eq (c : Dev nD) : k0_off2 c 9#32 = ![16 * (peer c (8 + 1)).val, 0] := by revert c; decide +kernel
theorem off2_10_eq (c : Dev nD) : k0_off2 c 10#32 = ![16 * (peer c (9 + 1)).val, 0] := by revert c; decide +kernel
theorem off2_11_eq (c : Dev nD) : k0_off2 c 11#32 = ![16 * (peer c (10 + 1)).val, 0] := by revert c; decide +kernel
theorem off2_12_eq (c : Dev nD) : k0_off2 c 12#32 = ![16 * (peer c (11 + 1)).val, 0] := by revert c; decide +kernel
theorem off2_13_eq (c : Dev nD) : k0_off2 c 13#32 = ![16 * (peer c (12 + 1)).val, 0] := by revert c; decide +kernel
theorem off2_14_eq (c : Dev nD) : k0_off2 c 14#32 = ![16 * (peer c (13 + 1)).val, 0] := by revert c; decide +kernel
theorem off2_15_eq (c : Dev nD) : k0_off2 c 15#32 = ![16 * (peer c (14 + 1)).val, 0] := by revert c; decide +kernel
theorem off5_0_eq (c : Dev nD) : k0_off5 c 0#32 = ![0, 16 * (peer c (0 + 1)).val, 0] := by revert c; decide +kernel
theorem off5_1_eq (c : Dev nD) : k0_off5 c 1#32 = ![0, 16 * (peer c (1 + 1)).val, 0] := by revert c; decide +kernel
theorem off5_2_eq (c : Dev nD) : k0_off5 c 2#32 = ![0, 16 * (peer c (2 + 1)).val, 0] := by revert c; decide +kernel
theorem off5_3_eq (c : Dev nD) : k0_off5 c 3#32 = ![0, 16 * (peer c (3 + 1)).val, 0] := by revert c; decide +kernel
theorem off5_4_eq (c : Dev nD) : k0_off5 c 4#32 = ![0, 16 * (peer c (4 + 1)).val, 0] := by revert c; decide +kernel
theorem off5_5_eq (c : Dev nD) : k0_off5 c 5#32 = ![0, 16 * (peer c (5 + 1)).val, 0] := by revert c; decide +kernel
theorem off5_6_eq (c : Dev nD) : k0_off5 c 6#32 = ![0, 16 * (peer c (6 + 1)).val, 0] := by revert c; decide +kernel
theorem off5_7_eq (c : Dev nD) : k0_off5 c 7#32 = ![0, 16 * (peer c (7 + 1)).val, 0] := by revert c; decide +kernel
theorem off5_8_eq (c : Dev nD) : k0_off5 c 8#32 = ![0, 16 * (peer c (8 + 1)).val, 0] := by revert c; decide +kernel
theorem off5_9_eq (c : Dev nD) : k0_off5 c 9#32 = ![0, 16 * (peer c (9 + 1)).val, 0] := by revert c; decide +kernel
theorem off5_10_eq (c : Dev nD) : k0_off5 c 10#32 = ![0, 16 * (peer c (10 + 1)).val, 0] := by revert c; decide +kernel
theorem off5_11_eq (c : Dev nD) : k0_off5 c 11#32 = ![0, 16 * (peer c (11 + 1)).val, 0] := by revert c; decide +kernel
theorem off5_12_eq (c : Dev nD) : k0_off5 c 12#32 = ![0, 16 * (peer c (12 + 1)).val, 0] := by revert c; decide +kernel
theorem off5_13_eq (c : Dev nD) : k0_off5 c 13#32 = ![0, 16 * (peer c (13 + 1)).val, 0] := by revert c; decide +kernel
theorem off5_14_eq (c : Dev nD) : k0_off5 c 14#32 = ![0, 16 * (peer c (14 + 1)).val, 0] := by revert c; decide +kernel

end Cert.KernelIdeal.Run

end
-- ==== Proof.Run.StepsD.lean ====
/-
The closed forms the printed parts need, and the passages between phases.
-/
module

public import proofs.«01_k».proof.Proof.Run.StepsC
public import proofs.«01_k».proof.Proof.Run.Dev

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem off1_0_eq (c : Dev nD) : k0_off1 c 0#32 = ![0, 0, 2 * c.val + 0, 0] := by revert c; decide +kernel
theorem off1_1_eq (c : Dev nD) : k0_off1 c 1#32 = ![0, 0, 2 * c.val + 1, 0] := by revert c; decide +kernel
theorem off4_eq (c : Dev nD) : k0_off4 c = ![0, 16 * (peer c 0).val, 0] := by rw [peer_back c rfl]; exact k0_off4_eq c
theorem outChunk_zero (c : Dev nD) : k0_pay17 (rsBuf m ρ c) = outChunk m ρ c 0 := (if_pos rfl).symm
theorem outChunk_succ (c : Dev nD) (n : ℕ) : k0_pay19 (redB m ρ (peer c (n + 1))) = outChunk m ρ c (n + 1) := (if_neg (Nat.succ_ne_zero n)).symm
theorem own_rows_eq (c : Dev nD) (a : Fin 16) (b : Fin 1024) : k0_pay15 (ownRows m ρ c) (ix3 (⟨0, Nat.one_pos⟩ : Fin 1) a b) = rsBuf m ρ c (ix3 (⟨0, by decide⟩ : Fin 16) a b) := by
  have e : Shape.reshapeEquiv shapeCasts_S16x1024_S1x16x1024 (ix3 (⟨0, Nat.one_pos⟩ : Fin 1) a b : S1x16x1024.Idx) = (ix2 a b : S16x1024.Idx) :=
    Shape.reshapeEquiv_eq_of_rowMajor _ (by
      rw [Shape.rowMajor_val_three, Shape.rowMajor_val_two]
      show a.val * 1024 + b.val = (0 * 16 + a.val) * 1024 + b.val
      omega)
  show ownRows m ρ c (Shape.reshapeEquiv shapeCasts_S16x1024_S1x16x1024 (ix3 (⟨0, Nat.one_pos⟩ : Fin 1) a b : S1x16x1024.Idx)) = _
  rw [e]
  show acc m ρ c _ = acc m ρ (peer c 0) _
  rw [peer_back c rfl]
  rfl

theorem StA_done (c : Dev nD) : StA (F := F) c 15 ⊢ Od c 15 0 0 := by
  unfold StA; iintro ⟨H, -⟩; iexact H
theorem StB_done (c : Dev nD) : StB m ρ c 15 ⊢ iprop(Od c 15 15 0 ∗ bigSep (Finset.range 15) (fun j => cred (tallyAt (dc c (9 + j)) () N))) := by
  unfold StB; exact Laws.sep_mono .rfl (Fam_fin _ _)
theorem StC_start (c : Dev nD) : iprop(Od c 15 15 0 ∗ Fam (preC c) (postC m ρ c) 0) ⊢ StC m ρ c 0 := by unfold StC; exact .rfl
theorem StC_done (c : Dev nD) : StC m ρ c 15 ⊢ iprop(Od c 15 15 0 ∗ bigSep (Finset.range 15) (fun j => atPos ER (dc c (24 + (j + 1))) 1 ∅ 0) ∗ bigSep (Finset.range 15) (fun j => rsPts c (j + 1) (rsBuf m ρ c))) := by
  unfold StC; refine Laws.sep_mono .rfl ((Fam_fin _ _).trans ?_)
  unfold postC
  exact Entails.of_eq (bigSep_sep' _ _ _)
theorem StD_done (c : Dev nD) : StD m ρ c 15 ⊢ iprop(Od c 15 15 15 ∗ bigSep (Finset.range 15) (fun j => cred (tallyAt (dc c (41 + j)) () N))) := by
  unfold StD; exact Laws.sep_mono .rfl (Fam_fin _ _)
theorem StE_start (c : Dev nD) : iprop(Od c 15 15 15 ∗ Fam (preE c) (postE m ρ c) 0) ⊢ StE m ρ c 0 := by unfold StE; exact .rfl
theorem StE_done (c : Dev nD) : StE m ρ c 15 ⊢ iprop(Od c 15 15 15 ∗ bigSep (Finset.range 15) (postE m ρ c)) := by
  unfold StE; exact Laws.sep_mono .rfl (Fam_fin _ _)
theorem StG_start (c : Dev nD) : iprop(Od c 15 15 15 ∗ Fam (preG c) (postG m ρ c) 0) ⊢ StG m ρ c 0 := by unfold StG; exact .rfl
theorem StG_done (c : Dev nD) : StG m ρ c 15 ⊢ iprop(Od c 15 15 15 ∗ bigSep (Finset.range 15) (postG m ρ c)) := by
  unfold StG; exact Laws.sep_mono .rfl (Fam_fin _ _)
theorem StH_start (c : Dev nD) : iprop(Od c 15 15 15 ∗ Fam (preH c) (postH m ρ c) 0) ⊢ StH m ρ c 0 := by unfold StH; exact .rfl
theorem StH_done (c : Dev nD) : StH m ρ c 15 ⊢ iprop(Od c 15 15 15 ∗ bigSep (Finset.range 15) (postH m ρ c)) := by
  unfold StH; exact Laws.sep_mono .rfl (Fam_fin _ _)

end Cert.KernelIdeal.Run
end
-- ==== Proof.Run.PartsA.lean ====
/-
The printed parts 1 to 11 of the body, each run from its state before to its state after.
-/
module

public import proofs.«01_k».proof.Proof.Run.StepsD

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem part1_run (c : Dev nD)  (Q : (Σ' (d0 : Dev nD), BitVec 32) → sProp (MT nD τ sig Unit (Elt F) ℕ UU ℕ)) :
    iprop(Ctx m ρ K ∗ (srcPts m c 0 ∗ (∃ f, kvPts c 0 f) ∗ dutyTok ER (dc c (4 + 0)) 0 0) ∗ (srcPts m c 2 ∗ (∃ f, kvPts c 2 f) ∗ dutyTok ER (dc c (4 + 2)) 0 0) ∗ (srcPts m c 1 ∗ (∃ f, kvPts c 1 f) ∗ dutyTok ER (dc c (4 + 1)) 0 0) ∗ (∀ v : BitVec 32, cred (tallyAt (dc c (4 + 0)) () Nkv) ∗ cred (tallyAt (dc c (4 + 2)) () Nkv) ∗ cred (tallyAt (dc c (4 + 1)) () Nkv) -∗ Q ⟨c, v⟩))
      ⊢ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 ) Q := by
  rw [k0_part1_eq_skeleton]; unfold k0_part1_skel
  simp only [semSignalWord, semWaitWord, Prog.lift, Prog.bind_op, Prog.bind_ret, Prog.pure_eq_ret, wp_deviceId]
  iintro ⟨#HC, ⟨G0a, G0b, G0c⟩, ⟨G2a, G2b, G2c⟩, ⟨G1a, G1b, G1c⟩, HQ⟩
  iapply (step_copyK m ρ K c 0 0 (by omega) (by omega) (off1_0_eq c) (by rfl)) $$ [G0a G0b G0c]
  · isplitr; · iexact HC
    isplitl [G0a]; · iexact G0a
    isplitl [G0b]; · iexact G0b
    iexact G0c
  iintro Hc0
  iapply (step_copyV m ρ K c 0 2 (by omega) (by omega) (off1_0_eq c) (by rfl)) $$ [G2a G2b G2c]
  · isplitr; · iexact HC
    isplitl [G2a]; · iexact G2a
    isplitl [G2b]; · iexact G2b
    iexact G2c
  iintro Hc2
  iapply (step_copyK m ρ K c 1 1 (by omega) (by omega) (off1_1_eq c) (by rfl)) $$ [G1a G1b G1c]
  · isplitr; · iexact HC
    isplitl [G1a]; · iexact G1a
    isplitl [G1b]; · iexact G1b
    iexact G1c
  iintro Hc1
  rw [wp_ret]; imodintro
  iapply HQ
  isplitl [Hc0]; · iexact Hc0
  isplitl [Hc2]; · iexact Hc2
  iexact Hc1

theorem part2_run (c : Dev nD) (v2 : BitVec 32) (Q : (Σ' (v31 : Sems sig S_), BitVec 32) → sProp (MT nD τ sig Unit (Elt F) ℕ UU ℕ)) :
    iprop(Ctx m ρ K ∗ (srcPts m c 3 ∗ (∃ f, kvPts c 3 f) ∗ dutyTok ER (dc c (4 + 3)) 0 0) ∗ StA c 0 ∗ (∀ v : BitVec 32, cred (tallyAt (dc c (4 + 3)) () Nkv) ∗ StA c 2 -∗ Q ⟨(SemArray.scalar (sig.barrier 0 rfl)), v⟩))
      ⊢ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part2_eq_skeleton]; unfold k0_part2_skel
  simp only [semSignalWord, semWaitWord, Prog.lift, Prog.bind_op, Prog.bind_ret, Prog.pure_eq_ret]
  iintro ⟨#HC, ⟨G3a, G3b, G3c⟩, HA, HQ⟩
  iapply (step_copyV m ρ K c 1 3 (by omega) (by omega) (off1_1_eq c) (by rfl)) $$ [G3a G3b G3c]
  · isplitr; · iexact HC
    isplitl [G3a]; · iexact G3a
    isplitl [G3b]; · iexact G3b
    iexact G3c
  iintro Hc3
  iapply (step_signal m ρ K c _ 0 (by omega) (dev1_eq c) (by rfl) (by rfl)) $$ [HA]
  · isplitr; · iexact HC
    iexact HA
  iintro HA
  iapply (step_signal m ρ K c _ 1 (by omega) (dev2_eq c) (by rfl) (by rfl)) $$ [HA]
  · isplitr; · iexact HC
    iexact HA
  iintro HA
  rw [wp_ret]; imodintro
  iapply HQ
  isplitl [Hc3]; · iexact Hc3
  iexact HA

theorem part3_run (c : Dev nD) (v2 : BitVec 32) (c3_i32_49 : BitVec 32) (Q : (Σ' (v86 : BitVec 32) (v87 : BitVec 32) (v88 : BitVec 1) (v89 : BitVec 1), BitVec 32) → sProp (MT nD τ sig Unit (Elt F) ℕ UU ℕ)) :
    iprop(Ctx m ρ K ∗ StA c 2 ∗ (∀ v, StA c 4 -∗ Q v))
      ⊢ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (SemArray.scalar (sig.barrier 0 rfl)) c3_i32_49) Q := by
  rw [k0_part3_eq_skeleton]; unfold k0_part3_skel
  simp only [semSignalWord, semWaitWord, Prog.lift, Prog.bind_op, Prog.bind_ret, Prog.pure_eq_ret]
  iintro ⟨#HC, HA, HQ⟩
  iapply (step_signal m ρ K c _ 2 (by omega) (dev3_eq c) (by rfl) (by rfl)) $$ [HA]
  · isplitr; · iexact HC
    iexact HA
  iintro HA
  iapply (step_signal m ρ K c _ 3 (by omega) (dev4_eq c) (by rfl) (by rfl)) $$ [HA]
  · isplitr; · iexact HC
    iexact HA
  iintro HA
  rw [wp_ret]; imodintro
  iapply HQ
  iexact HA

theorem part4_run (c : Dev nD) (v2 : BitVec 32) (v86 : BitVec 32) (v87 : BitVec 32) (v88 : BitVec 1) (v89 : BitVec 1) (c0_i32_73 : BitVec 32) (Q : (BitVec 32) → sProp (MT nD τ sig Unit (Elt F) ℕ UU ℕ)) :
    iprop(Ctx m ρ K ∗ StA c 4 ∗ (∀ v, StA c 7 -∗ Q v))
      ⊢ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (SemArray.scalar (sig.barrier 0 rfl)) v86 v87 v88 v89 c0_i32_73) Q := by
  rw [k0_part4_eq_skeleton]; unfold k0_part4_skel
  simp only [semSignalWord, semWaitWord, Prog.lift, Prog.bind_op, Prog.bind_ret, Prog.pure_eq_ret]
  iintro ⟨#HC, HA, HQ⟩
  iapply (step_signal m ρ K c _ 4 (by omega) (dev5_eq c) (by rfl) (by rfl)) $$ [HA]
  · isplitr; · iexact HC
    iexact HA
  iintro HA
  iapply (step_signal m ρ K c _ 5 (by omega) (dev6_eq c) (by rfl) (by rfl)) $$ [HA]
  · isplitr; · iexact HC
    iexact HA
  iintro HA
  iapply (step_signal m ρ K c _ 6 (by omega) (dev7_eq c) (by rfl) (by rfl)) $$ [HA]
  · isplitr; · iexact HC
    iexact HA
  iintro HA
  rw [wp_ret]; imodintro
  iapply HQ
  iexact HA

theorem part5_run (c : Dev nD) (v2 : BitVec 32) (c8_i32 : BitVec 32) (Q : (Σ' (v151 : BitVec 32) (v152 : BitVec 32) (v153 : BitVec 1) (v154 : BitVec 1), BitVec 32) → sProp (MT nD τ sig Unit (Elt F) ℕ UU ℕ)) :
    iprop(Ctx m ρ K ∗ StA c 7 ∗ (∀ v, StA c 9 -∗ Q v))
      ⊢ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (SemArray.scalar (sig.barrier 0 rfl)) c8_i32) Q := by
  rw [k0_part5_eq_skeleton]; unfold k0_part5_skel
  simp only [semSignalWord, semWaitWord, Prog.lift, Prog.bind_op, Prog.bind_ret, Prog.pure_eq_ret]
  iintro ⟨#HC, HA, HQ⟩
  iapply (step_signal m ρ K c _ 7 (by omega) (dev8_eq c) (by rfl) (by rfl)) $$ [HA]
  · isplitr; · iexact HC
    iexact HA
  iintro HA
  iapply (step_signal m ρ K c _ 8 (by omega) (dev9_eq c) (by rfl) (by rfl)) $$ [HA]
  · isplitr; · iexact HC
    iexact HA
  iintro HA
  rw [wp_ret]; imodintro
  iapply HQ
  iexact HA

theorem part6_run (c : Dev nD) (v2 : BitVec 32) (v151 : BitVec 32) (v152 : BitVec 32) (v153 : BitVec 1) (v154 : BitVec 1) (c0_i32_118 : BitVec 32) (Q : (BitVec 32) → sProp (MT nD τ sig Unit (Elt F) ℕ UU ℕ)) :
    iprop(Ctx m ρ K ∗ StA c 9 ∗ (∀ v, StA c 12 -∗ Q v))
      ⊢ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (SemArray.scalar (sig.barrier 0 rfl)) v151 v152 v153 v154 c0_i32_118) Q := by
  rw [k0_part6_eq_skeleton]; unfold k0_part6_skel
  simp only [semSignalWord, semWaitWord, Prog.lift, Prog.bind_op, Prog.bind_ret, Prog.pure_eq_ret]
  iintro ⟨#HC, HA, HQ⟩
  iapply (step_signal m ρ K c _ 9 (by omega) (dev10_eq c) (by rfl) (by rfl)) $$ [HA]
  · isplitr; · iexact HC
    iexact HA
  iintro HA
  iapply (step_signal m ρ K c _ 10 (by omega) (dev11_eq c) (by rfl) (by rfl)) $$ [HA]
  · isplitr; · iexact HC
    iexact HA
  iintro HA
  iapply (step_signal m ρ K c _ 11 (by omega) (dev12_eq c) (by rfl) (by rfl)) $$ [HA]
  · isplitr; · iexact HC
    iexact HA
  iintro HA
  rw [wp_ret]; imodintro
  iapply HQ
  iexact HA

theorem part7_run (c : Dev nD) (v2 : BitVec 32) (c13_i32 : BitVec 32) (Q : (Σ' (v216 : BitVec 32) (v217 : BitVec 32) (v218 : BitVec 1) (v219 : BitVec 1), BitVec 32) → sProp (MT nD τ sig Unit (Elt F) ℕ UU ℕ)) :
    iprop(Ctx m ρ K ∗ StA c 12 ∗ (∀ v, StA c 14 -∗ Q v))
      ⊢ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (SemArray.scalar (sig.barrier 0 rfl)) c13_i32) Q := by
  rw [k0_part7_eq_skeleton]; unfold k0_part7_skel
  simp only [semSignalWord, semWaitWord, Prog.lift, Prog.bind_op, Prog.bind_ret, Prog.pure_eq_ret]
  iintro ⟨#HC, HA, HQ⟩
  iapply (step_signal m ρ K c _ 12 (by omega) (dev13_eq c) (by rfl) (by rfl)) $$ [HA]
  · isplitr; · iexact HC
    iexact HA
  iintro HA
  iapply (step_signal m ρ K c _ 13 (by omega) (dev14_eq c) (by rfl) (by rfl)) $$ [HA]
  · isplitr; · iexact HC
    iexact HA
  iintro HA
  rw [wp_ret]; imodintro
  iapply HQ
  iexact HA

theorem part8_run (c : Dev nD) (v216 : BitVec 32) (v217 : BitVec 32) (v218 : BitVec 1) (v219 : BitVec 1) (c0_i32_163 : BitVec 32) (Q : (FVec F S256x1024 .bf16) → sProp (MT nD τ sig Unit (Elt F) ℕ UU ℕ)) :
    iprop(Ctx m ρ K ∗ StA c 14 ∗ cred (tallyAt (bar c) () 15) ∗ atPos ER (bar c) 0 ∅ 0 ∗ ((c : Thread nD τ).loc cc0_stg0_0 ↦{fullShare} xs m ρ c) ∗ ((c : Thread nD τ).loc cc0_stg1_0 ↦{fullShare} wqs m ρ c) ∗ atPos ER (dc c (4 + 0)) 0 ∅ 0 ∗ cred (tallyAt (dc c (4 + 0)) () Nkv) ∗ atPos ER (dc c (4 + 2)) 0 ∅ 0 ∗ cred (tallyAt (dc c (4 + 2)) () Nkv) ∗ (Od c 15 0 0 ∗ atPos ER (bar c) 1 ∅ 0 ∗ bigSep (Finset.range 15) (fun j => barPay c j) ∗ ((c : Thread nD τ).loc cc0_stg0_0 ↦{fullShare} xs m ρ c) ∗ ((c : Thread nD τ).loc cc0_stg1_0 ↦{fullShare} wqs m ρ c) ∗ atPos ER (dc c (4 + 0)) 1 ∅ 0 ∗ kvPts c 0 (kvBuf m c) ∗ srcPts m c 0 ∗ atPos ER (dc c (4 + 2)) 1 ∅ 0 ∗ kvPts c 2 (kvBuf m c) ∗ srcPts m c 2 -∗ Q (k0_pay1 (xs m ρ c) (wqs m ρ c))))
      ⊢ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c (SemArray.scalar (sig.barrier 0 rfl)) v216 v217 v218 v219 c0_i32_163) Q := by
  rw [k0_part8_eq_skeleton]; unfold k0_part8_skel
  simp only [semSignalWord, semWaitWord, Prog.lift, Prog.bind_op, Prog.bind_ret, Prog.pure_eq_ret]
  iintro ⟨#HC, HA, Hcb, Htb, Hx, Hwq, Ht0, Hc0, Ht2, Hc2, HQ⟩
  iapply (step_signal m ρ K c _ 14 (by omega) (dev15_eq c) (by rfl) (by rfl)) $$ [HA]
  · isplitr; · iexact HC
    iexact HA
  iintro HA
  ihave HO := (StA_done c) $$ HA
  iapply (step_barrier m ρ K c (by rfl) (by rfl)) $$ [HO Hcb Htb]
  · isplitr; · iexact HC
    isplitl [HO]; · iexact HO
    isplitl [Hcb]; · iexact Hcb
    iexact Htb
  iintro ⟨HO, Htb, Hbp⟩
  iapply (step_load_x c) $$ Hx
  iintro Hx
  iapply (step_load_wq c) $$ Hwq
  iintro Hwq
  iapply (step_waitK m ρ K c 0 (by omega) (by rfl) (by rfl)) $$ [HO Ht0 Hc0]
  · isplitr; · iexact HC
    isplitl [HO]; · iexact HO
    isplitl [Ht0]; · iexact Ht0
    iexact Hc0
  iintro ⟨HO, Ht0, Hk0, Hs0⟩
  iapply (step_waitK m ρ K c 2 (by omega) (by rfl) (by rfl)) $$ [HO Ht2 Hc2]
  · isplitr; · iexact HC
    isplitl [HO]; · iexact HO
    isplitl [Ht2]; · iexact Ht2
    iexact Hc2
  iintro ⟨HO, Ht2, Hk2, Hs2⟩
  rw [wp_ret]; imodintro
  iapply HQ
  isplitl [HO]; · iexact HO
  isplitl [Htb]; · iexact Htb
  isplitl [Hbp]; · iexact Hbp
  isplitl [Hx]; · iexact Hx
  isplitl [Hwq]; · iexact Hwq
  isplitl [Ht0]; · iexact Ht0
  isplitl [Hk0]; · iexact Hk0
  isplitl [Hs0]; · iexact Hs0
  isplitl [Ht2]; · iexact Ht2
  isplitl [Hk2]; · iexact Hk2
  iexact Hs2

theorem part9_run (c : Dev nD) (v236 : FVec F S256x1024 .bf16) (Q : (Σ' (v263 : FVec F S256x128 .f32) (v272 : FVec F S256x128 .f32) (v281 : FVec F S256x128 .f32), FVec F S256x128 .f32) → sProp (MT nD τ sig Unit (Elt F) ℕ UU ℕ)) :
    iprop(Ctx m ρ K ∗ kvPts c 0 (kvBuf m c) ∗ kvPts c 2 (kvBuf m c) ∗ (kvPts c 0 (kvBuf m c) ∗ kvPts c 2 (kvBuf m c) -∗ Q ⟨k0_pay4 v236 (k0 m c) (v0 m c), k0_pay5 v236 (k0 m c) (v0 m c), k0_pay6 v236 (k0 m c) (v0 m c), k0_pay7 v236 (k0 m c) (v0 m c)⟩))
      ⊢ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v236) Q := by
  rw [k0_part9_eq_skeleton]; unfold k0_part9_skel
  simp only [semSignalWord, semWaitWord, Prog.lift, Prog.bind_op, Prog.bind_ret, Prog.pure_eq_ret]
  iintro ⟨#HC, Hk0, Hk2, HQ⟩
  iapply (step_loadKV m c 0) $$ Hk0
  iintro Hk0
  iapply (step_loadKV m c 2) $$ Hk2
  iintro Hk2
  rw [wp_ret]; imodintro
  iapply HQ
  isplitl [Hk0]; · iexact Hk0
  iexact Hk2

theorem part10_run (c : Dev nD) (v236 : FVec F S256x1024 .bf16) (Q : (Σ' (v305 : FVec F S4096x128 .bf16) (v308 : FVec F S4096x128 .bf16) (v317 : FVec F S256x128 .f32) (v322 : FVec F S256x1 .f32) (v323 : FVec F S256x4096 .bf16), FVec F S256x128 .f32) → sProp (MT nD τ sig Unit (Elt F) ℕ UU ℕ)) :
    iprop(Ctx m ρ K ∗ Od c 15 0 0 ∗ atPos ER (dc c (4 + 1)) 0 ∅ 0 ∗ cred (tallyAt (dc c (4 + 1)) () Nkv) ∗ atPos ER (dc c (4 + 3)) 0 ∅ 0 ∗ cred (tallyAt (dc c (4 + 3)) () Nkv) ∗ (Od c 15 0 0 ∗ atPos ER (dc c (4 + 1)) 1 ∅ 0 ∗ kvPts c 1 (kvBuf m c) ∗ srcPts m c 1 ∗ atPos ER (dc c (4 + 3)) 1 ∅ 0 ∗ kvPts c 3 (kvBuf m c) ∗ srcPts m c 3 -∗ Q ⟨k0_pay8 (k1 m c), k0_pay9 (v1 m c), k0_pay10 v236 (k1 m c) (v1 m c), k0_pay12 v236 (k1 m c), k0_pay13 v236 (k1 m c), constant S256x128 .f32 0x00000000#32⟩))
      ⊢ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v236) Q := by
  rw [k0_part10_eq_skeleton]; unfold k0_part10_skel
  simp only [semSignalWord, semWaitWord, Prog.lift, Prog.bind_op, Prog.bind_ret, Prog.pure_eq_ret]
  iintro ⟨#HC, HO, Ht1, Hc1, Ht3, Hc3, HQ⟩
  iapply (step_waitK m ρ K c 1 (by omega) (by rfl) (by rfl)) $$ [HO Ht1 Hc1]
  · isplitr; · iexact HC
    isplitl [HO]; · iexact HO
    isplitl [Ht1]; · iexact Ht1
    iexact Hc1
  iintro ⟨HO, Ht1, Hk1, Hs1⟩
  iapply (step_waitK m ρ K c 3 (by omega) (by rfl) (by rfl)) $$ [HO Ht3 Hc3]
  · isplitr; · iexact HC
    isplitl [HO]; · iexact HO
    isplitl [Ht3]; · iexact Ht3
    iexact Hc3
  iintro ⟨HO, Ht3, Hk3, Hs3⟩
  iapply (step_loadKV m c 1) $$ Hk1
  iintro Hk1
  iapply (step_loadKV m c 3) $$ Hk3
  iintro Hk3
  rw [wp_ret]; imodintro
  iapply HQ
  isplitl [HO]; · iexact HO
  isplitl [Ht1]; · iexact Ht1
  isplitl [Hk1]; · iexact Hk1
  isplitl [Hs1]; · iexact Hs1
  isplitl [Ht3]; · iexact Ht3
  isplitl [Hk3]; · iexact Hk3
  iexact Hs3

theorem part11_run (c : Dev nD) (v2 : BitVec 32) (v236 : FVec F S256x1024 .bf16) (v263 : FVec F S256x128 .f32) (v272 : FVec F S256x128 .f32) (v281 : FVec F S256x128 .f32) (v290 : FVec F S256x128 .f32) (v305 : FVec F S4096x128 .bf16) (v308 : FVec F S4096x128 .bf16) (v317 : FVec F S256x128 .f32) (v322 : FVec F S256x1 .f32) (v323 : FVec F S256x4096 .bf16) (cst_227 : FVec F S256x128 .f32) (Q : (Σ' (v358 : BitVec 32) (v363 : BitVec 1), BitVec 32) → sProp (MT nD τ sig Unit (Elt F) ℕ UU ℕ)) :
    iprop(Ctx m ρ K ∗ ((c : Thread nD τ).loc cc0_stg2_0 ↦{fullShare} wos m ρ c) ∗ (∃ f, (c : Thread nD τ).loc cc0_scratch0 ↦{fullShare} f) ∗ (∀ v, ((c : Thread nD τ).loc cc0_stg2_0 ↦{fullShare} wos m ρ c) ∗ ((c : Thread nD τ).loc cc0_scratch0 ↦{fullShare} k0_pay14 v236 v263 v272 v281 v290 v305 v308 v317 v322 v323 cst_227 (wos m ρ c)) -∗ Q v))
      ⊢ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2 v236 v263 v272 v281 v290 v305 v308 v317 v322 v323 cst_227) Q := by
  rw [k0_part11_eq_skeleton]; unfold k0_part11_skel
  simp only [semSignalWord, semWaitWord, Prog.lift, Prog.bind_op, Prog.bind_ret, Prog.pure_eq_ret]
  iintro ⟨#HC, Hwo, ⟨%f, Ha⟩, HQ⟩
  iapply (step_load_wo c) $$ Hwo
  iintro Hwo
  iapply (step_load_acc c) $$ Ha
  iintro Ha
  iapply (step_storeAcc c) $$ Ha
  iintro Ha
  rw [wp_ret]; imodintro
  iapply HQ
  isplitl [Hwo]; · iexact Hwo
  iexact Ha

end Cert.KernelIdeal.Run
end
-- ==== Proof.Run.PartsB.lean ====
/-
The printed parts 12 to 26 of the body, each run from its state before to its state after.
-/
module

public import proofs.«01_k».proof.Proof.Run.StepsD

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem part12_run (c : Dev nD) (v2 : BitVec 32) (v358 : BitVec 32) (v363 : BitVec 1) (v364 : BitVec 32) (Q : (BitVec 32) → sProp (MT nD τ sig Unit (Elt F) ℕ UU ℕ)) :
    iprop(Ctx m ρ K ∗ StB m ρ c 0 ∗ (∀ v, StB m ρ c 2 -∗ Q v))
      ⊢ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v358 v363 v364) Q := by
  rw [k0_part12_eq_skeleton]; unfold k0_part12_skel
  simp only [semSignalWord, semWaitWord, Prog.lift, Prog.bind_op, Prog.bind_ret, Prog.pure_eq_ret]
  iintro ⟨#HC, HB, HQ⟩
  iapply (step_sendB m ρ K c _ 0 15 (by omega) (dev16_eq c) (by omega) (off2_1_eq c) (by rfl) (by rfl)) $$ [HB]
  · isplitr; · iexact HC
    iexact HB
  iintro HB
  iapply (step_sendB m ρ K c _ 1 14 (by omega) (dev17_eq c) (by omega) (off2_2_eq c) (by rfl) (by rfl)) $$ [HB]
  · isplitr; · iexact HC
    iexact HB
  iintro HB
  rw [wp_ret]; imodintro
  iapply HQ
  iexact HB

theorem part13_run (c : Dev nD) (v2 : BitVec 32) (c3_i32_271 : BitVec 32) (Q : (BitVec 32) → sProp (MT nD τ sig Unit (Elt F) ℕ UU ℕ)) :
    iprop(Ctx m ρ K ∗ StB m ρ c 2 ∗ (∀ v, StB m ρ c 3 -∗ Q v))
      ⊢ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 c3_i32_271) Q := by
  rw [k0_part13_eq_skeleton]; unfold k0_part13_skel
  simp only [semSignalWord, semWaitWord, Prog.lift, Prog.bind_op, Prog.bind_ret, Prog.pure_eq_ret]
  iintro ⟨#HC, HB, HQ⟩
  iapply (step_sendB m ρ K c _ 2 13 (by omega) (dev18_eq c) (by omega) (off2_3_eq c) (by rfl) (by rfl)) $$ [HB]
  · isplitr; · iexact HC
    iexact HB
  iintro HB
  rw [wp_ret]; imodintro
  iapply HQ
  iexact HB

theorem part14_run (c : Dev nD) (v2 : BitVec 32) (v428 : BitVec 32) (Q : (Σ' (v460 : BitVec 32), BitVec 32) → sProp (MT nD τ sig Unit (Elt F) ℕ UU ℕ)) :
    iprop(Ctx m ρ K ∗ StB m ρ c 3 ∗ (∀ v, StB m ρ c 5 -∗ Q v))
      ⊢ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v428) Q := by
  rw [k0_part14_eq_skeleton]; unfold k0_part14_skel
  simp only [semSignalWord, semWaitWord, Prog.lift, Prog.bind_op, Prog.bind_ret, Prog.pure_eq_ret]
  iintro ⟨#HC, HB, HQ⟩
  iapply (step_sendB m ρ K c _ 3 12 (by omega) (dev19_eq c) (by omega) (off2_4_eq c) (by rfl) (by rfl)) $$ [HB]
  · isplitr; · iexact HC
    iexact HB
  iintro HB
  iapply (step_sendB m ρ K c _ 4 11 (by omega) (dev20_eq c) (by omega) (off2_5_eq c) (by rfl) (by rfl)) $$ [HB]
  · isplitr; · iexact HC
    iexact HB
  iintro HB
  rw [wp_ret]; imodintro
  iapply HQ
  iexact HB

theorem part15_run (c : Dev nD) (v2 : BitVec 32) (v460 : BitVec 32) (v462 : BitVec 32) (Q : (PUnit) → sProp (MT nD τ sig Unit (Elt F) ℕ UU ℕ)) :
    iprop(Ctx m ρ K ∗ StB m ρ c 5 ∗ (StB m ρ c 6 -∗ Q ⟨⟩))
      ⊢ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v460 v462) Q := by
  rw [k0_part15_eq_skeleton]; unfold k0_part15_skel
  simp only [semSignalWord, semWaitWord, Prog.lift, Prog.bind_op, Prog.bind_ret, Prog.pure_eq_ret]
  iintro ⟨#HC, HB, HQ⟩
  iapply (step_sendB m ρ K c _ 5 10 (by omega) (dev21_eq c) (by omega) (off2_6_eq c) (by rfl) (by rfl)) $$ [HB]
  · isplitr; · iexact HC
    iexact HB
  iintro HB
  rw [wp_ret]; imodintro
  iapply HQ
  iexact HB

theorem part16_run (c : Dev nD) (v2 : BitVec 32) (Q : (Σ' (v525 : BitVec 32) (v526 : BitVec 32) (v527 : BitVec 1) (v528 : BitVec 1), BitVec 32) → sProp (MT nD τ sig Unit (Elt F) ℕ UU ℕ)) :
    iprop(Ctx m ρ K ∗ StB m ρ c 6 ∗ (∀ v, StB m ρ c 8 -∗ Q v))
      ⊢ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part16_eq_skeleton]; unfold k0_part16_skel
  simp only [semSignalWord, semWaitWord, Prog.lift, Prog.bind_op, Prog.bind_ret, Prog.pure_eq_ret]
  iintro ⟨#HC, HB, HQ⟩
  iapply (step_sendB m ρ K c _ 6 9 (by omega) (dev22_eq c) (by omega) (off2_7_eq c) (by rfl) (by rfl)) $$ [HB]
  · isplitr; · iexact HC
    iexact HB
  iintro HB
  iapply (step_sendB m ρ K c _ 7 8 (by omega) (dev23_eq c) (by omega) (off2_8_eq c) (by rfl) (by rfl)) $$ [HB]
  · isplitr; · iexact HC
    iexact HB
  iintro HB
  rw [wp_ret]; imodintro
  iapply HQ
  iexact HB

theorem part17_run (c : Dev nD) (v2 : BitVec 32) (v525 : BitVec 32) (v526 : BitVec 32) (v527 : BitVec 1) (v528 : BitVec 1) (c0_i32_373 : BitVec 32) (Q : (PUnit) → sProp (MT nD τ sig Unit (Elt F) ℕ UU ℕ)) :
    iprop(Ctx m ρ K ∗ StB m ρ c 8 ∗ (StB m ρ c 9 -∗ Q ⟨⟩))
      ⊢ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v525 v526 v527 v528 c0_i32_373) Q := by
  rw [k0_part17_eq_skeleton]; unfold k0_part17_skel
  simp only [semSignalWord, semWaitWord, Prog.lift, Prog.bind_op, Prog.bind_ret, Prog.pure_eq_ret]
  iintro ⟨#HC, HB, HQ⟩
  iapply (step_sendB m ρ K c _ 8 7 (by omega) (dev24_eq c) (by omega) (off2_9_eq c) (by rfl) (by rfl)) $$ [HB]
  · isplitr; · iexact HC
    iexact HB
  iintro HB
  rw [wp_ret]; imodintro
  iapply HQ
  iexact HB

theorem part18_run (c : Dev nD) (v2 : BitVec 32) (Q : (Σ' (v596 : BitVec 32), BitVec 32) → sProp (MT nD τ sig Unit (Elt F) ℕ UU ℕ)) :
    iprop(Ctx m ρ K ∗ StB m ρ c 9 ∗ (∀ v, StB m ρ c 11 -∗ Q v))
      ⊢ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part18_eq_skeleton]; unfold k0_part18_skel
  simp only [semSignalWord, semWaitWord, Prog.lift, Prog.bind_op, Prog.bind_ret, Prog.pure_eq_ret]
  iintro ⟨#HC, HB, HQ⟩
  iapply (step_sendB m ρ K c _ 9 6 (by omega) (dev25_eq c) (by omega) (off2_10_eq c) (by rfl) (by rfl)) $$ [HB]
  · isplitr; · iexact HC
    iexact HB
  iintro HB
  iapply (step_sendB m ρ K c _ 10 5 (by omega) (dev26_eq c) (by omega) (off2_11_eq c) (by rfl) (by rfl)) $$ [HB]
  · isplitr; · iexact HC
    iexact HB
  iintro HB
  rw [wp_ret]; imodintro
  iapply HQ
  iexact HB

theorem part19_run (c : Dev nD) (v2 : BitVec 32) (v596 : BitVec 32) (c16_i32_422 : BitVec 32) (Q : (Σ' (v628 : BitVec 32), BitVec 32) → sProp (MT nD τ sig Unit (Elt F) ℕ UU ℕ)) :
    iprop(Ctx m ρ K ∗ StB m ρ c 11 ∗ (∀ v, StB m ρ c 13 -∗ Q v))
      ⊢ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v596 c16_i32_422) Q := by
  rw [k0_part19_eq_skeleton]; unfold k0_part19_skel
  simp only [semSignalWord, semWaitWord, Prog.lift, Prog.bind_op, Prog.bind_ret, Prog.pure_eq_ret]
  iintro ⟨#HC, HB, HQ⟩
  iapply (step_sendB m ρ K c _ 11 4 (by omega) (dev27_eq c) (by omega) (off2_12_eq c) (by rfl) (by rfl)) $$ [HB]
  · isplitr; · iexact HC
    iexact HB
  iintro HB
  iapply (step_sendB m ρ K c _ 12 3 (by omega) (dev28_eq c) (by omega) (off2_13_eq c) (by rfl) (by rfl)) $$ [HB]
  · isplitr; · iexact HC
    iexact HB
  iintro HB
  rw [wp_ret]; imodintro
  iapply HQ
  iexact HB

theorem part20_run (c : Dev nD) (v2 : BitVec 32) (v628 : BitVec 32) (c16_i32_448 : BitVec 32) (Q : (BitVec 32) → sProp (MT nD τ sig Unit (Elt F) ℕ UU ℕ)) :
    iprop(Ctx m ρ K ∗ StB m ρ c 13 ∗ (∀ v, StB m ρ c 14 -∗ Q v))
      ⊢ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v628 c16_i32_448) Q := by
  rw [k0_part20_eq_skeleton]; unfold k0_part20_skel
  simp only [semSignalWord, semWaitWord, Prog.lift, Prog.bind_op, Prog.bind_ret, Prog.pure_eq_ret]
  iintro ⟨#HC, HB, HQ⟩
  iapply (step_sendB m ρ K c _ 13 2 (by omega) (dev29_eq c) (by omega) (off2_14_eq c) (by rfl) (by rfl)) $$ [HB]
  · isplitr; · iexact HC
    iexact HB
  iintro HB
  rw [wp_ret]; imodintro
  iapply HQ
  iexact HB

theorem part21_run (c : Dev nD) (v2 : BitVec 32) (v661 : BitVec 32) (Q : (PUnit) → sProp (MT nD τ sig Unit (Elt F) ℕ UU ℕ)) :
    iprop(Ctx m ρ K ∗ StB m ρ c 14 ∗ accPts c (peer c 0).val (acc m ρ c) ∗ (∃ f, rsPts c 0 f) ∗ Fam (preC c) (postC m ρ c) 0 ∗ (bigSep (Finset.range 15) (fun j => cred (tallyAt (dc c (9 + j)) () N)) ∗ StC m ρ c 1 ∗ accPts c (peer c 0).val (acc m ρ c) ∗ rsPts c 0 (rsBuf m ρ c) -∗ Q ⟨⟩))
      ⊢ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v661) Q := by
  rw [k0_part21_eq_skeleton]; unfold k0_part21_skel
  simp only [semSignalWord, semWaitWord, Prog.lift, Prog.bind_op, Prog.bind_ret, Prog.pure_eq_ret]
  iintro ⟨#HC, HB, Hown, ⟨%f, Hr⟩, HW, HQ⟩
  iapply (step_sendB m ρ K c _ 14 1 (by omega) (dev30_eq c) (by omega) (off2_15_eq c) (by rfl) (by rfl)) $$ [HB]
  · isplitr; · iexact HC
    iexact HB
  iintro HB
  ihave HB := (StB_done m ρ c) $$ HB
  icases HB with ⟨HO, Hcr⟩
  iapply (step_loadAcc m ρ c (k0_off3_eq c)) $$ Hown
  iintro Hown
  iapply (step_loadRS c f) $$ Hr
  iintro %w0 Hr
  iapply (step_storeRS c f (rsBuf m ρ c) (own_rows_eq m ρ c)) $$ Hr
  iintro Hr
  ihave HW := (StC_start m ρ c) $$ [HO HW]
  · isplitl [HO]; · iexact HO
    iexact HW
  iapply (step_waitC m ρ K c 0 (by omega) (by rfl) (by rfl)) $$ [HW]
  · isplitr; · iexact HC
    iexact HW
  iintro HW
  rw [wp_ret]; imodintro
  iapply HQ
  isplitl [Hcr]; · iexact Hcr
  isplitl [HW]; · iexact HW
  isplitl [Hown]; · iexact Hown
  iexact Hr

theorem part22_run (c : Dev nD) (v2 : BitVec 32) (Q : (PUnit) → sProp (MT nD τ sig Unit (Elt F) ℕ UU ℕ)) :
    iprop(Ctx m ρ K ∗ StC m ρ c 1 ∗ (StC m ρ c 5 -∗ Q ⟨⟩))
      ⊢ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2) Q := by
  rw [k0_part22_eq_skeleton]; unfold k0_part22_skel
  simp only [semSignalWord, semWaitWord, Prog.lift, Prog.bind_op, Prog.bind_ret, Prog.pure_eq_ret]
  iintro ⟨#HC, HW, HQ⟩
  iapply (step_waitC m ρ K c 1 (by omega) (by rfl) (by rfl)) $$ [HW]
  · isplitr; · iexact HC
    iexact HW
  iintro HW
  iapply (step_waitC m ρ K c 2 (by omega) (by rfl) (by rfl)) $$ [HW]
  · isplitr; · iexact HC
    iexact HW
  iintro HW
  iapply (step_waitC m ρ K c 3 (by omega) (by rfl) (by rfl)) $$ [HW]
  · isplitr; · iexact HC
    iexact HW
  iintro HW
  iapply (step_waitC m ρ K c 4 (by omega) (by rfl) (by rfl)) $$ [HW]
  · isplitr; · iexact HC
    iexact HW
  iintro HW
  rw [wp_ret]; imodintro
  iapply HQ
  iexact HW

theorem part23_run (c : Dev nD) (v2 : BitVec 32) (Q : (PUnit) → sProp (MT nD τ sig Unit (Elt F) ℕ UU ℕ)) :
    iprop(Ctx m ρ K ∗ StC m ρ c 5 ∗ (StC m ρ c 8 -∗ Q ⟨⟩))
      ⊢ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2) Q := by
  rw [k0_part23_eq_skeleton]; unfold k0_part23_skel
  simp only [semSignalWord, semWaitWord, Prog.lift, Prog.bind_op, Prog.bind_ret, Prog.pure_eq_ret]
  iintro ⟨#HC, HW, HQ⟩
  iapply (step_waitC m ρ K c 5 (by omega) (by rfl) (by rfl)) $$ [HW]
  · isplitr; · iexact HC
    iexact HW
  iintro HW
  iapply (step_waitC m ρ K c 6 (by omega) (by rfl) (by rfl)) $$ [HW]
  · isplitr; · iexact HC
    iexact HW
  iintro HW
  iapply (step_waitC m ρ K c 7 (by omega) (by rfl) (by rfl)) $$ [HW]
  · isplitr; · iexact HC
    iexact HW
  iintro HW
  rw [wp_ret]; imodintro
  iapply HQ
  iexact HW

theorem part24_run (c : Dev nD) (v2 : BitVec 32) (Q : (BitVec 32) → sProp (MT nD τ sig Unit (Elt F) ℕ UU ℕ)) :
    iprop(Ctx m ρ K ∗ StC m ρ c 8 ∗ (∀ v, StC m ρ c 11 -∗ Q v))
      ⊢ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2) Q := by
  rw [k0_part24_eq_skeleton]; unfold k0_part24_skel
  simp only [semSignalWord, semWaitWord, Prog.lift, Prog.bind_op, Prog.bind_ret, Prog.pure_eq_ret]
  iintro ⟨#HC, HW, HQ⟩
  iapply (step_waitC m ρ K c 8 (by omega) (by rfl) (by rfl)) $$ [HW]
  · isplitr; · iexact HC
    iexact HW
  iintro HW
  iapply (step_waitC m ρ K c 9 (by omega) (by rfl) (by rfl)) $$ [HW]
  · isplitr; · iexact HC
    iexact HW
  iintro HW
  iapply (step_waitC m ρ K c 10 (by omega) (by rfl) (by rfl)) $$ [HW]
  · isplitr; · iexact HC
    iexact HW
  iintro HW
  rw [wp_ret]; imodintro
  iapply HQ
  iexact HW

theorem part25_run (c : Dev nD) (v2 : BitVec 32) (v764 : BitVec 32) (Q : (PUnit) → sProp (MT nD τ sig Unit (Elt F) ℕ UU ℕ)) :
    iprop(Ctx m ρ K ∗ StC m ρ c 11 ∗ (StC m ρ c 14 -∗ Q ⟨⟩))
      ⊢ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2 v764) Q := by
  rw [k0_part25_eq_skeleton]; unfold k0_part25_skel
  simp only [semSignalWord, semWaitWord, Prog.lift, Prog.bind_op, Prog.bind_ret, Prog.pure_eq_ret]
  iintro ⟨#HC, HW, HQ⟩
  iapply (step_waitC m ρ K c 11 (by omega) (by rfl) (by rfl)) $$ [HW]
  · isplitr; · iexact HC
    iexact HW
  iintro HW
  iapply (step_waitC m ρ K c 12 (by omega) (by rfl) (by rfl)) $$ [HW]
  · isplitr; · iexact HC
    iexact HW
  iintro HW
  iapply (step_waitC m ρ K c 13 (by omega) (by rfl) (by rfl)) $$ [HW]
  · isplitr; · iexact HC
    iexact HW
  iintro HW
  rw [wp_ret]; imodintro
  iapply HQ
  iexact HW

theorem part26_run (c : Dev nD) (v2 : BitVec 32) (Q : (PUnit) → sProp (MT nD τ sig Unit (Elt F) ℕ UU ℕ)) :
    iprop(Ctx m ρ K ∗ StC m ρ c 14 ∗ rsPts c 0 (rsBuf m ρ c) ∗ Outs m ρ c 0 ∗ (Od c 15 15 0 ∗ bigSep (Finset.range 15) (fun j => atPos ER (dc c (24 + (j + 1))) 1 ∅ 0) ∗ bigSep (Finset.range 15) (fun j => rsPts c (j + 1) (rsBuf m ρ c)) ∗ rsPts c 0 (rsRed m ρ c) ∗ Outs m ρ c 1 -∗ Q ⟨⟩))
      ⊢ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part26_eq_skeleton]; unfold k0_part26_skel
  simp only [semSignalWord, semWaitWord, Prog.lift, Prog.bind_op, Prog.bind_ret, Prog.pure_eq_ret]
  iintro ⟨#HC, HW, Hr, Hout, HQ⟩
  iapply (step_waitC m ρ K c 14 (by omega) (by rfl) (by rfl)) $$ [HW]
  · isplitr; · iexact HC
    iexact HW
  iintro HW
  ihave HW := (StC_done m ρ c) $$ HW
  icases HW with ⟨HO, Hat, Hrest⟩
  ihave Hw := (Entails.of_eq (rs_parts c (rsBuf m ρ c)).symm) $$ [Hr Hrest]
  · isplitl [Hr]; · iexact Hr
    iexact Hrest
  iapply (step_load_rs c) $$ Hw
  iintro Hw
  ihave Hw := (Entails.of_eq (rs_parts c (rsBuf m ρ c))) $$ Hw
  icases Hw with ⟨Hr, Hrest⟩
  iapply (step_loadOut m ρ c 0) $$ Hout
  iintro %w0 Hout
  iapply (step_storeOut m ρ c 0 (by omega) (off4_eq c) (outChunk_zero m ρ c)) $$ Hout
  iintro Hout
  iapply (step_loadRS c (rsBuf m ρ c)) $$ Hr
  iintro %w1 Hr
  iapply (step_storeRS c (rsBuf m ρ c) (rsRed m ρ c) (fun a b => rfl)) $$ Hr
  iintro Hr
  rw [wp_ret]; imodintro
  iapply HQ
  isplitl [HO]; · iexact HO
  isplitl [Hat]; · iexact Hat
  isplitl [Hrest]; · iexact Hrest
  isplitl [Hr]; · iexact Hr
  iexact Hout

end Cert.KernelIdeal.Run
end
-- ==== Proof.Run.PartsC.lean ====
/-
The printed parts 27 to 36 of the body, each run from its state before to its state after.
-/
module

public import proofs.«01_k».proof.Proof.Run.StepsD

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem part27_run (c : Dev nD) (v2 : BitVec 32) (Q : (Σ' (v852 : BitVec 32), BitVec 32) → sProp (MT nD τ sig Unit (Elt F) ℕ UU ℕ)) :
    iprop(Ctx m ρ K ∗ StD m ρ c 0 ∗ (∀ v, StD m ρ c 2 -∗ Q v))
      ⊢ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part27_eq_skeleton]; unfold k0_part27_skel
  simp only [semSignalWord, semWaitWord, Prog.lift, Prog.bind_op, Prog.bind_ret, Prog.pure_eq_ret]
  iintro ⟨#HC, HB, HQ⟩
  iapply (step_sendD m ρ K c _ 0 14 (by omega) (dev31_eq c) (by omega) (by rfl) (by rfl)) $$ [HB]
  · isplitr; · iexact HC
    iexact HB
  iintro HB
  iapply (step_sendD m ρ K c _ 1 13 (by omega) (dev32_eq c) (by omega) (by rfl) (by rfl)) $$ [HB]
  · isplitr; · iexact HC
    iexact HB
  iintro HB
  rw [wp_ret]; imodintro
  iapply HQ
  iexact HB

theorem part28_run (c : Dev nD) (v2 : BitVec 32) (v852 : BitVec 32) (v853 : BitVec 32) (Q : (PUnit) → sProp (MT nD τ sig Unit (Elt F) ℕ UU ℕ)) :
    iprop(Ctx m ρ K ∗ StD m ρ c 2 ∗ (StD m ρ c 3 -∗ Q ⟨⟩))
      ⊢ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v852 v853) Q := by
  rw [k0_part28_eq_skeleton]; unfold k0_part28_skel
  simp only [semSignalWord, semWaitWord, Prog.lift, Prog.bind_op, Prog.bind_ret, Prog.pure_eq_ret]
  iintro ⟨#HC, HB, HQ⟩
  iapply (step_sendD m ρ K c _ 2 12 (by omega) (dev33_eq c) (by omega) (by rfl) (by rfl)) $$ [HB]
  · isplitr; · iexact HC
    iexact HB
  iintro HB
  rw [wp_ret]; imodintro
  iapply HQ
  iexact HB

theorem part29_run (c : Dev nD) (v2 : BitVec 32) (Q : (Σ' (v915 : BitVec 32) (v916 : BitVec 32) (v917 : BitVec 1), BitVec 32) → sProp (MT nD τ sig Unit (Elt F) ℕ UU ℕ)) :
    iprop(Ctx m ρ K ∗ StD m ρ c 3 ∗ (∀ v, StD m ρ c 5 -∗ Q v))
      ⊢ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part29_eq_skeleton]; unfold k0_part29_skel
  simp only [semSignalWord, semWaitWord, Prog.lift, Prog.bind_op, Prog.bind_ret, Prog.pure_eq_ret]
  iintro ⟨#HC, HB, HQ⟩
  iapply (step_sendD m ρ K c _ 3 11 (by omega) (dev34_eq c) (by omega) (by rfl) (by rfl)) $$ [HB]
  · isplitr; · iexact HC
    iexact HB
  iintro HB
  iapply (step_sendD m ρ K c _ 4 10 (by omega) (dev35_eq c) (by omega) (by rfl) (by rfl)) $$ [HB]
  · isplitr; · iexact HC
    iexact HB
  iintro HB
  rw [wp_ret]; imodintro
  iapply HQ
  iexact HB

theorem part30_run (c : Dev nD) (v2 : BitVec 32) (v915 : BitVec 32) (v916 : BitVec 32) (v917 : BitVec 1) (c0_i32_734 : BitVec 32) (Q : (PUnit) → sProp (MT nD τ sig Unit (Elt F) ℕ UU ℕ)) :
    iprop(Ctx m ρ K ∗ StD m ρ c 5 ∗ (StD m ρ c 6 -∗ Q ⟨⟩))
      ⊢ wp frame (wpE (defs₀ (F := F)) 𝒱₀ (c : Thread nD τ) none) Set.univ (k0_part30 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v915 v916 v917 c0_i32_734) Q := by
  rw [k0_part30_eq_skeleton]; unfold k0_part30_skel
  simp only [semSignalWord, semWaitWord, Prog.lift, Prog.bind_op, Prog.bind_ret, Prog.pure_eq_ret]
  iintro ⟨#HC, HB, HQ⟩
  iapply (step_sendD m ρ K c _ 5 9 (by omega) (dev36_eq c) (by omega) (by rfl) (by rfl)) $$ [HB]
  · isplitr; · iexact HC
    iexact HB
  iintro HB
  rw [wp_ret]; imodintro
  iapply HQ
  iexact HB

theorem part31_run (c : Dev nD) (v2 : BitVec 32) (Q : (Σ' (v978 : BitVec 32) (v979 : BitVec 32) (v980 : BitVec 1) (v981 : BitVec 1), BitVec 1) → sProp (MT nD τ sig Unit (Elt F) ℕ UU ℕ)) :
    iprop(Ctx m ρ K ∗ StD m ρ c 6 ∗ (∀ v, StD m ρ c 8 -∗ Q v))
      ⊢ wp frame (wpE (defs₀ (F := F)) 𝒱₀ (c : Thread nD τ) none) Set.univ (k0_part31 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part31_eq_skeleton]; unfold k0_part31_skel
  simp only [semSignalWord, semWaitWord, Prog.lift, Prog.bind_op, Prog.bind_ret, Prog.pure_eq_ret]
  iintro ⟨#HC, HB, HQ⟩
  iapply (step_sendD m ρ K c _ 6 8 (by omega) (dev37_eq c) (by omega) (by rfl) (by rfl)) $$ [HB]
  · isplitr; · iexact HC
    iexact HB
  iintro HB
  iapply (step_sendD m ρ K c _ 7 7 (by omega) (dev38_eq c) (by omega) (by rfl) (by rfl)) $$ [HB]
  · isplitr; · iexact HC
    iexact HB
  iintro HB
  rw [wp_ret]; imodintro
  iapply HQ
  iexact HB

theorem part32_run (c : Dev nD) (v2 : BitVec 32) (v978 : BitVec 32) (v979 : BitVec 32) (v980 : BitVec 1) (v981 : BitVec 1) (v982 : BitVec 1) (Q : (PUnit) → sProp (MT nD τ sig Unit (Elt F) ℕ UU ℕ)) :
    iprop(Ctx m ρ K ∗ StD m ρ c 8 ∗ (StD m ρ c 9 -∗ Q ⟨⟩))
      ⊢ wp frame (wpE (defs₀ (F := F)) 𝒱₀ (c : Thread nD τ) none) Set.univ (k0_part32 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v978 v979 v980 v981 v982) Q := by
  rw [k0_part32_eq_skeleton]; unfold k0_part32_skel
  simp only [semSignalWord, semWaitWord, Prog.lift, Prog.bind_op, Prog.bind_ret, Prog.pure_eq_ret]
  iintro ⟨#HC, HB, HQ⟩
  iapply (step_sendD m ρ K c _ 8 6 (by omega) (dev39_eq c) (by omega) (by rfl) (by rfl)) $$ [HB]
  · isplitr; · iexact HC
    iexact HB
  iintro HB
  rw [wp_ret]; imodintro
  iapply HQ
  iexact HB

theorem part33_run (c : Dev nD) (v2 : BitVec 32) (Q : (Σ' (v1042 : BitVec 32) (v1047 : BitVec 1), BitVec 32) → sProp (MT nD τ sig Unit (Elt F) ℕ UU ℕ)) :
    iprop(Ctx m ρ K ∗ StD m ρ c 9 ∗ (∀ v, StD m ρ c 11 -∗ Q v))
      ⊢ wp frame (wpE (defs₀ (F := F)) 𝒱₀ (c : Thread nD τ) none) Set.univ (k0_part33 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part33_eq_skeleton]; unfold k0_part33_skel
  simp only [semSignalWord, semWaitWord, Prog.lift, Prog.bind_op, Prog.bind_ret, Prog.pure_eq_ret]
  iintro ⟨#HC, HB, HQ⟩
  iapply (step_sendD m ρ K c _ 9 5 (by omega) (dev40_eq c) (by omega) (by rfl) (by rfl)) $$ [HB]
  · isplitr; · iexact HC
    iexact HB
  iintro HB
  iapply (step_sendD m ρ K c _ 10 4 (by omega) (dev41_eq c) (by omega) (by rfl) (by rfl)) $$ [HB]
  · isplitr; · iexact HC
    iexact HB
  iintro HB
  rw [wp_ret]; imodintro
  iapply HQ
  iexact HB

theorem part34_run (c : Dev nD) (v2 : BitVec 32) (v1042 : BitVec 32) (v1047 : BitVec 1) (v1048 : BitVec 32) (Q : (PUnit) → sProp (MT nD τ sig Unit (Elt F) ℕ UU ℕ)) :
    iprop(Ctx m ρ K ∗ StD m ρ c 11 ∗ (StD m ρ c 12 -∗ Q ⟨⟩))
      ⊢ wp frame (wpE (defs₀ (F := F)) 𝒱₀ (c : Thread nD τ) none) Set.univ (k0_part34 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1042 v1047 v1048) Q := by
  rw [k0_part34_eq_skeleton]; unfold k0_part34_skel
  simp only [semSignalWord, semWaitWord, Prog.lift, Prog.bind_op, Prog.bind_ret, Prog.pure_eq_ret]
  iintro ⟨#HC, HB, HQ⟩
  iapply (step_sendD m ρ K c _ 11 3 (by omega) (dev42_eq c) (by omega) (by rfl) (by rfl)) $$ [HB]
  · isplitr; · iexact HC
    iexact HB
  iintro HB
  rw [wp_ret]; imodintro
  iapply HQ
  iexact HB

theorem part35_run (c : Dev nD) (v2 : BitVec 32) (Q : (BitVec 32) → sProp (MT nD τ sig Unit (Elt F) ℕ UU ℕ)) :
    iprop(Ctx m ρ K ∗ StD m ρ c 12 ∗ (∀ v, StD m ρ c 14 -∗ Q v))
      ⊢ wp frame (wpE (defs₀ (F := F)) 𝒱₀ (c : Thread nD τ) none) Set.univ (k0_part35 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part35_eq_skeleton]; unfold k0_part35_skel
  simp only [semSignalWord, semWaitWord, Prog.lift, Prog.bind_op, Prog.bind_ret, Prog.pure_eq_ret]
  iintro ⟨#HC, HB, HQ⟩
  iapply (step_sendD m ρ K c _ 12 2 (by omega) (dev43_eq c) (by omega) (by rfl) (by rfl)) $$ [HB]
  · isplitr; · iexact HC
    iexact HB
  iintro HB
  iapply (step_sendD m ρ K c _ 13 1 (by omega) (dev44_eq c) (by omega) (by rfl) (by rfl)) $$ [HB]
  · isplitr; · iexact HC
    iexact HB
  iintro HB
  rw [wp_ret]; imodintro
  iapply HQ
  iexact HB

theorem part36_run (c : Dev nD) (v2 : BitVec 32) (v1112 : BitVec 32) (Q : (BitVec 32) → sProp (MT nD τ sig Unit (Elt F) ℕ UU ℕ)) :
    iprop(Ctx m ρ K ∗ StD m ρ c 14 ∗ Fam (preE c) (postE m ρ c) 0 ∗ (∀ v, bigSep (Finset.range 15) (fun j => cred (tallyAt (dc c (41 + j)) () N)) ∗ StE m ρ c 1 -∗ Q v))
      ⊢ wp frame (wpE (defs₀ (F := F)) 𝒱₀ (c : Thread nD τ) none) Set.univ (k0_part36 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1112) Q := by
  rw [k0_part36_eq_skeleton]; unfold k0_part36_skel
  simp only [semSignalWord, semWaitWord, Prog.lift, Prog.bind_op, Prog.bind_ret, Prog.pure_eq_ret]
  iintro ⟨#HC, HB, HW, HQ⟩
  iapply (step_sendD m ρ K c _ 14 0 (by omega) (dev45_eq c) (by omega) (by rfl) (by rfl)) $$ [HB]
  · isplitr; · iexact HC
    iexact HB
  iintro HB
  ihave HB := (StD_done m ρ c) $$ HB
  icases HB with ⟨HO, Hcr⟩
  ihave HW := (StE_start m ρ c) $$ [HO HW]
  · isplitl [HO]; · iexact HO
    iexact HW
  iapply (step_waitE m ρ K c 0 (by omega) (by rfl) (by rfl)) $$ [HW]
  · isplitr; · iexact HC
    iexact HW
  iintro HW
  rw [wp_ret]; imodintro
  iapply HQ
  isplitl [Hcr]; · iexact Hcr
  iexact HW

end Cert.KernelIdeal.Run
end
-- ==== Proof.Run.PartsD.lean ====
/-
The printed parts 37 to 49 of the body, each run from its state before to its state after.
-/
module

public import proofs.«01_k».proof.Proof.Run.StepsD

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem part37_run (c : Dev nD) (v2 : BitVec 32) (v1142 : BitVec 32) (Q : (Σ' (v1173 : FVec F S16x1024 .f32), BitVec 32) → sProp (MT nD τ sig Unit (Elt F) ℕ UU ℕ)) :
    iprop(Ctx m ρ K ∗ StE m ρ c 1 ∗ Outs m ρ c 1 ∗ (∀ v : BitVec 32, StE m ρ c 2 ∗ Outs m ρ c 2 -∗ Q ⟨k0_pay20 (redB m ρ (peer c (1 + 1))), v⟩))
      ⊢ wp frame (wpE (defs₀ (F := F)) 𝒱₀ (c : Thread nD τ) none) Set.univ (k0_part37 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1142) Q := by
  rw [k0_part37_eq_skeleton]; unfold k0_part37_skel
  simp only [semSignalWord, semWaitWord, Prog.lift, Prog.bind_op, Prog.bind_ret, Prog.pure_eq_ret]
  iintro ⟨#HC, HW, Hout, HQ⟩
  iapply (step_loadAG m ρ c 0 (by omega)) $$ HW
  iintro HW
  iapply (step_loadOut m ρ c 1) $$ Hout
  iintro %w0 Hout
  iapply (step_storeOut m ρ c 1 (by omega) (off5_0_eq c) (outChunk_succ m ρ c 0)) $$ Hout
  iintro Hout
  iapply (step_waitE m ρ K c 1 (by omega) (by rfl) (by rfl)) $$ [HW]
  · isplitr; · iexact HC
    iexact HW
  iintro HW
  iapply (step_loadAG m ρ c 1 (by omega)) $$ HW
  iintro HW
  rw [wp_ret]; imodintro
  iapply HQ
  isplitl [HW]; · iexact HW
  iexact Hout

theorem part38_run (c : Dev nD) (v2 : BitVec 32) (v1174 : BitVec 32) (Q : (FVec F S1x16x1024 .f32) → sProp (MT nD τ sig Unit (Elt F) ℕ UU ℕ)) :
    iprop(Ctx m ρ K ∗ StE m ρ c 2 ∗ Outs m ρ c 2 ∗ (StE m ρ c 3 ∗ Outs m ρ c 3 -∗ Q (k0_pay22 (redB m ρ (peer c (2 + 1))))))
      ⊢ wp frame (wpE (defs₀ (F := F)) 𝒱₀ (c : Thread nD τ) none) Set.univ (k0_part38 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (k0_pay20 (redB m ρ (peer c (1 + 1)))) v1174) Q := by
  rw [k0_part38_eq_skeleton]; unfold k0_part38_skel
  simp only [semSignalWord, semWaitWord, Prog.lift, Prog.bind_op, Prog.bind_ret, Prog.pure_eq_ret]
  iintro ⟨#HC, HW, Hout, HQ⟩
  iapply (step_loadOut m ρ c 2) $$ Hout
  iintro %w0 Hout
  iapply (step_storeOut m ρ c 2 (by omega) (off5_1_eq c) (outChunk_succ m ρ c 1)) $$ Hout
  iintro Hout
  iapply (step_waitE m ρ K c 2 (by omega) (by rfl) (by rfl)) $$ [HW]
  · isplitr; · iexact HC
    iexact HW
  iintro HW
  iapply (step_loadAG m ρ c 2 (by omega)) $$ HW
  iintro HW
  iapply (step_loadOut m ρ c 3) $$ Hout
  iintro %w1 Hout
  rw [wp_ret]; imodintro
  iapply HQ
  isplitl [HW]; · iexact HW
  iexact Hout

theorem part39_run (c : Dev nD) (v2 : BitVec 32) (Q : (BitVec 32) → sProp (MT nD τ sig Unit (Elt F) ℕ UU ℕ)) :
    iprop(Ctx m ρ K ∗ StE m ρ c 3 ∗ Outs m ρ c 3 ∗ (∀ v, StE m ρ c 4 ∗ Outs m ρ c 5 -∗ Q v))
      ⊢ wp frame (wpE (defs₀ (F := F)) 𝒱₀ (c : Thread nD τ) none) Set.univ (k0_part39 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (k0_pay22 (redB m ρ (peer c (2 + 1))))) Q := by
  rw [k0_part39_eq_skeleton]; unfold k0_part39_skel
  simp only [semSignalWord, semWaitWord, Prog.lift, Prog.bind_op, Prog.bind_ret, Prog.pure_eq_ret]
  iintro ⟨#HC, HW, Hout, HQ⟩
  iapply (step_storeOut m ρ c 3 (by omega) (off5_2_eq c) (outChunk_succ m ρ c 2)) $$ Hout
  iintro Hout
  iapply (step_waitE m ρ K c 3 (by omega) (by rfl) (by rfl)) $$ [HW]
  · isplitr; · iexact HC
    iexact HW
  iintro HW
  iapply (step_loadAG m ρ c 3 (by omega)) $$ HW
  iintro HW
  iapply (step_loadOut m ρ c 4) $$ Hout
  iintro %w0 Hout
  iapply (step_storeOut m ρ c 4 (by omega) (off5_3_eq c) (outChunk_succ m ρ c 3)) $$ Hout
  iintro Hout
  rw [wp_ret]; imodintro
  iapply HQ
  isplitl [HW]; · iexact HW
  iexact Hout

theorem part40_run (c : Dev nD) (v2 : BitVec 32) (c1_i32_999 : BitVec 32) (Q : (PUnit) → sProp (MT nD τ sig Unit (Elt F) ℕ UU ℕ)) :
    iprop(Ctx m ρ K ∗ StE m ρ c 4 ∗ Outs m ρ c 5 ∗ (StE m ρ c 5 ∗ Outs m ρ c 6 -∗ Q ⟨⟩))
      ⊢ wp frame (wpE (defs₀ (F := F)) 𝒱₀ (c : Thread nD τ) none) Set.univ (k0_part40 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 c1_i32_999) Q := by
  rw [k0_part40_eq_skeleton]; unfold k0_part40_skel
  simp only [semSignalWord, semWaitWord, Prog.lift, Prog.bind_op, Prog.bind_ret, Prog.pure_eq_ret]
  iintro ⟨#HC, HW, Hout, HQ⟩
  iapply (step_waitE m ρ K c 4 (by omega) (by rfl) (by rfl)) $$ [HW]
  · isplitr; · iexact HC
    iexact HW
  iintro HW
  iapply (step_loadAG m ρ c 4 (by omega)) $$ HW
  iintro HW
  iapply (step_loadOut m ρ c 5) $$ Hout
  iintro %w0 Hout
  iapply (step_storeOut m ρ c 5 (by omega) (off5_4_eq c) (outChunk_succ m ρ c 4)) $$ Hout
  iintro Hout
  rw [wp_ret]; imodintro
  iapply HQ
  isplitl [HW]; · iexact HW
  iexact Hout

theorem part41_run (c : Dev nD) (v2 : BitVec 32) (Q : (PUnit) → sProp (MT nD τ sig Unit (Elt F) ℕ UU ℕ)) :
    iprop(Ctx m ρ K ∗ StE m ρ c 5 ∗ Outs m ρ c 6 ∗ (StE m ρ c 6 ∗ Outs m ρ c 7 -∗ Q ⟨⟩))
      ⊢ wp frame (wpE (defs₀ (F := F)) 𝒱₀ (c : Thread nD τ) none) Set.univ (k0_part41 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part41_eq_skeleton]; unfold k0_part41_skel
  simp only [semSignalWord, semWaitWord, Prog.lift, Prog.bind_op, Prog.bind_ret, Prog.pure_eq_ret]
  iintro ⟨#HC, HW, Hout, HQ⟩
  iapply (step_waitE m ρ K c 5 (by omega) (by rfl) (by rfl)) $$ [HW]
  · isplitr; · iexact HC
    iexact HW
  iintro HW
  iapply (step_loadAG m ρ c 5 (by omega)) $$ HW
  iintro HW
  iapply (step_loadOut m ρ c 6) $$ Hout
  iintro %w0 Hout
  iapply (step_storeOut m ρ c 6 (by omega) (off5_5_eq c) (outChunk_succ m ρ c 5)) $$ Hout
  iintro Hout
  rw [wp_ret]; imodintro
  iapply HQ
  isplitl [HW]; · iexact HW
  iexact Hout

theorem part42_run (c : Dev nD) (v2 : BitVec 32) (Q : (BitVec 32) → sProp (MT nD τ sig Unit (Elt F) ℕ UU ℕ)) :
    iprop(Ctx m ρ K ∗ StE m ρ c 6 ∗ Outs m ρ c 7 ∗ (∀ v, StE m ρ c 8 ∗ Outs m ρ c 8 -∗ Q v))
      ⊢ wp frame (wpE (defs₀ (F := F)) 𝒱₀ (c : Thread nD τ) none) Set.univ (k0_part42 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q := by
  rw [k0_part42_eq_skeleton]; unfold k0_part42_skel
  simp only [semSignalWord, semWaitWord, Prog.lift, Prog.bind_op, Prog.bind_ret, Prog.pure_eq_ret]
  iintro ⟨#HC, HW, Hout, HQ⟩
  iapply (step_waitE m ρ K c 6 (by omega) (by rfl) (by rfl)) $$ [HW]
  · isplitr; · iexact HC
    iexact HW
  iintro HW
  iapply (step_loadAG m ρ c 6 (by omega)) $$ HW
  iintro HW
  iapply (step_loadOut m ρ c 7) $$ Hout
  iintro %w0 Hout
  iapply (step_storeOut m ρ c 7 (by omega) (off5_6_eq c) (outChunk_succ m ρ c 6)) $$ Hout
  iintro Hout
  iapply (step_waitE m ρ K c 7 (by omega) (by rfl) (by rfl)) $$ [HW]
  · isplitr; · iexact HC
    iexact HW
  iintro HW
  rw [wp_ret]; imodintro
  iapply HQ
  isplitl [HW]; · iexact HW
  iexact Hout

theorem part43_run (c : Dev nD) (v2 : BitVec 32) (v1328 : BitVec 32) (Q : (Σ' (v1358 : BitVec 32), BitVec 32) → sProp (MT nD τ sig Unit (Elt F) ℕ UU ℕ)) :
    iprop(Ctx m ρ K ∗ StE m ρ c 8 ∗ Outs m ρ c 8 ∗ (∀ v, StE m ρ c 9 ∗ Outs m ρ c 9 -∗ Q v))
      ⊢ wp frame (wpE (defs₀ (F := F)) 𝒱₀ (c : Thread nD τ) none) Set.univ (k0_part43 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1328) Q := by
  rw [k0_part43_eq_skeleton]; unfold k0_part43_skel
  simp only [semSignalWord, semWaitWord, Prog.lift, Prog.bind_op, Prog.bind_ret, Prog.pure_eq_ret]
  iintro ⟨#HC, HW, Hout, HQ⟩
  iapply (step_loadAG m ρ c 7 (by omega)) $$ HW
  iintro HW
  iapply (step_loadOut m ρ c 8) $$ Hout
  iintro %w0 Hout
  iapply (step_storeOut m ρ c 8 (by omega) (off5_7_eq c) (outChunk_succ m ρ c 7)) $$ Hout
  iintro Hout
  iapply (step_waitE m ρ K c 8 (by omega) (by rfl) (by rfl)) $$ [HW]
  · isplitr; · iexact HC
    iexact HW
  iintro HW
  rw [wp_ret]; imodintro
  iapply HQ
  isplitl [HW]; · iexact HW
  iexact Hout

theorem part44_run (c : Dev nD) (v2 : BitVec 32) (v1358 : BitVec 32) (v1359 : BitVec 32) (Q : (Σ' (v1386 : BitVec 32) (v1387 : BitVec 32) (v1388 : BitVec 1) (v1389 : BitVec 1), BitVec 1) → sProp (MT nD τ sig Unit (Elt F) ℕ UU ℕ)) :
    iprop(Ctx m ρ K ∗ StE m ρ c 9 ∗ Outs m ρ c 9 ∗ (∀ v, StE m ρ c 10 ∗ Outs m ρ c 10 -∗ Q v))
      ⊢ wp frame (wpE (defs₀ (F := F)) 𝒱₀ (c : Thread nD τ) none) Set.univ (k0_part44 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1358 v1359) Q := by
  rw [k0_part44_eq_skeleton]; unfold k0_part44_skel
  simp only [semSignalWord, semWaitWord, Prog.lift, Prog.bind_op, Prog.bind_ret, Prog.pure_eq_ret]
  iintro ⟨#HC, HW, Hout, HQ⟩
  iapply (step_loadAG m ρ c 8 (by omega)) $$ HW
  iintro HW
  iapply (step_loadOut m ρ c 9) $$ Hout
  iintro %w0 Hout
  iapply (step_storeOut m ρ c 9 (by omega) (off5_8_eq c) (outChunk_succ m ρ c 8)) $$ Hout
  iintro Hout
  iapply (step_waitE m ρ K c 9 (by omega) (by rfl) (by rfl)) $$ [HW]
  · isplitr; · iexact HC
    iexact HW
  iintro HW
  rw [wp_ret]; imodintro
  iapply HQ
  isplitl [HW]; · iexact HW
  iexact Hout

theorem part45_run (c : Dev nD) (v2 : BitVec 32) (v1386 : BitVec 32) (v1387 : BitVec 32) (v1388 : BitVec 1) (v1389 : BitVec 1) (v1390 : BitVec 1) (Q : (BitVec 32) → sProp (MT nD τ sig Unit (Elt F) ℕ UU ℕ)) :
    iprop(Ctx m ρ K ∗ StE m ρ c 10 ∗ Outs m ρ c 10 ∗ (∀ v, StE m ρ c 11 ∗ Outs m ρ c 11 -∗ Q v))
      ⊢ wp frame (wpE (defs₀ (F := F)) 𝒱₀ (c : Thread nD τ) none) Set.univ (k0_part45 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1386 v1387 v1388 v1389 v1390) Q := by
  rw [k0_part45_eq_skeleton]; unfold k0_part45_skel
  simp only [semSignalWord, semWaitWord, Prog.lift, Prog.bind_op, Prog.bind_ret, Prog.pure_eq_ret]
  iintro ⟨#HC, HW, Hout, HQ⟩
  iapply (step_loadAG m ρ c 9 (by omega)) $$ HW
  iintro HW
  iapply (step_loadOut m ρ c 10) $$ Hout
  iintro %w0 Hout
  iapply (step_storeOut m ρ c 10 (by omega) (off5_9_eq c) (outChunk_succ m ρ c 9)) $$ Hout
  iintro Hout
  iapply (step_waitE m ρ K c 10 (by omega) (by rfl) (by rfl)) $$ [HW]
  · isplitr; · iexact HC
    iexact HW
  iintro HW
  rw [wp_ret]; imodintro
  iapply HQ
  isplitl [HW]; · iexact HW
  iexact Hout

theorem part46_run (c : Dev nD) (v2 : BitVec 32) (v1422 : BitVec 32) (Q : (Σ' (v1453 : FVec F S16x1024 .f32), BitVec 32) → sProp (MT nD τ sig Unit (Elt F) ℕ UU ℕ)) :
    iprop(Ctx m ρ K ∗ StE m ρ c 11 ∗ Outs m ρ c 11 ∗ (∀ v : BitVec 32, StE m ρ c 12 ∗ Outs m ρ c 12 -∗ Q ⟨k0_pay31 (redB m ρ (peer c (11 + 1))), v⟩))
      ⊢ wp frame (wpE (defs₀ (F := F)) 𝒱₀ (c : Thread nD τ) none) Set.univ (k0_part46 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v1422) Q := by
  rw [k0_part46_eq_skeleton]; unfold k0_part46_skel
  simp only [semSignalWord, semWaitWord, Prog.lift, Prog.bind_op, Prog.bind_ret, Prog.pure_eq_ret]
  iintro ⟨#HC, HW, Hout, HQ⟩
  iapply (step_loadAG m ρ c 10 (by omega)) $$ HW
  iintro HW
  iapply (step_loadOut m ρ c 11) $$ Hout
  iintro %w0 Hout
  iapply (step_storeOut m ρ c 11 (by omega) (off5_10_eq c) (outChunk_succ m ρ c 10)) $$ Hout
  iintro Hout
  iapply (step_waitE m ρ K c 11 (by omega) (by rfl) (by rfl)) $$ [HW]
  · isplitr; · iexact HC
    iexact HW
  iintro HW
  iapply (step_loadAG m ρ c 11 (by omega)) $$ HW
  iintro HW
  rw [wp_ret]; imodintro
  iapply HQ
  isplitl [HW]; · iexact HW
  iexact Hout

theorem part47_run (c : Dev nD) (v2 : BitVec 32) (v1454 : BitVec 32) (Q : (FVec F S1x16x1024 .f32) → sProp (MT nD τ sig Unit (Elt F) ℕ UU ℕ)) :
    iprop(Ctx m ρ K ∗ StE m ρ c 12 ∗ Outs m ρ c 12 ∗ (StE m ρ c 13 ∗ Outs m ρ c 13 -∗ Q (k0_pay33 (redB m ρ (peer c (12 + 1))))))
      ⊢ wp frame (wpE (defs₀ (F := F)) 𝒱₀ (c : Thread nD τ) none) Set.univ (k0_part47 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (k0_pay31 (redB m ρ (peer c (11 + 1)))) v1454) Q := by
  rw [k0_part47_eq_skeleton]; unfold k0_part47_skel
  simp only [semSignalWord, semWaitWord, Prog.lift, Prog.bind_op, Prog.bind_ret, Prog.pure_eq_ret]
  iintro ⟨#HC, HW, Hout, HQ⟩
  iapply (step_loadOut m ρ c 12) $$ Hout
  iintro %w0 Hout
  iapply (step_storeOut m ρ c 12 (by omega) (off5_11_eq c) (outChunk_succ m ρ c 11)) $$ Hout
  iintro Hout
  iapply (step_waitE m ρ K c 12 (by omega) (by rfl) (by rfl)) $$ [HW]
  · isplitr; · iexact HC
    iexact HW
  iintro HW
  iapply (step_loadAG m ρ c 12 (by omega)) $$ HW
  iintro HW
  iapply (step_loadOut m ρ c 13) $$ Hout
  iintro %w1 Hout
  rw [wp_ret]; imodintro
  iapply HQ
  isplitl [HW]; · iexact HW
  iexact Hout

theorem part48_run (c : Dev nD) (v2 : BitVec 32) (Q : (BitVec 32) → sProp (MT nD τ sig Unit (Elt F) ℕ UU ℕ)) :
    iprop(Ctx m ρ K ∗ StE m ρ c 13 ∗ Outs m ρ c 13 ∗ (∀ v, StE m ρ c 14 ∗ Outs m ρ c 15 -∗ Q v))
      ⊢ wp frame (wpE (defs₀ (F := F)) 𝒱₀ (c : Thread nD τ) none) Set.univ (k0_part48 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (k0_pay33 (redB m ρ (peer c (12 + 1))))) Q := by
  rw [k0_part48_eq_skeleton]; unfold k0_part48_skel
  simp only [semSignalWord, semWaitWord, Prog.lift, Prog.bind_op, Prog.bind_ret, Prog.pure_eq_ret]
  iintro ⟨#HC, HW, Hout, HQ⟩
  iapply (step_storeOut m ρ c 13 (by omega) (off5_12_eq c) (outChunk_succ m ρ c 12)) $$ Hout
  iintro Hout
  iapply (step_waitE m ρ K c 13 (by omega) (by rfl) (by rfl)) $$ [HW]
  · isplitr; · iexact HC
    iexact HW
  iintro HW
  iapply (step_loadAG m ρ c 13 (by omega)) $$ HW
  iintro HW
  iapply (step_loadOut m ρ c 14) $$ Hout
  iintro %w0 Hout
  iapply (step_storeOut m ρ c 14 (by omega) (off5_13_eq c) (outChunk_succ m ρ c 13)) $$ Hout
  iintro Hout
  rw [wp_ret]; imodintro
  iapply HQ
  isplitl [HW]; · iexact HW
  iexact Hout

theorem part49_run (c : Dev nD) (v2 : BitVec 32) (c1_i32_1229 : BitVec 32) (Q : (PUnit) → sProp (MT nD τ sig Unit (Elt F) ℕ UU ℕ)) :
    iprop(Ctx m ρ K ∗ StE m ρ c 14 ∗ Outs m ρ c 15 ∗ (StE m ρ c 15 ∗ Outs m ρ c 16 -∗ Q ⟨⟩))
      ⊢ wp frame (wpE (defs₀ (F := F)) 𝒱₀ (c : Thread nD τ) none) Set.univ (k0_part49 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 c1_i32_1229) Q := by
  rw [k0_part49_eq_skeleton]; unfold k0_part49_skel
  simp only [semSignalWord, semWaitWord, Prog.lift, Prog.bind_op, Prog.bind_ret, Prog.pure_eq_ret]
  iintro ⟨#HC, HW, Hout, HQ⟩
  iapply (step_waitE m ρ K c 14 (by omega) (by rfl) (by rfl)) $$ [HW]
  · isplitr; · iexact HC
    iexact HW
  iintro HW
  iapply (step_loadAG m ρ c 14 (by omega)) $$ HW
  iintro HW
  iapply (step_loadOut m ρ c 15) $$ Hout
  iintro %w0 Hout
  iapply (step_storeOut m ρ c 15 (by omega) (off5_14_eq c) (outChunk_succ m ρ c 14)) $$ Hout
  iintro Hout
  rw [wp_ret]; imodintro
  iapply HQ
  isplitl [HW]; · iexact HW
  iexact Hout

end Cert.KernelIdeal.Run
end
-- ==== Proof.Run.PartsE.lean ====
/-
The printed parts 50 to 56 of the body, each run from its state before to its state after.
-/
module

public import proofs.«01_k».proof.Proof.Run.StepsD

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem part50_run (c : Dev nD)  (Q : (PUnit) → sProp (MT nD τ sig Unit (Elt F) ℕ UU ℕ)) :
    iprop(Ctx m ρ K ∗ StG m ρ c 0 ∗ (StG m ρ c 5 -∗ Q ⟨⟩))
      ⊢ wp frame (wpE (defs₀ (F := F)) 𝒱₀ (c : Thread nD τ) none) Set.univ (k0_part50 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Q := by
  rw [k0_part50_eq_skeleton]; unfold k0_part50_skel
  simp only [semSignalWord, semWaitWord, Prog.lift, Prog.bind_op, Prog.bind_ret, Prog.pure_eq_ret]
  iintro ⟨#HC, HW, HQ⟩
  iapply (step_waitG m ρ K c 0 (by omega) (by rfl) (by rfl)) $$ [HW]
  · isplitr; · iexact HC
    iexact HW
  iintro HW
  iapply (step_waitG m ρ K c 1 (by omega) (by rfl) (by rfl)) $$ [HW]
  · isplitr; · iexact HC
    iexact HW
  iintro HW
  iapply (step_waitG m ρ K c 2 (by omega) (by rfl) (by rfl)) $$ [HW]
  · isplitr; · iexact HC
    iexact HW
  iintro HW
  iapply (step_waitG m ρ K c 3 (by omega) (by rfl) (by rfl)) $$ [HW]
  · isplitr; · iexact HC
    iexact HW
  iintro HW
  iapply (step_waitG m ρ K c 4 (by omega) (by rfl) (by rfl)) $$ [HW]
  · isplitr; · iexact HC
    iexact HW
  iintro HW
  rw [wp_ret]; imodintro
  iapply HQ
  iexact HW

theorem part51_run (c : Dev nD)  (Q : (PUnit) → sProp (MT nD τ sig Unit (Elt F) ℕ UU ℕ)) :
    iprop(Ctx m ρ K ∗ StG m ρ c 5 ∗ (StG m ρ c 10 -∗ Q ⟨⟩))
      ⊢ wp frame (wpE (defs₀ (F := F)) 𝒱₀ (c : Thread nD τ) none) Set.univ (k0_part51 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Q := by
  rw [k0_part51_eq_skeleton]; unfold k0_part51_skel
  simp only [semSignalWord, semWaitWord, Prog.lift, Prog.bind_op, Prog.bind_ret, Prog.pure_eq_ret]
  iintro ⟨#HC, HW, HQ⟩
  iapply (step_waitG m ρ K c 5 (by omega) (by rfl) (by rfl)) $$ [HW]
  · isplitr; · iexact HC
    iexact HW
  iintro HW
  iapply (step_waitG m ρ K c 6 (by omega) (by rfl) (by rfl)) $$ [HW]
  · isplitr; · iexact HC
    iexact HW
  iintro HW
  iapply (step_waitG m ρ K c 7 (by omega) (by rfl) (by rfl)) $$ [HW]
  · isplitr; · iexact HC
    iexact HW
  iintro HW
  iapply (step_waitG m ρ K c 8 (by omega) (by rfl) (by rfl)) $$ [HW]
  · isplitr; · iexact HC
    iexact HW
  iintro HW
  iapply (step_waitG m ρ K c 9 (by omega) (by rfl) (by rfl)) $$ [HW]
  · isplitr; · iexact HC
    iexact HW
  iintro HW
  rw [wp_ret]; imodintro
  iapply HQ
  iexact HW

theorem part52_run (c : Dev nD)  (Q : (PUnit) → sProp (MT nD τ sig Unit (Elt F) ℕ UU ℕ)) :
    iprop(Ctx m ρ K ∗ StG m ρ c 10 ∗ (StG m ρ c 14 -∗ Q ⟨⟩))
      ⊢ wp frame (wpE (defs₀ (F := F)) 𝒱₀ (c : Thread nD τ) none) Set.univ (k0_part52 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Q := by
  rw [k0_part52_eq_skeleton]; unfold k0_part52_skel
  simp only [semSignalWord, semWaitWord, Prog.lift, Prog.bind_op, Prog.bind_ret, Prog.pure_eq_ret]
  iintro ⟨#HC, HW, HQ⟩
  iapply (step_waitG m ρ K c 10 (by omega) (by rfl) (by rfl)) $$ [HW]
  · isplitr; · iexact HC
    iexact HW
  iintro HW
  iapply (step_waitG m ρ K c 11 (by omega) (by rfl) (by rfl)) $$ [HW]
  · isplitr; · iexact HC
    iexact HW
  iintro HW
  iapply (step_waitG m ρ K c 12 (by omega) (by rfl) (by rfl)) $$ [HW]
  · isplitr; · iexact HC
    iexact HW
  iintro HW
  iapply (step_waitG m ρ K c 13 (by omega) (by rfl) (by rfl)) $$ [HW]
  · isplitr; · iexact HC
    iexact HW
  iintro HW
  rw [wp_ret]; imodintro
  iapply HQ
  iexact HW

theorem part53_run (c : Dev nD)  (Q : (PUnit) → sProp (MT nD τ sig Unit (Elt F) ℕ UU ℕ)) :
    iprop(Ctx m ρ K ∗ StG m ρ c 14 ∗ Fam (preH c) (postH m ρ c) 0 ∗ (bigSep (Finset.range 15) (postG m ρ c) ∗ StH m ρ c 3 -∗ Q ⟨⟩))
      ⊢ wp frame (wpE (defs₀ (F := F)) 𝒱₀ (c : Thread nD τ) none) Set.univ (k0_part53 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c) Q := by
  rw [k0_part53_eq_skeleton]; unfold k0_part53_skel
  simp only [semSignalWord, semWaitWord, Prog.lift, Prog.bind_op, Prog.bind_ret, Prog.pure_eq_ret]
  iintro ⟨#HC, HW, HH, HQ⟩
  iapply (step_waitG m ρ K c 14 (by omega) (by rfl) (by rfl)) $$ [HW]
  · isplitr; · iexact HC
    iexact HW
  iintro HW
  ihave HW := (StG_done m ρ c) $$ HW
  icases HW with ⟨HO, Hg⟩
  ihave HW := (StH_start m ρ c) $$ [HO HH]
  · isplitl [HO]; · iexact HO
    iexact HH
  iapply (step_waitH m ρ K c 0 (by omega) (by rfl) (by rfl)) $$ [HW]
  · isplitr; · iexact HC
    iexact HW
  iintro HW
  iapply (step_waitH m ρ K c 1 (by omega) (by rfl) (by rfl)) $$ [HW]
  · isplitr; · iexact HC
    iexact HW
  iintro HW
  iapply (step_waitH m ρ K c 2 (by omega) (by rfl) (by rfl)) $$ [HW]
  · isplitr; · iexact HC
    iexact HW
  iintro HW
  rw [wp_ret]; imodintro
  iapply HQ
  isplitl [Hg]; · iexact Hg
  iexact HW

theorem part54_run (c : Dev nD)  (Q : (PUnit) → sProp (MT nD τ sig Unit (Elt F) ℕ UU ℕ)) :
    iprop(Ctx m ρ K ∗ StH m ρ c 3 ∗ (StH m ρ c 7 -∗ Q ⟨⟩))
      ⊢ wp frame (wpE (defs₀ (F := F)) 𝒱₀ (c : Thread nD τ) none) Set.univ (k0_part54 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 ) Q := by
  rw [k0_part54_eq_skeleton]; unfold k0_part54_skel
  simp only [semSignalWord, semWaitWord, Prog.lift, Prog.bind_op, Prog.bind_ret, Prog.pure_eq_ret]
  iintro ⟨#HC, HW, HQ⟩
  iapply (step_waitH m ρ K c 3 (by omega) (by rfl) (by rfl)) $$ [HW]
  · isplitr; · iexact HC
    iexact HW
  iintro HW
  iapply (step_waitH m ρ K c 4 (by omega) (by rfl) (by rfl)) $$ [HW]
  · isplitr; · iexact HC
    iexact HW
  iintro HW
  iapply (step_waitH m ρ K c 5 (by omega) (by rfl) (by rfl)) $$ [HW]
  · isplitr; · iexact HC
    iexact HW
  iintro HW
  iapply (step_waitH m ρ K c 6 (by omega) (by rfl) (by rfl)) $$ [HW]
  · isplitr; · iexact HC
    iexact HW
  iintro HW
  rw [wp_ret]; imodintro
  iapply HQ
  iexact HW

theorem part55_run (c : Dev nD)  (Q : (PUnit) → sProp (MT nD τ sig Unit (Elt F) ℕ UU ℕ)) :
    iprop(Ctx m ρ K ∗ StH m ρ c 7 ∗ (StH m ρ c 11 -∗ Q ⟨⟩))
      ⊢ wp frame (wpE (defs₀ (F := F)) 𝒱₀ (c : Thread nD τ) none) Set.univ (k0_part55 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 ) Q := by
  rw [k0_part55_eq_skeleton]; unfold k0_part55_skel
  simp only [semSignalWord, semWaitWord, Prog.lift, Prog.bind_op, Prog.bind_ret, Prog.pure_eq_ret]
  iintro ⟨#HC, HW, HQ⟩
  iapply (step_waitH m ρ K c 7 (by omega) (by rfl) (by rfl)) $$ [HW]
  · isplitr; · iexact HC
    iexact HW
  iintro HW
  iapply (step_waitH m ρ K c 8 (by omega) (by rfl) (by rfl)) $$ [HW]
  · isplitr; · iexact HC
    iexact HW
  iintro HW
  iapply (step_waitH m ρ K c 9 (by omega) (by rfl) (by rfl)) $$ [HW]
  · isplitr; · iexact HC
    iexact HW
  iintro HW
  iapply (step_waitH m ρ K c 10 (by omega) (by rfl) (by rfl)) $$ [HW]
  · isplitr; · iexact HC
    iexact HW
  iintro HW
  rw [wp_ret]; imodintro
  iapply HQ
  iexact HW

theorem part56_run (c : Dev nD)  (Q : (PUnit) → sProp (MT nD τ sig Unit (Elt F) ℕ UU ℕ)) :
    iprop(Ctx m ρ K ∗ StH m ρ c 11 ∗ (StH m ρ c 14 -∗ Q ⟨⟩))
      ⊢ wp frame (wpE (defs₀ (F := F)) 𝒱₀ (c : Thread nD τ) none) Set.univ (k0_part56 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 ) Q := by
  rw [k0_part56_eq_skeleton]; unfold k0_part56_skel
  simp only [semSignalWord, semWaitWord, Prog.lift, Prog.bind_op, Prog.bind_ret, Prog.pure_eq_ret]
  iintro ⟨#HC, HW, HQ⟩
  iapply (step_waitH m ρ K c 11 (by omega) (by rfl) (by rfl)) $$ [HW]
  · isplitr; · iexact HC
    iexact HW
  iintro HW
  iapply (step_waitH m ρ K c 12 (by omega) (by rfl) (by rfl)) $$ [HW]
  · isplitr; · iexact HC
    iexact HW
  iintro HW
  iapply (step_waitH m ρ K c 13 (by omega) (by rfl) (by rfl)) $$ [HW]
  · isplitr; · iexact HC
    iexact HW
  iintro HW
  rw [wp_ret]; imodintro
  iapply HQ
  iexact HW

end Cert.KernelIdeal.Run
end
-- ==== Proof.Run.Body.lean ====
/-
The body run from start to end, one printed part after another.
-/
module

public import proofs.«01_k».proof.Proof.Run.PartsA
public import proofs.«01_k».proof.Proof.Run.PartsB
public import proofs.«01_k».proof.Proof.Run.PartsC
public import proofs.«01_k».proof.Proof.Run.PartsD
public import proofs.«01_k».proof.Proof.Run.PartsE

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem acc_eq (c : Dev nD) : (((c : Thread nD τ).loc cc0_scratch0 ↦{fullShare} k0_pay14 (k0_pay1 (xs m ρ c) (wqs m ρ c)) (k0_pay4 (k0_pay1 (xs m ρ c) (wqs m ρ c)) (k0 m c) (v0 m c)) (k0_pay5 (k0_pay1 (xs m ρ c) (wqs m ρ c)) (k0 m c) (v0 m c)) (k0_pay6 (k0_pay1 (xs m ρ c) (wqs m ρ c)) (k0 m c) (v0 m c)) (k0_pay7 (k0_pay1 (xs m ρ c) (wqs m ρ c)) (k0 m c) (v0 m c)) (k0_pay8 (k1 m c)) (k0_pay9 (v1 m c)) (k0_pay10 (k0_pay1 (xs m ρ c) (wqs m ρ c)) (k1 m c) (v1 m c)) (k0_pay12 (k0_pay1 (xs m ρ c) (wqs m ρ c)) (k1 m c)) (k0_pay13 (k0_pay1 (xs m ρ c) (wqs m ρ c)) (k1 m c)) (constant S256x128 .f32 0x00000000#32) (wos m ρ c)) : sProp (MT nD τ sig Unit (Elt F) ℕ UU ℕ))
    ⊢ ((c : Thread nD τ).loc cc0_scratch0 ↦{fullShare} acc m ρ c) := .rfl

/-- What the barrier hands over, family by family. -/
theorem bar_split (c : Dev nD) : bigSep (Finset.range 15) (fun j => barPay (F := F) c j)
    ⊢ iprop(bigSep (Finset.range 15) (fun j => iprop(∃ f, rsPts (F := F) (peer c (j + 1)) (15 - j) f)) ∗ bigSep (Finset.range 15) (fun j => iprop(∃ f, agPts (F := F) (peer c (j + 1)) (14 - j) f))) := by
  unfold barPay; exact Entails.of_eq (bigSep_sep' _ _ _)

theorem stB_init (c : Dev nD) :
    iprop(Od c 15 0 0 ∗ bigSep (Finset.range 15) (fun j => dutyTok ER (dc c (9 + j)) 0 0) ∗ bigSep (Finset.range 15) (fun j => dutyTok ER (dc (peer c (j + 1)) (24 + (15 - j))) 0 0) ∗ bigSep (Finset.range 15) (fun j => accPts c (peer c (j + 1)).val (acc m ρ c)) ∗ bigSep (Finset.range 15) (fun j => iprop(∃ f, rsPts (F := F) (peer c (j + 1)) (15 - j) f)))
      ⊢ StB m ρ c 0 := by
  unfold StB
  refine Laws.sep_mono .rfl (BIBase.Entails.trans ?_ (Fam_init _ _))
  unfold preB; simp only [bigSep_sep']; exact .rfl
theorem stA_init (c : Dev nD) :
    iprop(Od c 0 0 0 ∗ bigSep (Finset.range 15) (fun j => dutyTok ER (bar (peer c (j + 1))) 0 (14 - j)) ∗ bigSep (Finset.range 15) (fun j => iprop(∃ f, rsPts (F := F) c (j + 1) f)) ∗ bigSep (Finset.range 15) (fun j => iprop(∃ f, agPts (F := F) c j f)))
      ⊢ StA (F := F) c 0 := by
  unfold StA
  refine Laws.sep_mono .rfl (BIBase.Entails.trans ?_ (Fam_init _ _))
  unfold preA; simp only [bigSep_sep']; exact .rfl
theorem famC_init (c : Dev nD) : iprop(bigSep (Finset.range 15) (fun j => atPos ER (dc c (24 + (j + 1))) 0 ∅ 0) ∗ bigSep (Finset.range 15) (fun j => cred (tallyAt (dc c (24 + (j + 1))) () N))) ⊢ Fam (F := F) (preC c) (postC m ρ c) 0 := by
  refine BIBase.Entails.trans ?_ (Fam_init _ _)
  unfold preC; simp only [bigSep_sep']; exact .rfl
theorem famE_init (c : Dev nD) : iprop(bigSep (Finset.range 15) (fun j => atPos ER (dc c (56 + j)) 0 ∅ 0) ∗ bigSep (Finset.range 15) (fun j => cred (tallyAt (dc c (56 + j)) () N))) ⊢ Fam (F := F) (preE c) (postE m ρ c) 0 := by
  refine BIBase.Entails.trans ?_ (Fam_init _ _)
  unfold preE; simp only [bigSep_sep']; exact .rfl
theorem famG_init (c : Dev nD) : iprop(bigSep (Finset.range 15) (fun j => atPos ER (dc c (9 + j)) 0 ∅ 0) ∗ bigSep (Finset.range 15) (fun j => cred (tallyAt (dc c (9 + j)) () N))) ⊢ Fam (F := F) (preG c) (postG m ρ c) 0 := by
  refine BIBase.Entails.trans ?_ (Fam_init _ _)
  unfold preG; simp only [bigSep_sep']; exact .rfl
theorem famH_init (c : Dev nD) : iprop(bigSep (Finset.range 15) (fun j => atPos ER (dc c (41 + j)) 0 ∅ 0) ∗ bigSep (Finset.range 15) (fun j => cred (tallyAt (dc c (41 + j)) () N))) ⊢ Fam (F := F) (preH c) (postH m ρ c) 0 := by
  refine BIBase.Entails.trans ?_ (Fam_init _ _)
  unfold preH; simp only [bigSep_sep']; exact .rfl

/-- The reduced rows, shared out among the fifteen transfers of the all-gather. -/
theorem red_split (c : Dev nD) : rsPts c 0 (rsRed m ρ c) ⊢ iprop(redPts m ρ c (shareDrop fullShare 15) ∗ bigSep (Finset.range 15) (fun j => redPts m ρ c (shareTokN fullShare j))) := by
  unfold rsPts redPts
  exact (Transfers.pointsTo_toks_range fullShare 15).1
theorem red_join (c : Dev nD) : iprop(redPts m ρ c (shareDrop fullShare 15) ∗ bigSep (Finset.range 15) (fun j => redPts m ρ c (shareTokN fullShare j))) ⊢ rsPts c 0 (rsRed m ρ c) := by
  unfold rsPts redPts
  exact (Transfers.pointsTo_toks_range fullShare 15).2
theorem stD_init (c : Dev nD) :
    iprop(Od c 15 15 0 ∗ bigSep (Finset.range 15) (fun j => dutyTok ER (dc c (41 + j)) 0 0) ∗ bigSep (Finset.range 15) (fun j => dutyTok ER (dc (peer c (j + 1)) (56 + (14 - j))) 0 0) ∗ bigSep (Finset.range 15) (fun j => redPts m ρ c (shareTokN fullShare j)) ∗ bigSep (Finset.range 15) (fun j => iprop(∃ f, agPts (F := F) (peer c (j + 1)) (14 - j) f)))
      ⊢ StD m ρ c 0 := by
  unfold StD
  refine Laws.sep_mono .rfl (BIBase.Entails.trans ?_ (Fam_init _ _))
  unfold preD; simp only [bigSep_sep']; exact .rfl
theorem stB_words (c : Dev nD) : StB m ρ c 0 ⊢ StB m ρ c 0 := .rfl
set_option maxHeartbeats 4000000 in
theorem body_run (c : Dev nD) (Q : PUnit → sProp (MT nD τ sig Unit (Elt F) ℕ UU ℕ)) :
    iprop(Ctx m ρ K ∗ (srcPts m c 0 ∗ (∃ f, kvPts c 0 f) ∗ dutyTok ER (dc c (4 + 0)) 0 0) ∗ (srcPts m c 1 ∗ (∃ f, kvPts c 1 f) ∗ dutyTok ER (dc c (4 + 1)) 0 0) ∗ (srcPts m c 2 ∗ (∃ f, kvPts c 2 f) ∗ dutyTok ER (dc c (4 + 2)) 0 0) ∗ (srcPts m c 3 ∗ (∃ f, kvPts c 3 f) ∗ dutyTok ER (dc c (4 + 3)) 0 0) ∗ StA c 0 ∗ cred (tallyAt (bar c) () 15) ∗ atPos ER (bar c) 0 ∅ 0 ∗ ((c : Thread nD τ).loc cc0_stg0_0 ↦{fullShare} xs m ρ c) ∗ ((c : Thread nD τ).loc cc0_stg1_0 ↦{fullShare} wqs m ρ c) ∗ ((c : Thread nD τ).loc cc0_stg2_0 ↦{fullShare} wos m ρ c) ∗ Outs m ρ c 0 ∗ atPos ER (dc c (4 + 0)) 0 ∅ 0 ∗ atPos ER (dc c (4 + 1)) 0 ∅ 0 ∗ atPos ER (dc c (4 + 2)) 0 ∅ 0 ∗ atPos ER (dc c (4 + 3)) 0 ∅ 0 ∗ (∃ f, (c : Thread nD τ).loc cc0_scratch0 ↦{fullShare} f) ∗ (∃ f, rsPts (F := F) c 0 f) ∗ bigSep (Finset.range 15) (fun j => dutyTok ER (dc c (9 + j)) 0 0) ∗ bigSep (Finset.range 15) (fun j => dutyTok ER (dc (peer c (j + 1)) (24 + (15 - j))) 0 0) ∗ bigSep (Finset.range 15) (fun j => dutyTok ER (dc c (41 + j)) 0 0) ∗ bigSep (Finset.range 15) (fun j => dutyTok ER (dc (peer c (j + 1)) (56 + (14 - j))) 0 0) ∗ Fam (preC c) (postC m ρ c) 0 ∗ Fam (preE c) (postE m ρ c) 0 ∗ bigSep (Finset.range 15) (fun j => atPos ER (dc c (9 + j)) 0 ∅ 0) ∗ bigSep (Finset.range 15) (fun j => atPos ER (dc c (41 + j)) 0 ∅ 0)
        ∗ (Od c 15 15 15 ∗ ((c : Thread nD τ).loc cc0_stg0_0 ↦{fullShare} xs m ρ c) ∗ ((c : Thread nD τ).loc cc0_stg1_0 ↦{fullShare} wqs m ρ c) ∗ ((c : Thread nD τ).loc cc0_stg2_0 ↦{fullShare} wos m ρ c) ∗ ((c : Thread nD τ).loc cc0_stg3_0 ↦{fullShare} outFin m ρ c) ∗ accPts c (peer c 0).val (acc m ρ c) ∗ bigSep (Finset.range 15) (postG m ρ c) ∗ bigSep (Finset.range 15) (fun j => rsPts c (j + 1) (rsBuf m ρ c)) ∗ bigSep (Finset.range 15) (postH m ρ c) ∗ redPts m ρ c (shareDrop fullShare 15) ∗ bigSep (Finset.range 15) (postE m ρ c) ∗ kvPts c 0 (kvBuf m c) ∗ kvPts c 1 (kvBuf m c) ∗ kvPts c 2 (kvBuf m c) ∗ kvPts c 3 (kvBuf m c) ∗ srcPts m c 0 ∗ srcPts m c 1 ∗ srcPts m c 2 ∗ srcPts m c 3 ∗ atPos ER (dc c (4 + 0)) 1 ∅ 0 ∗ atPos ER (dc c (4 + 1)) 1 ∅ 0 ∗ atPos ER (dc c (4 + 2)) 1 ∅ 0 ∗ atPos ER (dc c (4 + 3)) 1 ∅ 0 ∗ atPos ER (bar c) 1 ∅ 0 ∗ bigSep (Finset.range 15) (fun j => atPos ER (dc c (24 + (j + 1))) 1 ∅ 0) -∗ Q ⟨⟩))
      ⊢ wp frame (wpE (defs₀ (F := F)) 𝒱₀ (c : Thread nD τ) none) Set.univ (k0_part57 (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q := by
  rw [k0_part57_eq_skeleton]; unfold k0_part57_skel
  iintro ⟨#HC, G0, G1, G2, G3, HA, Hcb, Htb, Hx, Hwq, Hwo, Hout, Ht0, Ht1, Ht2, Ht3, Ha, Hrs, Tb1, Tb2, Td1, Td2, HfC, HfE, HpG, HpH, HQ⟩
  rw [wp_bind]
  iapply (part1_run m ρ K c _) $$ [-]
  isplitr; · iexact HC
  isplitl [G0]; · iexact G0
  isplitl [G2]; · iexact G2
  isplitl [G1]; · iexact G1
  iintro %_ ⟨Hc0, Hc2, Hc1⟩
  rw [wp_bind]
  iapply (part2_run m ρ K c _ _) $$ [-]
  isplitr; · iexact HC
  isplitl [G3]; · iexact G3
  isplitl [HA]; · iexact HA
  iintro %_ ⟨Hc3, HA⟩
  rw [wp_bind]
  iapply (part3_run m ρ K c _ _ _) $$ [-]
  isplitr; · iexact HC
  isplitl [HA]; · iexact HA
  iintro %_ HA
  rw [wp_bind]
  iapply (part4_run m ρ K c _ _ _ _ _ _ _) $$ [-]
  isplitr; · iexact HC
  isplitl [HA]; · iexact HA
  iintro %_ HA
  rw [wp_bind]
  iapply (part5_run m ρ K c _ _ _) $$ [-]
  isplitr; · iexact HC
  isplitl [HA]; · iexact HA
  iintro %_ HA
  rw [wp_bind]
  iapply (part6_run m ρ K c _ _ _ _ _ _ _) $$ [-]
  isplitr; · iexact HC
  isplitl [HA]; · iexact HA
  iintro %_ HA
  rw [wp_bind]
  iapply (part7_run m ρ K c _ _ _) $$ [-]
  isplitr; · iexact HC
  isplitl [HA]; · iexact HA
  iintro %_ HA
  rw [wp_bind]
  iapply (part8_run m ρ K c _ _ _ _ _ _) $$ [-]
  isplitr; · iexact HC
  isplitl [HA]; · iexact HA
  isplitl [Hcb]; · iexact Hcb
  isplitl [Htb]; · iexact Htb
  isplitl [Hx]; · iexact Hx
  isplitl [Hwq]; · iexact Hwq
  isplitl [Ht0]; · iexact Ht0
  isplitl [Hc0]; · iexact Hc0
  isplitl [Ht2]; · iexact Ht2
  isplitl [Hc2]; · iexact Hc2
  iintro ⟨HO, Htb, Hbp, Hx, Hwq, Ht0, Hk0, Hs0, Ht2, Hk2, Hs2⟩
  rw [wp_bind]
  iapply (part9_run m ρ K c _ _) $$ [-]
  isplitr; · iexact HC
  isplitl [Hk0]; · iexact Hk0
  isplitl [Hk2]; · iexact Hk2
  iintro ⟨Hk0, Hk2⟩
  rw [wp_bind]
  iapply (part10_run m ρ K c _ _) $$ [-]
  isplitr; · iexact HC
  isplitl [HO]; · iexact HO
  isplitl [Ht1]; · iexact Ht1
  isplitl [Hc1]; · iexact Hc1
  isplitl [Ht3]; · iexact Ht3
  isplitl [Hc3]; · iexact Hc3
  iintro ⟨HO, Ht1, Hk1, Hs1, Ht3, Hk3, Hs3⟩
  rw [wp_bind]
  iapply (part11_run m ρ K c _ _ _ _ _ _ _ _ _ _ _ _ _) $$ [-]
  isplitr; · iexact HC
  isplitl [Hwo]; · iexact Hwo
  isplitl [Ha]; · iexact Ha
  iintro %_ ⟨Hwo, Ha⟩
  ihave Ha := (acc_eq m ρ c) $$ Ha
  ihave Ha := (Entails.of_eq (acc_parts c (acc m ρ c))) $$ Ha
  icases Ha with ⟨Hown, Hap⟩
  ihave Hbp := (bar_split c) $$ Hbp
  icases Hbp with ⟨Hb1, Hb2⟩
  ihave HB := (stB_init m ρ c) $$ [HO Tb1 Tb2 Hap Hb1]
  · isplitl [HO]; · iexact HO
    isplitl [Tb1]; · iexact Tb1
    isplitl [Tb2]; · iexact Tb2
    isplitl [Hap]; · iexact Hap
    iexact Hb1
  rw [wp_bind]
  iapply (part12_run m ρ K c _ _ _ _ _) $$ [-]
  isplitr; · iexact HC
  isplitl [HB]; · iexact HB
  iintro %_ HB
  rw [wp_bind]
  iapply (part13_run m ρ K c _ _ _) $$ [-]
  isplitr; · iexact HC
  isplitl [HB]; · iexact HB
  iintro %_ HB
  rw [wp_bind]
  iapply (part14_run m ρ K c _ _ _) $$ [-]
  isplitr; · iexact HC
  isplitl [HB]; · iexact HB
  iintro %_ HB
  rw [wp_bind]
  iapply (part15_run m ρ K c _ _ _ _) $$ [-]
  isplitr; · iexact HC
  isplitl [HB]; · iexact HB
  iintro HB
  rw [wp_bind]
  iapply (part16_run m ρ K c _ _) $$ [-]
  isplitr; · iexact HC
  isplitl [HB]; · iexact HB
  iintro %_ HB
  rw [wp_bind]
  iapply (part17_run m ρ K c _ _ _ _ _ _ _) $$ [-]
  isplitr; · iexact HC
  isplitl [HB]; · iexact HB
  iintro HB
  rw [wp_bind]
  iapply (part18_run m ρ K c _ _) $$ [-]
  isplitr; · iexact HC
  isplitl [HB]; · iexact HB
  iintro %_ HB
  rw [wp_bind]
  iapply (part19_run m ρ K c _ _ _ _) $$ [-]
  isplitr; · iexact HC
  isplitl [HB]; · iexact HB
  iintro %_ HB
  rw [wp_bind]
  iapply (part20_run m ρ K c _ _ _ _) $$ [-]
  isplitr; · iexact HC
  isplitl [HB]; · iexact HB
  iintro %_ HB
  rw [wp_bind]
  iapply (part21_run m ρ K c _ _ _) $$ [-]
  isplitr; · iexact HC
  isplitl [HB]; · iexact HB
  isplitl [Hown]; · iexact Hown
  isplitl [Hrs]; · iexact Hrs
  isplitl [HfC]; · iexact HfC
  iintro ⟨HcrG, HW, Hown, Hr⟩
  rw [wp_bind]
  iapply (part22_run m ρ K c _ _) $$ [-]
  isplitr; · iexact HC
  isplitl [HW]; · iexact HW
  iintro HW
  rw [wp_bind]
  iapply (part23_run m ρ K c _ _) $$ [-]
  isplitr; · iexact HC
  isplitl [HW]; · iexact HW
  iintro HW
  rw [wp_bind]
  iapply (part24_run m ρ K c _ _) $$ [-]
  isplitr; · iexact HC
  isplitl [HW]; · iexact HW
  iintro %_ HW
  rw [wp_bind]
  iapply (part25_run m ρ K c _ _ _) $$ [-]
  isplitr; · iexact HC
  isplitl [HW]; · iexact HW
  iintro HW
  rw [wp_bind]
  iapply (part26_run m ρ K c _ _) $$ [-]
  isplitr; · iexact HC
  isplitl [HW]; · iexact HW
  isplitl [Hr]; · iexact Hr
  isplitl [Hout]; · iexact Hout
  iintro ⟨HO, Hat, Hrest, Hr, Hout⟩
  ihave Hr := (red_split m ρ c) $$ Hr
  icases Hr with ⟨Hdrop, Hred⟩
  ihave HB := (stD_init m ρ c) $$ [HO Td1 Td2 Hred Hb2]
  · isplitl [HO]; · iexact HO
    isplitl [Td1]; · iexact Td1
    isplitl [Td2]; · iexact Td2
    isplitl [Hred]; · iexact Hred
    iexact Hb2
  rw [wp_bind]
  iapply (part27_run m ρ K c _ _) $$ [-]
  isplitr; · iexact HC
  isplitl [HB]; · iexact HB
  iintro %_ HB
  rw [wp_bind]
  iapply (part28_run m ρ K c _ _ _ _) $$ [-]
  isplitr; · iexact HC
  isplitl [HB]; · iexact HB
  iintro HB
  rw [wp_bind]
  iapply (part29_run m ρ K c _ _) $$ [-]
  isplitr; · iexact HC
  isplitl [HB]; · iexact HB
  iintro %_ HB
  rw [wp_bind]
  iapply (part30_run m ρ K c _ _ _ _ _ _) $$ [-]
  isplitr; · iexact HC
  isplitl [HB]; · iexact HB
  iintro HB
  rw [wp_bind]
  iapply (part31_run m ρ K c _ _) $$ [-]
  isplitr; · iexact HC
  isplitl [HB]; · iexact HB
  iintro %_ HB
  rw [wp_bind]
  iapply (part32_run m ρ K c _ _ _ _ _ _ _) $$ [-]
  isplitr; · iexact HC
  isplitl [HB]; · iexact HB
  iintro HB
  rw [wp_bind]
  iapply (part33_run m ρ K c _ _) $$ [-]
  isplitr; · iexact HC
  isplitl [HB]; · iexact HB
  iintro %_ HB
  rw [wp_bind]
  iapply (part34_run m ρ K c _ _ _ _ _) $$ [-]
  isplitr; · iexact HC
  isplitl [HB]; · iexact HB
  iintro HB
  rw [wp_bind]
  iapply (part35_run m ρ K c _ _) $$ [-]
  isplitr; · iexact HC
  isplitl [HB]; · iexact HB
  iintro %_ HB
  rw [wp_bind]
  iapply (part36_run m ρ K c _ _ _) $$ [-]
  isplitr; · iexact HC
  isplitl [HB]; · iexact HB
  isplitl [HfE]; · iexact HfE
  iintro %_ ⟨HcrH, HW⟩
  rw [wp_bind]
  iapply (part37_run m ρ K c _ _ _) $$ [-]
  isplitr; · iexact HC
  isplitl [HW]; · iexact HW
  isplitl [Hout]; · iexact Hout
  iintro %_ ⟨HW, Hout⟩
  rw [wp_bind]
  iapply (part38_run m ρ K c _ _ _) $$ [-]
  isplitr; · iexact HC
  isplitl [HW]; · iexact HW
  isplitl [Hout]; · iexact Hout
  iintro ⟨HW, Hout⟩
  rw [wp_bind]
  iapply (part39_run m ρ K c _ _) $$ [-]
  isplitr; · iexact HC
  isplitl [HW]; · iexact HW
  isplitl [Hout]; · iexact Hout
  iintro %_ ⟨HW, Hout⟩
  rw [wp_bind]
  iapply (part40_run m ρ K c _ _ _) $$ [-]
  isplitr; · iexact HC
  isplitl [HW]; · iexact HW
  isplitl [Hout]; · iexact Hout
  iintro ⟨HW, Hout⟩
  rw [wp_bind]
  iapply (part41_run m ρ K c _ _) $$ [-]
  isplitr; · iexact HC
  isplitl [HW]; · iexact HW
  isplitl [Hout]; · iexact Hout
  iintro ⟨HW, Hout⟩
  rw [wp_bind]
  iapply (part42_run m ρ K c _ _) $$ [-]
  isplitr; · iexact HC
  isplitl [HW]; · iexact HW
  isplitl [Hout]; · iexact Hout
  iintro %_ ⟨HW, Hout⟩
  rw [wp_bind]
  iapply (part43_run m ρ K c _ _ _) $$ [-]
  isplitr; · iexact HC
  isplitl [HW]; · iexact HW
  isplitl [Hout]; · iexact Hout
  iintro %_ ⟨HW, Hout⟩
  rw [wp_bind]
  iapply (part44_run m ρ K c _ _ _ _) $$ [-]
  isplitr; · iexact HC
  isplitl [HW]; · iexact HW
  isplitl [Hout]; · iexact Hout
  iintro %_ ⟨HW, Hout⟩
  rw [wp_bind]
  iapply (part45_run m ρ K c _ _ _ _ _ _ _) $$ [-]
  isplitr; · iexact HC
  isplitl [HW]; · iexact HW
  isplitl [Hout]; · iexact Hout
  iintro %_ ⟨HW, Hout⟩
  rw [wp_bind]
  iapply (part46_run m ρ K c _ _ _) $$ [-]
  isplitr; · iexact HC
  isplitl [HW]; · iexact HW
  isplitl [Hout]; · iexact Hout
  iintro %_ ⟨HW, Hout⟩
  rw [wp_bind]
  iapply (part47_run m ρ K c _ _ _) $$ [-]
  isplitr; · iexact HC
  isplitl [HW]; · iexact HW
  isplitl [Hout]; · iexact Hout
  iintro ⟨HW, Hout⟩
  rw [wp_bind]
  iapply (part48_run m ρ K c _ _) $$ [-]
  isplitr; · iexact HC
  isplitl [HW]; · iexact HW
  isplitl [Hout]; · iexact Hout
  iintro %_ ⟨HW, Hout⟩
  rw [wp_bind]
  iapply (part49_run m ρ K c _ _ _) $$ [-]
  isplitr; · iexact HC
  isplitl [HW]; · iexact HW
  isplitl [Hout]; · iexact Hout
  iintro ⟨HW, Hout⟩
  ihave HW := (StE_done m ρ c) $$ HW
  icases HW with ⟨HO, He⟩
  ihave HfG := (famG_init m ρ c) $$ [HpG HcrG]
  · isplitl [HpG]; · iexact HpG
    iexact HcrG
  ihave HW := (StG_start m ρ c) $$ [HO HfG]
  · isplitl [HO]; · iexact HO
    iexact HfG
  ihave HfH := (famH_init m ρ c) $$ [HpH HcrH]
  · isplitl [HpH]; · iexact HpH
    iexact HcrH
  rw [wp_bind]
  iapply (part50_run m ρ K c _) $$ [-]
  isplitr; · iexact HC
  isplitl [HW]; · iexact HW
  iintro HW
  rw [wp_bind]
  iapply (part51_run m ρ K c _) $$ [-]
  isplitr; · iexact HC
  isplitl [HW]; · iexact HW
  iintro HW
  rw [wp_bind]
  iapply (part52_run m ρ K c _) $$ [-]
  isplitr; · iexact HC
  isplitl [HW]; · iexact HW
  iintro HW
  rw [wp_bind]
  iapply (part53_run m ρ K c _) $$ [-]
  isplitr; · iexact HC
  isplitl [HW]; · iexact HW
  isplitl [HfH]; · iexact HfH
  iintro ⟨Hg, HW⟩
  rw [wp_bind]
  iapply (part54_run m ρ K c _) $$ [-]
  isplitr; · iexact HC
  isplitl [HW]; · iexact HW
  iintro HW
  rw [wp_bind]
  iapply (part55_run m ρ K c _) $$ [-]
  isplitr; · iexact HC
  isplitl [HW]; · iexact HW
  iintro HW
  rw [wp_bind]
  iapply (part56_run m ρ K c _) $$ [-]
  isplitr; · iexact HC
  isplitl [HW]; · iexact HW
  iintro HW
  simp only [Prog.lift, Prog.bind_op, Prog.bind_ret, Prog.pure_eq_ret]
  iapply (step_waitH m ρ K c 14 (by omega) (by rfl) (by rfl)) $$ [HW]
  · isplitr; · iexact HC
    iexact HW
  iintro HW
  ihave HW := (StH_done m ρ c) $$ HW
  icases HW with ⟨HO, Hh⟩
  ihave Hout := (outs_fin m ρ c) $$ Hout
  rw [wp_ret]; imodintro
  iapply HQ
  isplitl [HO]; · iexact HO
  isplitl [Hx]; · iexact Hx
  isplitl [Hwq]; · iexact Hwq
  isplitl [Hwo]; · iexact Hwo
  isplitl [Hout]; · iexact Hout
  isplitl [Hown]; · iexact Hown
  isplitl [Hg]; · iexact Hg
  isplitl [Hrest]; · iexact Hrest
  isplitl [Hh]; · iexact Hh
  isplitl [Hdrop]; · iexact Hdrop
  isplitl [He]; · iexact He
  isplitl [Hk0]; · iexact Hk0
  isplitl [Hk1]; · iexact Hk1
  isplitl [Hk2]; · iexact Hk2
  isplitl [Hk3]; · iexact Hk3
  isplitl [Hs0]; · iexact Hs0
  isplitl [Hs1]; · iexact Hs1
  isplitl [Hs2]; · iexact Hs2
  isplitl [Hs3]; · iexact Hs3
  isplitl [Ht0]; · iexact Ht0
  isplitl [Ht1]; · iexact Ht1
  isplitl [Ht2]; · iexact Ht2
  isplitl [Ht3]; · iexact Ht3
  isplitl [Htb]; · iexact Htb
  iexact Hat

end Cert.KernelIdeal.Run
end
-- ==== Proof.Run.Cells.lean ====
/-
The cells, duty tokens and launch credit of a device, family by family.
-/
module

public import proofs.«01_k».proof.Proof.Run.Body
public import Idealize.ShloMosaic.Lib.Ring

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

theorem bigSep_range_add (a b : ℕ) (Φ : ℕ → sProp (MT nD τ sig Unit (Elt F) ℕ UU ℕ)) :
    bigSep (Finset.range (a + b)) Φ = iprop(bigSep (Finset.range a) Φ ∗ bigSep (Finset.range b) fun j => Φ (a + j)) := by
  have e : Finset.Ico a (a + b) = (Finset.range b).map ⟨(a + ·), fun x y h => by simpa using h⟩ := by
    ext x; simp only [Finset.mem_Ico, Finset.mem_map, Finset.mem_range, Function.Embedding.coeFn_mk]
    constructor
    · intro h; exact ⟨x - a, by omega, by show a + (x - a) = x; omega⟩
    · rintro ⟨y, hy, rfl⟩; show a ≤ a + y ∧ a + y < a + b; omega
  have e2 : Finset.range (a + b) = Finset.range a ∪ Finset.Ico a (a + b) := by
    ext x; simp only [Finset.mem_union, Finset.mem_Ico, Finset.mem_range]; omega
  have hd : Disjoint (Finset.range a) (Finset.Ico a (a + b)) := Finset.disjoint_left.mpr fun x h1 h2 => by
    have := Finset.mem_range.mp h1; have := (Finset.mem_Ico.mp h2).1; omega
  rw [e2, bigSep_union hd, e, bigSep_map]
  rfl

/-! ## The cells of a device, family by family -/

def cellN (c : Dev nD) (n : ℕ) : GSem nD τ sig := if n = 0 then bar c else dc c (n + 3)
theorem cellN_pos (c : Dev nD) {n k : ℕ} (h : n + 3 = k) (h0 : n ≠ 0) : cellN c n = dc c k := by subst h; exact if_neg h0
theorem kcell_eq (c : Dev nD) (i : Fin 69) : kcell (c, i) = cellN c i.val := by
  unfold kcell csem cellN
  by_cases h : i.val = 0
  · rw [if_pos h, if_pos h]
  · rw [if_neg h, if_neg h]

theorem fam_cells (c : Dev nD) (Φ : GSem nD τ sig → sProp (MT nD τ sig Unit (Elt F) ℕ UU ℕ)) :
    bigSep (Finset.univ : Finset (Fin 69)) (fun i => Φ (kcell (c, i)))
      = iprop(Φ (bar c) ∗ bigSep (Finset.range 4) (fun j => Φ (dc c (4 + j))) ∗ Φ (dc c 8) ∗ bigSep (Finset.range 15) (fun j => Φ (dc c (9 + j)))
          ∗ Φ (dc c 24) ∗ bigSep (Finset.range 15) (fun j => Φ (dc c (24 + (j + 1)))) ∗ Φ (dc c 40) ∗ bigSep (Finset.range 15) (fun j => Φ (dc c (41 + j)))
          ∗ bigSep (Finset.range 15) (fun j => Φ (dc c (56 + j))) ∗ Φ (dc c 71)) := by
  rw [Ring.bigSep_fin_eq_range 69 _ (fun n => Φ (cellN c n)) (fun t h => congrArg Φ (kcell_eq c ⟨t, h⟩).symm),
    show (69 : ℕ) = 1 + (4 + (1 + (15 + (1 + (15 + (1 + (15 + (15 + 1)))))))) from rfl,
    bigSep_range_add, bigSep_range_add, bigSep_range_add, bigSep_range_add, bigSep_range_add, bigSep_range_add, bigSep_range_add, bigSep_range_add, bigSep_range_add]
  simp only [Finset.range_one, bigSep_singleton]
  refine congrArg₂ BIBase.sep rfl (congrArg₂ BIBase.sep (bigSep_congr fun j _ => congrArg Φ (cellN_pos c (by omega) (by omega)))
    (congrArg₂ BIBase.sep (congrArg Φ (cellN_pos c (by omega) (by omega))) (congrArg₂ BIBase.sep (bigSep_congr fun j _ => congrArg Φ (cellN_pos c (by omega) (by omega)))
    (congrArg₂ BIBase.sep (congrArg Φ (cellN_pos c (by omega) (by omega))) (congrArg₂ BIBase.sep (bigSep_congr fun j _ => congrArg Φ (cellN_pos c (by omega) (by omega)))
    (congrArg₂ BIBase.sep (congrArg Φ (cellN_pos c (by omega) (by omega))) (congrArg₂ BIBase.sep (bigSep_congr fun j _ => congrArg Φ (cellN_pos c (by omega) (by omega)))
    (congrArg₂ BIBase.sep (bigSep_congr fun j _ => congrArg Φ (cellN_pos c (by omega) (by omega))) (congrArg Φ (cellN_pos c (by omega) (by omega)))))))))))

theorem dsem_inj {a b : ℕ} (ha : a < 72) (hb : b < 72) (h : dsem a = dsem b) : a = b := by
  have := congrArg Fin.val h; rwa [dsem_val ha, dsem_val hb] at this

theorem csem_injective : Function.Injective csem := by
  intro i j h
  unfold csem at h
  by_cases hi : i.val = 0 <;> by_cases hj : j.val = 0
  · exact Fin.ext (hi.trans hj.symm)
  · rw [if_pos hi, if_neg hj] at h; cases h
  · rw [if_neg hi, if_pos hj] at h; cases h
  · rw [if_neg hi, if_neg hj] at h
    have := dsem_inj (by omega) (by omega) (SemLoc.dma.inj h)
    exact Fin.ext (by omega)
theorem kcell_injective : Function.Injective (kcell : Dev nD × Fin 69 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The duty tokens, by who pays -/

abbrev TokIx := (Fin 5 × Fin 15) ⊕ Fin 4
def payTok (x : Dev nD × TokIx) : GSem nD τ sig × ℕ × ℕ := match x with
  | (c, .inl (0, j)) => (bar (peer c (j.val + 1)), 0, 14 - j.val)
  | (c, .inl (1, j)) => (dc c (9 + j.val), 0, 0)
  | (c, .inl (2, j)) => (dc (peer c (j.val + 1)) (24 + (15 - j.val)), 0, 0)
  | (c, .inl (3, j)) => (dc c (41 + j.val), 0, 0)
  | (c, .inl (4, j)) => (dc (peer c (j.val + 1)) (56 + (14 - j.val)), 0, 0)
  | (c, .inr s) => (dc c (4 + s.val), 0, 0)

/-- What of a token does not depend on the device: which semaphore, which duty. -/
def tokKey (x : TokIx) : ℕ × ℕ := match x with
  | .inl (0, j) => (0, 14 - j.val)
  | .inl (1, j) => (9 + j.val, 0)
  | .inl (2, j) => (24 + (15 - j.val), 0)
  | .inl (3, j) => (41 + j.val, 0)
  | .inl (4, j) => (56 + (14 - j.val), 0)
  | .inr s => (4 + s.val, 0)
def semNo (s : SemLoc sig) : ℕ := match s with | .reg _ => 0 | .dma i => i.val

theorem tokKey_injective : ∀ a b : TokIx, tokKey a = tokKey b → a = b := by decide +kernel
theorem tokKey_eq (x : Dev nD × TokIx) : (semNo (payTok x).1.2, (payTok x).2.2) = tokKey x.2 := by
  obtain ⟨c, (⟨i, j⟩ | s)⟩ := x
  · have := j.isLt
    fin_cases i
    · rfl
    · exact congrArg (·, 0) (dsem_val (n := 9 + j.val) (by omega))
    · exact congrArg (·, 0) (dsem_val (n := 24 + (15 - j.val)) (by omega))
    · exact congrArg (·, 0) (dsem_val (n := 41 + j.val) (by omega))
    · exact congrArg (·, 0) (dsem_val (n := 56 + (14 - j.val)) (by omega))
  · have := s.isLt
    exact congrArg (·, 0) (dsem_val (n := 4 + s.val) (by omega))
theorem peer_left {c c' : Dev nD} {d : ℕ} (h : peer c d = peer c' d) : c = c' := by
  have h1 := congrArg Fin.val h
  have := dev_lt c; have := dev_lt c'
  simp only [peer_val] at h1
  exact Fin.ext (by omega)
theorem payTok_injective : Function.Injective payTok := by
  intro x y h
  have hk : x.2 = y.2 := tokKey_injective _ _ (by rw [← tokKey_eq x, ← tokKey_eq y, h])
  obtain ⟨c, x⟩ := x
  obtain ⟨c', y⟩ := y
  dsimp only at hk
  subst hk
  have h1 : (payTok (c, x)).1.1.1 = (payTok (c', x)).1.1.1 := by rw [h]
  refine Prod.ext ?_ rfl
  obtain (⟨i, j⟩ | s) := x
  · fin_cases i
    · exact peer_left h1
    · exact h1
    · exact peer_left h1
    · exact h1
    · exact peer_left h1
  · exact h1

def toks (c : Dev nD) : sProp (MT nD τ sig Unit (Elt F) ℕ UU ℕ) :=
  bigSep (Finset.univ : Finset TokIx) fun x => dutyTok ER (payTok (c, x)).1 (payTok (c, x)).2.1 (payTok (c, x)).2.2

theorem toks_eq (c : Dev nD) : toks (F := F) c = iprop(
    (bigSep (Finset.range 15) (fun j => dutyTok ER (bar (peer c (j + 1))) 0 (14 - j)) ∗ bigSep (Finset.range 15) (fun j => dutyTok ER (dc c (9 + j)) 0 0) ∗ bigSep (Finset.range 15) (fun j => dutyTok ER (dc (peer c (j + 1)) (24 + (15 - j))) 0 0) ∗ bigSep (Finset.range 15) (fun j => dutyTok ER (dc c (41 + j)) 0 0) ∗ bigSep (Finset.range 15) (fun j => dutyTok ER (dc (peer c (j + 1)) (56 + (14 - j))) 0 0)) ∗ bigSep (Finset.range 4) (fun j => dutyTok ER (dc c (4 + j)) 0 0)) := by
  unfold toks
  rw [bigSep_univ_sum, bigSep_univ_prod, bigSep_univ_eq_bigSepL [0, 1, 2, 3, 4] (by decide) (by decide)]
  refine congrArg₂ BIBase.sep (congrArg₂ BIBase.sep (Ring.bigSep_fin_eq_range 15 _ _ fun t h => rfl) (congrArg₂ BIBase.sep (Ring.bigSep_fin_eq_range 15 _ _ fun t h => rfl)
    (congrArg₂ BIBase.sep (Ring.bigSep_fin_eq_range 15 _ _ fun t h => rfl) (congrArg₂ BIBase.sep (Ring.bigSep_fin_eq_range 15 _ _ fun t h => rfl) (Ring.bigSep_fin_eq_range 15 _ _ fun t h => rfl)))))
    (Ring.bigSep_fin_eq_range 4 _ _ fun t h => rfl)

/-! ## The launch credit -/

def O₀ (c : Dev nD) : CellTallies nD τ sig Unit := Ow c 0 0 0

theorem tally_sum_apply (f : ℕ → CellTallies nD τ sig Unit) (g : GSem nD τ sig) (u : Unit) (T : Finset ℕ) : (∑ j ∈ T, f j) g u = ∑ j ∈ T, f j g u := by
  induction T using Finset.induction_on with
  | empty => rfl
  | insert a T ha ih => rw [Finset.sum_insert ha, Finset.sum_insert ha, Pi.add_apply, Finsupp.add_apply, ih]

theorem tally_other {g g' : GSem nD τ sig} {k : ℕ} (h : g'.2 ≠ g.2) : (tallyAt g () k : CellTallies nD τ sig Unit) g' () = 0 := by
  rw [tallyAt_apply]; exact if_neg fun h' => h (congrArg Prod.snd h'.1)

/-- Exactly one device is `j + 1` places before `c`. -/
theorem sum_one (s : SemLoc sig) (c : Dev nD) {j : ℕ} (hj : j < 15) (k : ℕ) :
    ∑ d : Dev nD, (tallyAt ((peer d (j + 1) : Thread nD τ), s) () k : CellTallies nD τ sig Unit) ((c : Thread nD τ), s) () = k := by
  rw [Finset.sum_eq_single (peer c (15 - j))]
  · rw [tallyAt_apply, peer_peer, peer_back c (by omega)]; exact if_pos ⟨rfl, rfl⟩
  · intro d _ hd
    rw [tallyAt_apply]
    refine if_neg fun h => hd ?_
    have h1 : c = peer d (j + 1) := congrArg (fun g : GSem nD τ sig => g.1.1) h.1
    rw [h1, peer_peer, peer_back d (by omega)]
  · intro h; exact absurd (Finset.mem_univ _) h

theorem owed_sum (g : GSem nD τ sig) : ∑ d : Dev nD, O₀ d g ()
    = (∑ j ∈ Finset.Ico 0 15, ∑ d : Dev nD, (tallyAt (bar (peer d (j + 1))) () 1 : CellTallies nD τ sig Unit) g ())
      + (∑ j ∈ Finset.Ico 0 15, ∑ d : Dev nD, (tallyAt (dc (peer d (j + 1)) (24 + (15 - j))) () N : CellTallies nD τ sig Unit) g ())
      + ∑ j ∈ Finset.Ico 0 15, ∑ d : Dev nD, (tallyAt (dc (peer d (j + 1)) (56 + (14 - j))) () N : CellTallies nD τ sig Unit) g () := by
  unfold O₀ Ow
  simp only [Pi.add_apply, Finsupp.add_apply, tally_sum_apply, Finset.sum_add_distrib]
  rw [Finset.sum_comm, Finset.sum_comm (s := (Finset.univ : Finset (Dev nD))) (t := Finset.Ico 0 15) (f := fun d j => (tallyAt (dc (peer d (j + 1)) (24 + (15 - j))) () N : CellTallies nD τ sig Unit) g ()),
    Finset.sum_comm (s := (Finset.univ : Finset (Dev nD))) (t := Finset.Ico 0 15) (f := fun d j => (tallyAt (dc (peer d (j + 1)) (56 + (14 - j))) () N : CellTallies nD τ sig Unit) g ())]

theorem sum_zero' (f : ℕ → Dev nD → ℕ) (h : ∀ j ∈ Finset.Ico 0 15, ∀ d, f j d = 0) : ∑ j ∈ Finset.Ico 0 15, ∑ d : Dev nD, f j d = 0 :=
  Finset.sum_eq_zero fun j hj => Finset.sum_eq_zero fun d _ => h j hj d

theorem dma_ne {a b : ℕ} (ha : a < 72) (hb : b < 72) (h : a ≠ b) : (SemLoc.dma (dsem a) : SemLoc sig) ≠ .dma (dsem b) :=
  fun h' => h (dsem_inj ha hb (SemLoc.dma.inj h'))

theorem owed_bar (c : Dev nD) : ∑ d : Dev nD, O₀ d (bar c) () = 15 := by
  rw [owed_sum, sum_zero' (fun j d => (tallyAt (dc (peer d (j + 1)) (24 + (15 - j))) () N : CellTallies nD τ sig Unit) (bar c) ()) (fun j _ d => tally_other (fun h => by cases h)),
    sum_zero' (fun j d => (tallyAt (dc (peer d (j + 1)) (56 + (14 - j))) () N : CellTallies nD τ sig Unit) (bar c) ()) (fun j _ d => tally_other (fun h => by cases h)),
    Finset.sum_congr rfl (fun j hj => sum_one (.reg barS) c (j := j) (by have := Finset.mem_Ico.mp hj; omega) 1)]
  rfl
theorem owed_rs (c : Dev nD) {k : ℕ} (hk : k < 15) : ∑ d : Dev nD, O₀ d (dc c (24 + (k + 1))) () = N := by
  rw [owed_sum, sum_zero' (fun j d => (tallyAt (bar (peer d (j + 1))) () 1 : CellTallies nD τ sig Unit) (dc c (24 + (k + 1))) ()) (fun j _ d => tally_other (fun h => by cases h)),
    sum_zero' (fun j d => (tallyAt (dc (peer d (j + 1)) (56 + (14 - j))) () N : CellTallies nD τ sig Unit) (dc c (24 + (k + 1))) ()) (fun j hj d => tally_other (by have := Finset.mem_Ico.mp hj; exact dma_ne (by omega) (by omega) (by omega))),
    Finset.sum_eq_single (14 - k)]
  · have e : 15 - (14 - k) = k + 1 := by omega
    simp only [e]
    rw [Nat.zero_add, Nat.add_zero]
    exact sum_one (.dma (dsem (24 + (k + 1)))) c (by omega) N
  · intro j hj hne
    have := Finset.mem_Ico.mp hj
    exact Finset.sum_eq_zero fun d _ => tally_other (dma_ne (by omega) (by omega) (by omega))
  · intro h; exact absurd (Finset.mem_Ico.mpr ⟨by omega, by omega⟩) h
theorem owed_ag (c : Dev nD) {k : ℕ} (hk : k < 15) : ∑ d : Dev nD, O₀ d (dc c (56 + k)) () = N := by
  rw [owed_sum, sum_zero' (fun j d => (tallyAt (bar (peer d (j + 1))) () 1 : CellTallies nD τ sig Unit) (dc c (56 + k)) ()) (fun j _ d => tally_other (fun h => by cases h)),
    sum_zero' (fun j d => (tallyAt (dc (peer d (j + 1)) (24 + (15 - j))) () N : CellTallies nD τ sig Unit) (dc c (56 + k)) ()) (fun j hj d => tally_other (by have := Finset.mem_Ico.mp hj; exact dma_ne (by omega) (by omega) (by omega))),
    Finset.sum_eq_single (14 - k)]
  · have e : 14 - (14 - k) = k := by omega
    simp only [e]
    simp only [Nat.zero_add]
    exact sum_one (.dma (dsem (56 + k))) c (by omega) N
  · intro j hj hne
    have := Finset.mem_Ico.mp hj
    exact Finset.sum_eq_zero fun d _ => tally_other (dma_ne (by omega) (by omega) (by omega))
  · intro h; exact absurd (Finset.mem_Ico.mpr ⟨by omega, by omega⟩) h

theorem credit_at (g : GSem nD τ sig) (k : ℕ) (h : ∑ d : Dev nD, O₀ d g () = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp (MT nD τ sig Unit (Elt F) ℕ UU ℕ))
      ⊢ iprop(cred (tallyAt (bar c) () 15) ∗ bigSep (Finset.range 15) (fun j => cred (tallyAt (dc c (24 + (j + 1))) () N)) ∗ bigSep (Finset.range 15) (fun j => cred (tallyAt (dc c (56 + j)) () N))) := by
  unfold Pipeline.launchCred
  refine (bigSep_subset (Finset.subset_univ (Finset.univ.map ⟨csem, csem_injective⟩))).trans ?_
  rw [bigSep_map]
  refine (Entails.of_eq (fam_cells c (fun g => cred (tallyOn g (launchCredit (Pipeline.owing O₀) 0 g))))).trans ?_
  rw [credit_at (bar c) 15 (owed_bar c), bigSep_congr (s := Finset.range 15) (fun j hj => congrArg (fun t => (cred t : sProp (MT nD τ sig Unit (Elt F) ℕ UU ℕ))) (credit_at (dc c (24 + (j + 1))) N (owed_rs c (Finset.mem_range.mp hj)))),
    bigSep_congr (s := Finset.range 15) (fun j hj => congrArg (fun t => (cred t : sProp (MT nD τ sig Unit (Elt F) ℕ UU ℕ))) (credit_at (dc c (56 + j)) N (owed_ag c (Finset.mem_range.mp hj))))]
  iintro ⟨H1, -, -, -, -, H2, -, -, H3, -⟩
  isplitl [H1]; · iexact H1
  isplitl [H2]; · iexact H2
  iexact H3

end Cert.KernelIdeal.Run
end
-- ==== Proof.Run.Ends.lean ====
/-
What a device holds at the start, sorted for the body; what it holds at the end, gathered.
-/
module

public import proofs.«01_k».proof.Proof.Run.Cells

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

/-! ## The keys and values, lent out head by head and back -/

def restPts (c : Dev nD) (k : ℕ) : sProp (MT nD τ sig Unit (Elt F) ℕ UU ℕ) :=
  if k < 2 then (c : Thread nD τ).loc main_arg2 ↦[Finset.univ \ headSet (2 * c.val + k % 2)]{if k % 2 = 0 then fullShare.left else fullShare.right} m ((c : Thread nD τ).loc main_arg2)
  else (c : Thread nD τ).loc main_arg3 ↦[Finset.univ \ headSet (2 * c.val + k % 2)]{if k % 2 = 0 then fullShare.left else fullShare.right} m ((c : Thread nD τ).loc main_arg3)
def arrK (c : Dev nD) : sProp (MT nD τ sig Unit (Elt F) ℕ UU ℕ) := (c : Thread nD τ).loc main_arg2 ↦{fullShare} m ((c : Thread nD τ).loc main_arg2)
def arrV (c : Dev nD) : sProp (MT nD τ sig Unit (Elt F) ℕ UU ℕ) := (c : Thread nD τ).loc main_arg3 ↦{fullShare} m ((c : Thread nD τ).loc main_arg3)

theorem arrK_split (c : Dev nD) : arrK m c ⊣⊢ iprop((srcPts m c 0 ∗ restPts m c 0) ∗ (srcPts m c 1 ∗ restPts m c 1)) := by
  unfold arrK srcPts restPts
  have h := pointsTo_share (Ix := Unit) (Name := ℕ) (U := UU) (Lvl := ℕ) (ℓ := (c : Thread nD τ).loc main_arg2) (I := Finset.univ) (f := m ((c : Thread nD τ).loc main_arg2)) (PosShare.mem_left_op_right fullShare)
  have h1 := pointsTo_split_subset (Ix := Unit) (Name := ℕ) (U := UU) (Lvl := ℕ) (ℓ := (c : Thread nD τ).loc main_arg2) (q := fullShare.left) (f := m ((c : Thread nD τ).loc main_arg2)) (Finset.subset_univ (headSet (2 * c.val + 0)))
  have h2 := pointsTo_split_subset (Ix := Unit) (Name := ℕ) (U := UU) (Lvl := ℕ) (ℓ := (c : Thread nD τ).loc main_arg2) (q := fullShare.right) (f := m ((c : Thread nD τ).loc main_arg2)) (Finset.subset_univ (headSet (2 * c.val + 1)))
  exact ⟨h.1.trans (Laws.sep_mono h1.1 h2.1), (Laws.sep_mono h1.2 h2.2).trans h.2⟩
theorem arrV_split (c : Dev nD) : arrV m c ⊣⊢ iprop((srcPts m c 2 ∗ restPts m c 2) ∗ (srcPts m c 3 ∗ restPts m c 3)) := by
  unfold arrV srcPts restPts
  have h := pointsTo_share (Ix := Unit) (Name := ℕ) (U := UU) (Lvl := ℕ) (ℓ := (c : Thread nD τ).loc main_arg3) (I := Finset.univ) (f := m ((c : Thread nD τ).loc main_arg3)) (PosShare.mem_left_op_right fullShare)
  have h1 := pointsTo_split_subset (Ix := Unit) (Name := ℕ) (U := UU) (Lvl := ℕ) (ℓ := (c : Thread nD τ).loc main_arg3) (q := fullShare.left) (f := m ((c : Thread nD τ).loc main_arg3)) (Finset.subset_univ (headSet (2 * c.val + 0)))
  have h2 := pointsTo_split_subset (Ix := Unit) (Name := ℕ) (U := UU) (Lvl := ℕ) (ℓ := (c : Thread nD τ).loc main_arg3) (q := fullShare.right) (f := m ((c : Thread nD τ).loc main_arg3)) (Finset.subset_univ (headSet (2 * c.val + 1)))
  exact ⟨h.1.trans (Laws.sep_mono h1.1 h2.1), (Laws.sep_mono h1.2 h2.2).trans h.2⟩

/-! ## The scratch buffers -/

def scr (c : Dev nD) : sProp (MT nD τ sig Unit (Elt F) ℕ UU ℕ) :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

theorem rs_open (c : Dev nD) (f : (cc0_scratch1 : Ref sig .tc).ty.Contents (Elt F)) :
    (((c : Thread nD τ).loc cc0_scratch1 ↦{fullShare} f) : sProp (MT nD τ sig Unit (Elt F) ℕ UU ℕ)) ⊢ iprop((∃ f, rsPts (F := F) c 0 f) ∗ bigSep (Finset.range 15) (fun j => iprop(∃ f, rsPts (F := F) c (j + 1) f))) := by
  rw [rs_parts]
  exact Laws.sep_mono (show rsPts (F := F) c 0 f ⊢ iprop(∃ f, rsPts (F := F) c 0 f) from by iintro H; iexists f; iexact H)
    (bigSep_mono fun j _ => (show rsPts (F := F) c (j + 1) f ⊢ iprop(∃ f, rsPts (F := F) c (j + 1) f) from by iintro H; iexists f; iexact H))
theorem ag_open (c : Dev nD) (f : (cc0_scratch2 : Ref sig .tc).ty.Contents (Elt F)) :
    (((c : Thread nD τ).loc cc0_scratch2 ↦{fullShare} f) : sProp (MT nD τ sig Unit (Elt F) ℕ UU ℕ)) ⊢ bigSep (Finset.range 15) (fun j => iprop(∃ f, agPts (F := F) c j f)) := by
  rw [ag_parts]
  exact bigSep_mono fun j _ => (show agPts (F := F) c j f ⊢ iprop(∃ f, agPts (F := F) c j f) from by iintro H; iexists f; iexact H)
theorem rs_close (c : Dev nD) : iprop(rsPts c 0 (rsRed m ρ c) ∗ bigSep (Finset.range 15) (fun j => rsPts c (j + 1) (rsBuf m ρ c)))
    ⊢ (iprop(∃ f : Buf (Elt F) ((c : Thread nD τ).loc cc0_scratch1), ((c : Thread nD τ).loc cc0_scratch1) ↦{fullShare} f) : sProp (MT nD τ sig Unit (Elt F) ℕ UU ℕ)) := by
  iintro ⟨H, Hs⟩
  iexists (fun i => if (i 0).val = 0 then rsRed m ρ c i else rsBuf m ρ c i : (cc0_scratch1 : Ref sig .tc).ty.Contents (Elt F))
  rw [rs_parts]
  isplitl [H]
  · iapply (Entails.of_eq (by
      unfold rsPts
      exact pointsTo_congr fun i hi => (if_pos (mem_rsSet.mp hi)).symm)) $$ H
  · iapply (Entails.of_eq (bigSep_congr fun j _ => by
      unfold rsPts
      exact pointsTo_congr fun i hi => (if_neg (by rw [mem_rsSet.mp hi]; exact Nat.succ_ne_zero j)).symm)) $$ Hs

/-! ## Closing the cells -/

theorem close_bar (c : Dev nD) : iprop(Ctx m ρ K ∗ atPos ER (bar c) 1 ∅ 0) ⊢ (|={Set.univ}=> semVal (bar c) 0 : sProp (MT nD τ sig Unit (Elt F) ℕ UU ℕ)) := by
  iintro ⟨#HC, H⟩
  ihave HI := (ctx_bar m ρ K c) $$ HC
  icases HI with ⟨#HI, #HR⟩
  iapply (Rounds.cell_close ER (Rd m ρ) (Set.mem_univ (K (c, 0))) (fun h => h) (R := 1) (duties_later m ρ (bar c)))
  isplitr; · iexact HI
  iexact H
theorem close_dma (c : Dev nD) {n : ℕ} (h4 : 4 ≤ n) (h72 : n < 72) : iprop(Ctx m ρ K ∗ atPos ER (dc c n) 1 ∅ 0) ⊢ (|={Set.univ}=> semVal (dc c n) 0 : sProp (MT nD τ sig Unit (Elt F) ℕ UU ℕ)) := by
  iintro ⟨#HC, H⟩
  ihave HI := (ctx_dma m ρ K c h4 h72) $$ HC
  icases HI with ⟨#HI, #HR⟩
  iapply (Rounds.cell_close ER (Rd m ρ) (Set.mem_univ (K (c, kn n))) (fun h => h) (R := 1) (duties_later m ρ (dc c n)))
  isplitr; · iexact HI
  iexact H
theorem close_off (c : Dev nD) {n : ℕ} (h4 : 4 ≤ n) (h72 : n < 72) (hu : ¬ Used n) : iprop(Ctx m ρ K ∗ atPos ER (dc c n) 0 ∅ 0) ⊢ (|={Set.univ}=> semVal (dc c n) 0 : sProp (MT nD τ sig Unit (Elt F) ℕ UU ℕ)) := by
  iintro ⟨#HC, H⟩
  ihave HI := (ctx_dma m ρ K c h4 h72) $$ HC
  icases HI with ⟨#HI, #HR⟩
  iapply (Rounds.cell_close ER (Rd m ρ) (Set.mem_univ (K (c, kn n))) (fun h => h) (R := 0) (fun r _ => duties_off m ρ c h72 hu r))
  isplitr; · iexact HI
  iexact H
theorem close_fam (c : Dev nD) (k : ℕ) (f : ℕ → ℕ) (hf : ∀ j < k, 4 ≤ f j ∧ f j < 72) :
    iprop(Ctx m ρ K ∗ bigSep (Finset.range k) (fun j => atPos ER (dc c (f j)) 1 ∅ 0)) ⊢ (|={Set.univ}=> bigSep (Finset.range k) (fun j => semVal (dc c (f j)) 0) : sProp (MT nD τ sig Unit (Elt F) ℕ UU ℕ)) :=
  (bigSep_with_persistent (fun j hj => close_dma m ρ K c (hf j (Finset.mem_range.mp hj)).1 (hf j (Finset.mem_range.mp hj)).2)).trans (bigSep_fupd _ _)

theorem four (Φ : ℕ → sProp (MT nD τ sig Unit (Elt F) ℕ UU ℕ)) : bigSep (Finset.range 4) Φ = iprop(Φ 0 ∗ Φ 1 ∗ Φ 2 ∗ Φ 3) := by
  rw [show (4 : ℕ) = 1 + (1 + (1 + 1)) from rfl, bigSep_range_add, bigSep_range_add, bigSep_range_add]
  simp only [Finset.range_one, bigSep_singleton]

def zeros (c : Dev nD) : sProp (MT nD τ sig Unit (Elt F) ℕ UU ℕ) := bigSep (Finset.univ : Finset (Fin 69)) fun i => semVal (kcell (c, i)) 0
def poss (c : Dev nD) : sProp (MT nD τ sig Unit (Elt F) ℕ UU ℕ) := bigSep (Finset.univ : Finset (Fin 69)) fun i => atPos ER (kcell (c, i)) 0 ∅ 0

theorem close_all (c : Dev nD) :
    iprop(Ctx m ρ K ∗ atPos ER (bar c) 1 ∅ 0 ∗ (atPos ER (dc c (4 + 0)) 1 ∅ 0 ∗ atPos ER (dc c (4 + 1)) 1 ∅ 0 ∗ atPos ER (dc c (4 + 2)) 1 ∅ 0 ∗ atPos ER (dc c (4 + 3)) 1 ∅ 0) ∗ atPos ER (dc c 8) 0 ∅ 0 ∗ bigSep (Finset.range 15) (fun j => atPos ER (dc c (9 + j)) 1 ∅ 0) ∗ atPos ER (dc c 24) 0 ∅ 0 ∗ bigSep (Finset.range 15) (fun j => atPos ER (dc c (24 + (j + 1))) 1 ∅ 0) ∗ atPos ER (dc c 40) 0 ∅ 0 ∗ bigSep (Finset.range 15) (fun j => atPos ER (dc c (41 + j)) 1 ∅ 0) ∗ bigSep (Finset.range 15) (fun j => atPos ER (dc c (56 + j)) 1 ∅ 0) ∗ atPos ER (dc c 71) 0 ∅ 0)
      ⊢ (|={Set.univ}=> zeros c : sProp (MT nD τ sig Unit (Elt F) ℕ UU ℕ)) := by
  unfold zeros
  rw [fam_cells c (fun g => semVal g 0)]
  iintro ⟨#HC, H0, H1, H2, H3, H4, H5, H6, H7, H8, H9⟩
  imod (close_bar m ρ K c) $$ [H0] with H0
  · isplitr; · iexact HC
    iexact H0
  ihave H1 := (Entails.of_eq (four (fun j => atPos ER (dc c (4 + j)) 1 ∅ 0)).symm) $$ H1
  imod (close_fam m ρ K c 4 (4 + ·) (fun j hj => ⟨by omega, by omega⟩)) $$ [H1] with H1
  · isplitr; · iexact HC
    iexact H1
  imod (close_off m ρ K c (n := 8) (by omega) (by omega) (by unfold Used; omega)) $$ [H2] with H2
  · isplitr; · iexact HC
    iexact H2
  imod (close_fam m ρ K c 15 (9 + ·) (fun j hj => ⟨by omega, by omega⟩)) $$ [H3] with H3
  · isplitr; · iexact HC
    iexact H3
  imod (close_off m ρ K c (n := 24) (by omega) (by omega) (by unfold Used; omega)) $$ [H4] with H4
  · isplitr; · iexact HC
    iexact H4
  imod (close_fam m ρ K c 15 (fun j => 24 + (j + 1)) (fun j hj => ⟨by omega, by omega⟩)) $$ [H5] with H5
  · isplitr; · iexact HC
    iexact H5
  imod (close_off m ρ K c (n := 40) (by omega) (by omega) (by unfold Used; omega)) $$ [H6] with H6
  · isplitr; · iexact HC
    iexact H6
  imod (close_fam m ρ K c 15 (41 + ·) (fun j hj => ⟨by omega, by omega⟩)) $$ [H7] with H7
  · isplitr; · iexact HC
    iexact H7
  imod (close_fam m ρ K c 15 (56 + ·) (fun j hj => ⟨by omega, by omega⟩)) $$ [H8] with H8
  · isplitr; · iexact HC
    iexact H8
  imod (close_off m ρ K c (n := 71) (by omega) (by omega) (by unfold Used; omega)) $$ [H9] with H9
  · isplitr; · iexact HC
    iexact H9
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem postG_split (c : Dev nD) : bigSep (Finset.range 15) (postG m ρ c) ⊢ iprop(bigSep (Finset.range 15) (fun j => atPos ER (dc c (9 + j)) 1 ∅ 0) ∗ bigSep (Finset.range 15) fun j => accPts c (peer c (j + 1)).val (acc m ρ c)) := by
  unfold postG; exact Entails.of_eq (bigSep_sep' _ _ _)
theorem postH_split (c : Dev nD) : bigSep (Finset.range 15) (postH m ρ c) ⊢ iprop(bigSep (Finset.range 15) (fun j => atPos ER (dc c (41 + j)) 1 ∅ 0) ∗ bigSep (Finset.range 15) fun j => redPts m ρ c (shareTokN fullShare j)) := by
  unfold postH; exact Entails.of_eq (bigSep_sep' _ _ _)
theorem postE_split (c : Dev nD) : bigSep (Finset.range 15) (postE m ρ c) ⊢ iprop(bigSep (Finset.range 15) (fun j => atPos ER (dc c (56 + j)) 1 ∅ 0) ∗ bigSep (Finset.range 15) fun j => agPts c j (agBuf m ρ c)) := by
  unfold postE; exact Entails.of_eq (bigSep_sep' _ _ _)

/-- The body, from what a device holds at the start to what it holds at the end. -/
theorem body_whole (c : Dev nD) (Q : PUnit → sProp (MT nD τ sig Unit (Elt F) ℕ UU ℕ)) :
    iprop(Ctx m ρ K ∗ Od c 0 0 0 ∗ poss c ∗ toks c ∗ cred (tallyAt (bar c) () 15) ∗ bigSep (Finset.range 15) (fun j => cred (tallyAt (dc c (24 + (j + 1))) () N)) ∗ bigSep (Finset.range 15) (fun j => cred (tallyAt (dc c (56 + j)) () N)) ∗ arrK m c ∗ arrV m c ∗ scr c
        ∗ ((c : Thread nD τ).loc cc0_stg0_0 ↦{fullShare} xs m ρ c) ∗ ((c : Thread nD τ).loc cc0_stg1_0 ↦{fullShare} wqs m ρ c) ∗ ((c : Thread nD τ).loc cc0_stg2_0 ↦{fullShare} wos m ρ c) ∗ (∃ f, (c : Thread nD τ).loc cc0_stg3_0 ↦{fullShare} f)
        ∗ (Od c 15 15 15 ∗ ((c : Thread nD τ).loc cc0_stg0_0 ↦{fullShare} xs m ρ c) ∗ ((c : Thread nD τ).loc cc0_stg1_0 ↦{fullShare} wqs m ρ c) ∗ ((c : Thread nD τ).loc cc0_stg2_0 ↦{fullShare} wos m ρ c) ∗ ((c : Thread nD τ).loc cc0_stg3_0 ↦{fullShare} outFin m ρ c) ∗ arrK m c ∗ arrV m c ∗ scr c ∗ zeros c -∗ Q ⟨⟩))
      ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q := by
  unfold poss scr
  rw [fam_cells c (fun g => atPos ER g 0 ∅ 0), toks_eq, four (fun j => atPos ER (dc c (4 + j)) 0 ∅ 0), four (fun j => dutyTok ER (dc c (4 + j)) 0 0)]
  iintro ⟨#HC, HO, ⟨Htb, ⟨Ht0, Ht1, Ht2, Ht3⟩, U8, HpG, U24, HpC, U40, HpH, HpE, U71⟩, ⟨⟨Ta, Tb1, Tb2, Td1, Td2⟩, ⟨K0, K1, K2, K3⟩⟩, Hcb, HcC, HcE, HK, HV, ⟨Hs0, ⟨%f1, Hs1⟩, ⟨%f2, Hs2⟩, ⟨%f3, Hs3⟩⟩, Hx, Hwq, Hwo, ⟨%fo, Hout⟩, HQ⟩
  ihave HK := (arrK_split m c).1 $$ HK
  icases HK with ⟨⟨S0, R0⟩, ⟨S1, R1⟩⟩
  ihave HV := (arrV_split m c).1 $$ HV
  icases HV with ⟨⟨S2, R2⟩, ⟨S3, R3⟩⟩
  ihave Hs1 := (rs_open c f1) $$ Hs1
  icases Hs1 with ⟨Hrs, Hrs'⟩
  ihave Hs2 := (ag_open c f2) $$ Hs2
  ihave Hs3 := (Entails.of_eq (kv_parts c f3)) $$ Hs3
  icases Hs3 with ⟨V3, V2, V1, V0, -⟩
  ihave Hout := (outs_init m ρ c fo) $$ Hout
  ihave HA := (stA_init c) $$ [HO Ta Hrs' Hs2]
  · isplitl [HO]; · iexact HO
    isplitl [Ta]; · iexact Ta
    isplitl [Hrs']; · iexact Hrs'
    iexact Hs2
  ihave HfC := (famC_init m ρ c) $$ [HpC HcC]
  · isplitl [HpC]; · iexact HpC
    iexact HcC
  ihave HfE := (famE_init m ρ c) $$ [HpE HcE]
  · isplitl [HpE]; · iexact HpE
    iexact HcE
  rw [cc0__body_eq_skeleton]
  unfold cc0__body_skel
  rw [wp_bind]
  iapply (body_run m ρ K c _) $$ [-]
  isplitr; · iexact HC
  isplitl [S0 V0 K0]
  · isplitl [S0]; · iexact S0
    isplitl [V0]; · iexists f3; iexact V0
    iexact K0
  isplitl [S1 V1 K1]
  · isplitl [S1]; · iexact S1
    isplitl [V1]; · iexists f3; iexact V1
    iexact K1
  isplitl [S2 V2 K2]
  · isplitl [S2]; · iexact S2
    isplitl [V2]; · iexists f3; iexact V2
    iexact K2
  isplitl [S3 V3 K3]
  · isplitl [S3]; · iexact S3
    isplitl [V3]; · iexists f3; iexact V3
    iexact K3
  isplitl [HA]; · iexact HA
  isplitl [Hcb]; · iexact Hcb
  isplitl [Htb]; · iexact Htb
  isplitl [Hx]; · iexact Hx
  isplitl [Hwq]; · iexact Hwq
  isplitl [Hwo]; · iexact Hwo
  isplitl [Hout]; · iexact Hout
  isplitl [Ht0]; · iexact Ht0
  isplitl [Ht1]; · iexact Ht1
  isplitl [Ht2]; · iexact Ht2
  isplitl [Ht3]; · iexact Ht3
  isplitl [Hs0]; · iexact Hs0
  isplitl [Hrs]; · iexact Hrs
  isplitl [Tb1]; · iexact Tb1
  isplitl [Tb2]; · iexact Tb2
  isplitl [Td1]; · iexact Td1
  isplitl [Td2]; · iexact Td2
  isplitl [HfC]; · iexact HfC
  isplitl [HfE]; · iexact HfE
  isplitl [HpG]; · iexact HpG
  isplitl [HpH]; · iexact HpH
  iintro ⟨HO, Hx, Hwq, Hwo, Hout, Hown, Hg, Hrest, Hh, Hdrop, He, Hk0, Hk1, Hk2, Hk3, Hs0, Hs1, Hs2, Hs3, Ht0, Ht1, Ht2, Ht3, Htb, Hat⟩
  rw [wp_pure]
  ihave Hg := (postG_split m ρ c) $$ Hg
  icases Hg with ⟨PpG, Hap⟩
  ihave Hh := (postH_split m ρ c) $$ Hh
  icases Hh with ⟨PpH, Hred⟩
  ihave He := (postE_split m ρ c) $$ He
  icases He with ⟨PpE, Hag⟩
  imod (close_all m ρ K c) $$ [Htb Ht0 Ht1 Ht2 Ht3 U8 PpG U24 Hat U40 PpH PpE U71] with Hz
  · isplitr; · iexact HC
    isplitl [Htb]; · iexact Htb
    isplitl [Ht0 Ht1 Ht2 Ht3]
    · isplitl [Ht0]; · iexact Ht0
      isplitl [Ht1]; · iexact Ht1
      isplitl [Ht2]; · iexact Ht2
      iexact Ht3
    isplitl [U8]; · iexact U8
    isplitl [PpG]; · iexact PpG
    isplitl [U24]; · iexact U24
    isplitl [Hat]; · iexact Hat
    isplitl [U40]; · iexact U40
    isplitl [PpH]; · iexact PpH
    isplitl [PpE]; · iexact PpE
    iexact U71
  imodintro
  iapply HQ
  isplitl [HO]; · iexact HO
  isplitl [Hx]; · iexact Hx
  isplitl [Hwq]; · iexact Hwq
  isplitl [Hwo]; · iexact Hwo
  isplitl [Hout]; · iexact Hout
  isplitl [Hs0 R0 Hs1 R1]
  · iapply (arrK_split m c).2
    isplitl [Hs0 R0]
    · isplitl [Hs0]; · iexact Hs0
      iexact R0
    isplitl [Hs1]; · iexact Hs1
    iexact R1
  isplitl [Hs2 R2 Hs3 R3]
  · iapply (arrV_split m c).2
    isplitl [Hs2 R2]
    · isplitl [Hs2]; · iexact Hs2
      iexact R2
    isplitl [Hs3]; · iexact Hs3
    iexact R3
  isplitr [Hz]
  · isplitl [Hown Hap]
    · iexists (acc m ρ c)
      iapply (Entails.of_eq (acc_parts c (acc m ρ c)).symm)
      isplitl [Hown]; · iexact Hown
      iexact Hap
    isplitl [Hrest Hdrop Hred]
    · iapply (rs_close m ρ c)
      isplitl [Hdrop Hred]
      · iapply (red_join m ρ c)
        isplitl [Hdrop]; · iexact Hdrop
        iexact Hred
      iexact Hrest
    isplitl [Hag]
    · iexists (agBuf m ρ c)
      iapply (Entails.of_eq (ag_parts c (agBuf m ρ c)).symm)
      iexact Hag
    iexists (kvBuf m c)
    iapply (Entails.of_eq (kv_parts c (kvBuf m c)).symm)
    isplitl [Hk3]; · iexact Hk3
    isplitl [Hk2]; · iexact Hk2
    isplitl [Hk1]; · iexact Hk1
    isplitl [Hk0]; · iexact Hk0
    iempintro
  iexact Hz

end Cert.KernelIdeal.Run
end
-- ==== Proof.Run.Launch.lean ====
/-
The launch: the data of the pipeline, the cells funded and dealt, and the run of @main.
-/
module

public import proofs.«01_k».proof.Proof.Run.Ends
public import proofs.«01_k».proof.Proof.Gen.KernelIdeal.Points
public import Idealize.ShloMosaic.Lib.Pipeline.CollectiveSegs

@[expose] public section

set_option maxRecDepth 16384
set_option backward.proofsInPublic true

noncomputable section

namespace Cert.KernelIdeal.Run

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 69 → ℕ)

/-! ## The pipeline's data -/

def t₀ : Fin cfg0.N := t0_0
theorem fin_N (t : Fin cfg0.N) : t = t₀ := fin_N0 t

/-- What a device holds going in besides its windows: every cell's record, its positions and tokens, its credit, and the
    key and value arrays. -/
def start (c : Dev nD) : sProp (MT nD τ sig Unit (Elt F) ℕ UU ℕ) :=
  iprop((∃ K, Recs m ρ K ∗ poss c ∗ toks c) ∗ levAts L lv ∗ (cred (tallyAt (bar c) () 15) ∗ bigSep (Finset.range 15) (fun j => cred (tallyAt (dc c (24 + (j + 1))) () N)) ∗ bigSep (Finset.range 15) (fun j => cred (tallyAt (dc c (56 + j)) () N))) ∗ arrK m c ∗ arrV m c)
def Φ₀ (c : Dev nD) : sProp (MT nD τ sig Unit (Elt F) ℕ UU ℕ) := iprop(start m ρ c ∗ scr c)
def Φ₁ (c : Dev nD) : sProp (MT nD τ sig Unit (Elt F) ℕ UU ℕ) := iprop(scr c ∗ zeros c ∗ arrK m c ∗ arrV m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c | ⟨1, _⟩ => wqs m ρ c | ⟨2, _⟩ => wos m ρ c | ⟨3, _⟩ => outFin m ρ c
  Φ t := match t with | ⟨0, _⟩ => Φ₀ m ρ c | ⟨_ + 1, _⟩ => Φ₁ m c
  q _ := fullShare
  owed t := match t with | ⟨0, _⟩ => O₀ c | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MT nD τ sig Unit (Elt F) ℕ UU ℕ) :=
  iprop(∃ f : Buf (Elt F) ((c : Thread nD τ).loc b), ⌜f = X⌝ ∗ (((c : Thread nD τ).loc b) ↦{fullShare} f))

def bodyPre (c : Dev nD) : sProp (MT nD τ sig Unit (Elt F) ℕ UU ℕ) :=
  iprop(Φ₀ m ρ c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp (MT nD τ sig Unit (Elt F) ℕ UU ℕ) :=
  iprop(Φ₁ m c ∗ (dats m ρ 0 c).owesAt () t₀.succ
    ∗ stg c cc0_stg0_0 (xs m ρ c) ∗ stg c cc0_stg1_0 (wqs m ρ c) ∗ stg c cc0_stg2_0 (wos m ρ c) ∗ stg c cc0_stg3_0 (outFin m ρ c))

theorem before_x (c : Dev nD) (d) : (dats m ρ 0 c).before (0 : Fin 4) t₀ d = xs m ρ c := by
  unfold Dat.before; rw [if_pos (fetch0_0 t₀)]; rfl
theorem before_wq (c : Dev nD) (d) : (dats m ρ 0 c).before (1 : Fin 4) t₀ d = wqs m ρ c := by
  unfold Dat.before; rw [if_pos (fetch0_1 t₀)]; rfl
theorem before_wo (c : Dev nD) (d) : (dats m ρ 0 c).before (2 : Fin 4) t₀ d = wos m ρ c := by
  unfold Dat.before; rw [if_pos (fetch0_2 t₀)]; rfl

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ (cc0__body (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => bodyPost m ρ c)
  unfold bodyPre Φ₀ start
  iintro ⟨⟨⟨⟨%K, HR, Hpos, Htok⟩, #HL, ⟨Hc0, Hc1, Hc2⟩, HK, HV⟩, Hscr⟩, Ho, ⟨%d0, %g0, %hg0, Hx⟩, ⟨%d1, %g1, %hg1, Hwq⟩, ⟨%d2, %g2, %hg2, Hwo⟩, ⟨%d3, %g3, %hg3, Hout⟩⟩
  have e0 : g0 = xs m ρ c := hg0.trans (before_x m ρ c d0)
  have e1 : g1 = wqs m ρ c := hg1.trans (before_wq m ρ c d1)
  have e2 : g2 = wos m ρ c := hg2.trans (before_wo m ρ c d2)
  subst e0 e1 e2
  unfold Dat.owesAt Pipeline.owesWithin
  icases Ho with ⟨%W, %hW, HO⟩
  rw [show (dats m ρ 0 c).owed t₀.castSucc = Ow c 0 0 0 from rfl]
  iapply (body_whole m ρ K c fun _ => bodyPost m ρ c)
  isplitl [HR]
  · unfold Ctx
    isplitl [HR]; · iexact HR
    iexact HL
  isplitl [HO]
  · unfold Od; iexists W; iexact HO
  isplitl [Hpos]; · iexact Hpos
  isplitl [Htok]; · iexact Htok
  isplitl [Hc0]; · iexact Hc0
  isplitl [Hc1]; · iexact Hc1
  isplitl [Hc2]; · iexact Hc2
  isplitl [HK]; · iexact HK
  isplitl [HV]; · iexact HV
  isplitl [Hscr]; · iexact Hscr
  isplitl [Hx]; · iexact Hx
  isplitl [Hwq]; · iexact Hwq
  isplitl [Hwo]; · iexact Hwo
  isplitl [Hout]; · iexists g3; iexact Hout
  unfold Od
  iintro ⟨⟨%W', HO⟩, Hx, Hwq, Hwo, Hout, HK, HV, Hscr, Hz⟩
  unfold bodyPost Φ₁
  isplitl [Hscr Hz HK HV]
  · isplitl [Hscr]; · iexact Hscr
    isplitl [Hz]; · iexact Hz
    isplitl [HK]; · iexact HK
    iexact HV
  isplitl [HO]
  · unfold Dat.owesAt Pipeline.owesWithin
    rw [show (dats m ρ 0 c).owed t₀.succ = Ow c 15 15 15 from (Ow_end c).symm]
    iexists W'
    isplitr
    · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

/-! ## The launch -/

/-- The kernel's own scoped semaphores: the transfer semaphores from number 4. -/
def osem (i : Fin 68) : SemLoc sig := .dma (dsem (i.val + 4))

theorem ownSemFacts : Pipeline.OwnSemFacts cfg0.spec osem := by decide +kernel
theorem share_eq (c : Dev nD) (w : Fin cfg0.W) : (dats m ρ 0 c).share w = fullShare := by unfold Dat.share; split <;> rfl

def runCells : Finset (GSem nD τ sig) := Finset.univ.map ⟨kcell, kcell_injective⟩
def runToks : Finset (GSem nD τ sig × ℕ × ℕ) := Finset.univ.map ⟨payTok, payTok_injective⟩
def u₀ : UU :=
  (initOf (Pipeline.cells cfgs cellOf_inj) (Pipeline.launchToks cfgs cellOf_inj), initOf runCells runToks)

def G (c : Dev nD) : sProp (MT nD τ sig Unit (Elt F) ℕ UU ℕ) :=
  iprop((bigSep Finset.univ fun k : Fin 69 => roundState ER (Rd m ρ) (kcell (c, k)) 0)
    ∗ (bigSep Finset.univ fun k : Fin 69 => reached ER (kcell (c, k)) 0) ∗ poss c ∗ toks c)
def G' (c : Dev nD) : sProp (MT nD τ sig Unit (Elt F) ℕ UU ℕ) := iprop(∃ K, Recs m ρ K ∗ poss c ∗ toks c)

theorem fund_run : BI.own (ER (initOf runCells runToks)) ⊢ (|==> bigSep Finset.univ (G m ρ) : sProp (MT nD τ sig Unit (Elt F) ℕ UU ℕ)) := by
  have hX (Φ : GSem nD τ sig → sProp (MT nD τ sig Unit (Elt F) ℕ UU ℕ)) : bigSep runCells Φ = bigSep Finset.univ fun c : Dev nD => bigSep Finset.univ fun k : Fin 69 => Φ (kcell (c, k)) := by
    unfold runCells; rw [bigSep_map, bigSep_univ_prod]; rfl
  have hT : bigSep runToks (fun x => (dutyTok ER x.1 x.2.1 x.2.2 : sProp (MT nD τ sig Unit (Elt F) ℕ UU ℕ))) = bigSep Finset.univ fun c : Dev nD => toks c := by
    unfold runToks toks; rw [bigSep_map, bigSep_univ_prod]; rfl
  iintro HX
  imod (Rounds.fund ER (Rd m ρ) runCells runToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hr']; · iexact Hr'
  isplitl [Hat']; · iexact Hat'
  iexact Htok'

theorem unscopedSems0_eq (c : Dev nD) : (unscopedSems0 c : sProp (MT nD τ sig Unit (Elt F) ℕ UU ℕ)) = semVal (bar c) 0 := by
  unfold unscopedSems0; rw [bigSep_eq_bigSepL_of_eq [SemLoc.reg barS] (by decide +kernel) (by decide +kernel)]; rfl

/-- The barrier and the kernel's own semaphores are the run's cells. -/
theorem sems_split (c : Dev nD) :
    zeros (F := F) c = iprop(unscopedSems0 c ∗ Pipeline.ownSems0 (Ix := Unit) (Name := ℕ) (U := UU) (Lvl := ℕ) (Val := Elt F) (τ := τ) osem c) := by
  rw [unscopedSems0_eq]
  unfold zeros Pipeline.ownSems0
  rw [Ring.bigSep_fin_eq_range 69 (fun i : Fin 69 => semVal (kcell (c, i)) 0) (fun i => semVal (cellN c i) 0) (fun t h => by rw [kcell_eq]),
    Ring.bigSep_fin_eq_range 68 (fun k : Fin 68 => semVal ((c : Thread nD τ), osem k) 0) (fun i => semVal (cellN c (i + 1)) 0) (fun t h => rfl),
    show (69 : ℕ) = 1 + 68 from rfl, bigSep_range_add]
  simp only [Finset.range_one, bigSep_singleton, Nat.add_comm 1]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ (|={Set.univ}=> iprop((bigSep Finset.univ fun k : Fin 69 => iprop(∃ κ : ℕ, cellInv ER (Rd m ρ) κ (kcell (c, k))))
          ∗ (bigSep Finset.univ fun k : Fin 69 => reached ER (kcell (c, k)) 0) ∗ poss c ∗ toks c) : sProp (MT nD τ sig Unit (Elt F) ℕ UU ℕ)) := by
  unfold G
  iintro ⟨Hos, Hus, Hst, Hr, Hat, Htok⟩
  ihave Hv := (Entails.of_eq (sems_split (F := F) c).symm) $$ [Hos Hus]
  · isplitl [Hus] <;> iassumption
  imod (show iprop(zeros c ∗ bigSep Finset.univ fun k : Fin 69 => roundState ER (Rd m ρ) (kcell (c, k)) 0)
      ⊢ (|={Set.univ}=> bigSep Finset.univ fun k : Fin 69 => iprop(∃ κ : ℕ, cellInv ER (Rd m ρ) κ (kcell (c, k))) : sProp (MT nD τ sig Unit (Elt F) ℕ UU ℕ)) from by
        unfold zeros
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem deal (K : Dev nD × Fin 69 → ℕ) (c : Dev nD) : iprop(Recs m ρ K ∗ (poss c ∗ toks c)) ⊢ G' m ρ c := by
  unfold G'
  iintro ⟨HR, Hp, Ht⟩
  iexists K
  isplitl [HR]; · iexact HR
  isplitl [Hp]; · iexact Hp
  iexact Ht

theorem regroup :
    (bigSep Finset.univ fun c : Dev nD => iprop((bigSep Finset.univ fun k : Fin 69 => iprop(∃ κ : ℕ, cellInv ER (Rd m ρ) κ (kcell (c, k))))
          ∗ (bigSep Finset.univ fun k : Fin 69 => reached ER (kcell (c, k)) 0) ∗ poss c ∗ toks c) : sProp (MT nD τ sig Unit (Elt F) ℕ UU ℕ))
      ⊢ bigSep Finset.univ (G' m ρ) := by
  rw [bigSep_sep', bigSep_sep', ← bigSep_univ_prod (fun ck : Dev nD × Fin 69 => iprop(∃ κ : ℕ, cellInv ER (Rd m ρ) κ (kcell ck))),
    ← bigSep_univ_prod (fun ck : Dev nD × Fin 69 => (reached ER (kcell ck) 0 : sProp (MT nD τ sig Unit (Elt F) ℕ UU ℕ)))]
  iintro ⟨HI, HR, Hpt⟩
  ihave HK := (BI.bigSep_exists_pi Finset.univ (fun (ck : Dev nD × Fin 69) (κ : ℕ) => (cellInv ER (Rd m ρ) κ (kcell ck) : sProp (MT nD τ sig Unit (Elt F) ℕ UU ℕ)))) $$ HI
  icases HK with ⟨%K, HI⟩
  iapply (bigSep_with_persistent (R := Recs m ρ K) fun c _ => deal m ρ K c)
  isplitl [HI HR]
  · unfold Recs
    rw [bigSep_sep']
    isplitl [HI]; · iexact HI
    iexact HR
  · iexact Hpt

theorem glob : (bigSep Finset.univ fun c => iprop(Pipeline.ownSems0 (Ix := Unit) (Name := ℕ) (U := UU) (Lvl := ℕ) (Val := Elt F) (τ := τ) osem c ∗ unscopedSems0 c ∗ G m ρ c) : sProp (MT nD τ sig Unit (Elt F) ℕ UU ℕ))
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ (|={Set.univ}=> iprop(start m ρ c ∗ emp) : sProp (MT nD τ sig Unit (Elt F) ℕ UU ℕ)) := by
  rw [Pipeline.unscopedRestP_none, unscopedRest0_eq]
  iintro ⟨⟨HK, HV⟩, Hlev, Hcr, -, HG⟩
  ihave Hc := (creds (F := F) c) $$ Hcr
  imodintro
  unfold start G'
  isplitl
  · isplitl [HG]; · iexact HG
    isplitl [Hlev]; · iexact Hlev
    isplitl [Hc]; · iexact Hc
    isplitl [HK]; · unfold arrK; iexact HK
    unfold arrV; iexact HV
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

def endY (c : Dev nD) : sProp (MT nD τ sig Unit (Elt F) ℕ UU ℕ) := iprop(unscopedSems0 c ∗ arrK m c ∗ arrV m c)

theorem phi1_exit (c : Dev nD) :
    (dats m ρ 0 c).Φ (Fin.last cfg0.N) ⊢ iprop(endY m c ∗ Pipeline.ownSems0 osem c ∗ Pipeline.scopedRest cfg0.spec c) := by
  rw [show (dats m ρ 0 c).Φ (Fin.last cfg0.N) = Φ₁ m c from rfl, scopedRest0_eq]
  unfold Φ₁ scr endY
  rw [sems_split]
  iintro ⟨Hr, ⟨Hu, Ho⟩, HK, HV⟩
  isplitl [Hu HK HV]
  · isplitl [Hu]; · iexact Hu
    isplitl [HK]; · iexact HK
    iexact HV
  isplitl [Ho]; · iexact Ho
  iexact Hr

theorem lv_stage (c : Dev nD) : ∀ (w : Fin cfg0.W) (s : Fin (cfg0.spec w).nbuf), lv ((c : Thread nD τ), .dma ((cfg0.spec w).sem s)) () = 0 := fun w s => by
  fin_cases w <;> fin_cases s <;> rfl

theorem waits (c : Dev nD) : (levAts L lv : sProp (MT nD τ sig Unit (Elt F) ℕ UU ℕ)) ⊢ Pipeline.cellsWaits cfgs (dats m ρ) () 0 c :=
  Pipeline.cellsWaits_intro cfgs (dats m ρ) () 0 c fun w s t => by
    rcases t with ⟨_ | _, ht⟩
    · exact mayWait c _ 0 0 0 0 (lv_stage c w s) (fun _ => by omega) (fun _ => by omega) (fun _ => by omega)
    · have h := mayWait (F := F) c (.dma ((cfg0.spec w).sem s)) 15 15 15 0 (lv_stage c w s) (fun _ => by omega) (fun _ => by omega) (fun _ => by omega)
      rw [Ow_end] at h
      exact h

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem read_keep {ℓ : Loc nD τ sig} (s' : Phys nD τ sig (Elt F)) (f : Buf (Elt F) ℓ) :
    iprop(SI s' ∗ (ℓ ↦{fullShare} f)) ⊢ (iprop(⌜∀ i ∈ (Finset.univ : Finset _), s'.mem.mem ℓ i = f i⌝ ∗ SI s') : sProp (MT nD τ sig Unit (Elt F) ℕ UU ℕ)) :=
  (persistent_entails_right SI_pointsTo_agree).trans (by
    iintro ⟨%h, HSI, -⟩
    isplitr; · ipureintro; exact h
    iexact HSI)

theorem read_end (c : Dev nD) (s' : Phys nD τ sig (Elt F)) :
    iprop(endY m c ∗ emp ∗ SI s') ⊢ (|={Set.univ}=> iprop(⌜(s'.mem.mem ((c : Thread nD τ).loc main_arg2) = m ((c : Thread nD τ).loc main_arg2)
        ∧ s'.mem.mem ((c : Thread nD τ).loc main_arg3) = m ((c : Thread nD τ).loc main_arg3))
        ∧ ∀ sm : SemLoc sig, sm.isScoped .tc = false → s'.mem.sem ((c : Thread nD τ), sm) = 0⌝ ∗ SI s') : sProp (MT nD τ sig Unit (Elt F) ℕ UU ℕ)) := by
  unfold endY arrK arrV
  iintro ⟨⟨Hu, HK, HV⟩, -, HSI⟩
  ihave HSK := (read_keep s' _) $$ [HSI HK]
  · isplitl [HSI] <;> iassumption
  icases HSK with ⟨%hK, HSI⟩
  ihave HSV := (read_keep s' _) $$ [HSI HV]
  · isplitl [HSI] <;> iassumption
  icases HSV with ⟨%hV, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => hK i (Finset.mem_univ i), funext fun i => hV i (Finset.mem_univ i)⟩, hs⟩
  iexact HSI

/-- For any float values, from any memory with zero counters: every weakly fair execution of @main on the sixteen devices
    ends, each device's arrays at the computed contents, its keys and values as they were, and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_run m ρ) $$ HX with HG
      imodintro
      isplitl [HP] <;> iassumption)
    (hglob := glob m ρ)
    (hA := fun _ _ => rfl) (hpf := fun _ k => k.elim0)
    (X := start m ρ) (Y := endY m) (Z := fun _ => iprop(emp))
    (hX := start_intro m ρ) (hin := phi0_intro m ρ) (hout := phi1_exit m ρ)
    (QY := fun c s => (s.mem ((c : Thread nD τ).loc main_arg2) = m ((c : Thread nD τ).loc main_arg2)
        ∧ s.mem ((c : Thread nD τ).loc main_arg3) = m ((c : Thread nD τ).loc main_arg3))
        ∧ ∀ sm : SemLoc sig, sm.isScoped .tc = false → s.sem ((c : Thread nD τ), sm) = 0)
    (hY := read_end m)
    (hQ := fun _ h hs => ⟨fun c => ⟨fun w => (h c).1 w, (h c).2.2.1⟩, sem_eq_zero hs fun c => (h c).2.2.2⟩)

/-! ### The arrays at the end -/

theorem finalA_x (c : Dev nD) : finalA m ρ c (0 : Fin 4) = m ((c : Thread nD τ).loc main_arg0) := (dats (F := F) m ρ 0 c).arrAt_in (0 : Fin 4) rfl _
theorem finalA_wq (c : Dev nD) : finalA m ρ c (1 : Fin 4) = m ((c : Thread nD τ).loc main_arg1) := (dats (F := F) m ρ 0 c).arrAt_in (1 : Fin 4) rfl _
theorem finalA_wo (c : Dev nD) : finalA m ρ c (2 : Fin 4) = m ((c : Thread nD τ).loc main_arg4) := (dats (F := F) m ρ 0 c).arrAt_in (2 : Fin 4) rfl _

end Cert.KernelIdeal.Run
end
-- ==== Proof.Run.Frames.lean ====
/-
The frames of the two kernels: one run, read at the extended reals and at the bits.
-/
module

public import proofs.«01_k».proof.Defs
public import proofs.«01_k».proof.Proof.Gen.Kernel
public import proofs.«01_k».proof.Proof.Run.Launch

@[expose] public section

set_option maxRecDepth 65536
set_option backward.proofsInPublic true

noncomputable section

namespace Cert.KernelIdeal.Run

open Idealize.ShloMosaic Idealize.ShloMosaic.TcCoe Idealize.SL.Sem
open Cert.KernelIdeal.Gen

instance : Cert.Kernel.Facts := Cert.Kernel.Gen.facts

/-- Every argument of @main ends as it began. -/
theorem args_kept {F : FTy → Type} [FloatOps F] [Named F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)} (h : QC m ρ r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
    ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
    ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
    ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
    ∧ r.2.mem ((c : Thread Cert.KernelIdeal.nD Cert.KernelIdeal.τ).loc Cert.KernelIdeal.main_arg4) = m ((c : Thread Cert.KernelIdeal.nD Cert.KernelIdeal.τ).loc Cert.KernelIdeal.main_arg4) :=
  ⟨((h c).1 (0 : Fin 4)).trans (finalA_x m ρ c), ((h c).1 (1 : Fin 4)).trans (finalA_wq m ρ c), (h c).2.1, (h c).2.2,
    ((h c).1 (2 : Fin 4)).trans (finalA_wo m ρ c)⟩

/-- The run of @main over any values: its arguments kept, its counters at zero. -/
theorem frame_any {F : FTy → Type} [FloatOps F] [Named F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
      ∧ r.2.mem ((c : Thread Cert.KernelIdeal.nD Cert.KernelIdeal.τ).loc Cert.KernelIdeal.main_arg4) = m ((c : Thread Cert.KernelIdeal.nD Cert.KernelIdeal.τ).loc Cert.KernelIdeal.main_arg4)) ∧ r.2.sem = fun _ => 0) :=
  (θ_run Cert.KernelIdeal.defs _ _).mono (fun _ h => ⟨fun c => args_kept m ρ h.1 c, h.2⟩) (run_main (F := F) m ρ)

theorem frame_ideal : Cert.quiescent_KernelIdeal (hKernelIdeal := facts) := fun m ρ _ => frame_any m ρ

/-- At the bits a named constant is its pattern. -/
local instance bitsNamed : Named Bits := ⟨fun _ _ {φ} bits => Scalar.ofBits φ bits⟩

/-- The two kernels' tables of bodies are one table at the bits. -/
theorem defs0_same : Cert.Kernel.defs₀ (F := Bits) = Cert.KernelIdeal.defs₀ (F := Bits) := by
  funext p l a
  cases p with
  | tc =>
    show Cert.Kernel.defs₀ (F := Bits) .tc l a = Cert.KernelIdeal.defs₀ (F := Bits) .tc l a
    obtain ⟨l, hl⟩ := l
    cases l with
    | zero =>
      obtain ⟨t, s⟩ := a
      rfl
    | succ n => exact absurd hl (by omega)
  | scScalar => rfl
  | scVector => rfl
/-- The two programs' tables, pipelines and bodies together, are one table at the bits. -/
theorem defs_same : Cert.Kernel.defs (F := Bits) = Cert.KernelIdeal.defs (F := Bits) := by
  show Pipeline.defs (Cert.Kernel.pcfgs (F := Bits)) (Cert.Kernel.defs₀ (F := Bits)) = Pipeline.defs (Cert.KernelIdeal.pcfgs (F := Bits)) (Cert.KernelIdeal.defs₀ (F := Bits))
  exact congrArg (Pipeline.defs (Cert.KernelIdeal.pcfgs (F := Bits))) defs0_same

/-- The two programs' @main is one text. -/
theorem main_same : Cert.Kernel.main (F := Bits) = Cert.KernelIdeal.main (F := Bits) := rfl

theorem frame_kernel : Cert.quiescent_Kernel (hKernel := Cert.Kernel.Gen.facts) := fun m ρ _ => by
  have H := frame_any (F := Bits) m ρ
  rw [← defs_same, ← main_same] at H
  exact H

end Cert.KernelIdeal.Run

end
-- ==== Proof.Val.Reads.lean ====
/-
What the device's staging blocks and key/value slots hold, read at an index, and the result array after the run.
-/
module

public import proofs.«01_k».proof.Proof.Run.Launch
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen Idealize.ShloMosaic Idealize.ShloMosaic.TcCoe Idealize.ShloMosaic.Pipeline Idealize.SL.Sem

variable {F : FTy → Type} [FloatOps F] [Named F]
variable (m : (ℓ : Loc nD τ sig) → Buf (Elt F) ℓ) (ρ : Dev nD → PrngReg)

theorem xs_at (c : Dev nD) (i : Fin 256) (y : Fin 1024) : xs m ρ c (ix3 0 i y) = m ((c : Thread nD τ).loc main_arg0) (ix3 0 i y) := by
  unfold xs
  blk_ext [show ∀ a, win0_0.index (0 : Fin 1) a = 0 from fun _ => rfl]
theorem wqs_at (c : Dev nD) (i : Fin 1024) (y : Fin 1024) : wqs m ρ c (ix2 i y) = m ((c : Thread nD τ).loc main_arg1) (ix2 i y) := by
  unfold wqs
  blk_ext [show ∀ a, win0_1.index (0 : Fin 1) a = 0 from fun _ => rfl]
theorem wos_at (c : Dev nD) (i : Fin 1024) (y : Fin 1024) : wos m ρ c (ix2 i y) = m ((c : Thread nD τ).loc main_arg4) (ix2 i y) := by
  unfold wos
  blk_ext [show ∀ a, win0_2.index (0 : Fin 1) a = 0 from fun _ => rfl]

theorem finalA_out (c : Dev nD) : finalA m ρ c (3 : Fin 4) = outFin m ρ c := by
  unfold finalA
  refine (dats (F := F) m ρ 0 c).arrAt_eq_of_after_last (3 : Fin 4) t₀ (by decide +kernel) _ fun j => ?_
  rfl

/-- A slot of the buffer as the body reads it, at an index. -/
theorem kvRd_at (c : Dev nD) (k : Fin 4) (h : ∀ a, (![k.val, 0, 0] : Fin 3 → Nat) a + S1x4096x128.size a ≤ S4x4096x128.size a) (t : Fin 4096) (e : Fin 128) :
    kvRd m c k.val h (ix3 0 t e) = kvBuf m c (ix3 k t e : S4x4096x128.Idx) := by
  unfold kvRd
  rw [View.readAt_rect]
  show kvBuf m c ((Rect.unit (s := S4x4096x128) ![k.val, 0, 0] S1x4096x128.size h).emb (ix3 0 t e)) = _
  congr 1
  funext a
  apply Fin.ext
  fin_cases a
  · show k.val + 1 * 0 = k.val; omega
  · show 0 + 1 * t.val = t.val; omega
  · show 0 + 1 * e.val = e.val; omega

theorem k0_at (c : Dev nD) (t : Fin 4096) (e : Fin 128) :
    k0 m c (ix3 0 t e) = m ((c : Thread nD τ).loc main_arg2) (ix4 0 t ⟨2 * c.val, by have := dev_lt c; omega⟩ e : S1x4096x32x128.Idx) :=
  (kvRd_at m c 0 _ t e).trans rfl
theorem k1_at (c : Dev nD) (t : Fin 4096) (e : Fin 128) :
    k1 m c (ix3 0 t e) = m ((c : Thread nD τ).loc main_arg2) (ix4 0 t ⟨2 * c.val + 1, by have := dev_lt c; omega⟩ e : S1x4096x32x128.Idx) :=
  (kvRd_at m c 1 _ t e).trans rfl
theorem v0_at (c : Dev nD) (t : Fin 4096) (e : Fin 128) :
    v0 m c (ix3 0 t e) = m ((c : Thread nD τ).loc main_arg3) (ix4 0 t ⟨2 * c.val, by have := dev_lt c; omega⟩ e : S1x4096x32x128.Idx) :=
  (kvRd_at m c 2 _ t e).trans ((if_neg (show ¬ (2 : ℕ) < 2 by decide)).trans
    (congrArg (fun z : Fin 32 => m ((c : Thread nD τ).loc main_arg3) (ix4 0 t z e : S1x4096x32x128.Idx)) (Fin.ext (show 2 * c.val + 2 % 2 = 2 * c.val by omega))))
theorem v1_at (c : Dev nD) (t : Fin 4096) (e : Fin 128) :
    v1 m c (ix3 0 t e) = m ((c : Thread nD τ).loc main_arg3) (ix4 0 t ⟨2 * c.val + 1, by have := dev_lt c; omega⟩ e : S1x4096x32x128.Idx) :=
  (kvRd_at m c 3 _ t e).trans ((if_neg (show ¬ (3 : ℕ) < 2 by decide)).trans
    (congrArg (fun z : Fin 32 => m ((c : Thread nD τ).loc main_arg3) (ix4 0 t z e : S1x4096x32x128.Idx)) (Fin.ext (show 2 * c.val + 3 % 2 = 2 * c.val + 1 by omega))))

end Cert.KernelIdeal.Run

end
-- ==== Proof.Val.RefStage.lean ====
/-
The reference's result as stages over whole arrays, and every stage read at an index.
-/
module

public import proofs.«01_k».proof.Proof.Gen.ReferenceIdeal.Run
public import Idealize.ShloMosaic.Lib.Pointwise

@[expose] public section

set_option maxRecDepth 16384

noncomputable section

namespace Cert.ReferenceIdeal.Stage

open Cert.ReferenceIdeal Cert.ReferenceIdeal.Gen Idealize.ShloMosaic Idealize.ShloMosaic.TcCoe Idealize.SL.Sem

/-- The queries, cut into heads. -/
def qs (x : FVec Ideal S1x256x1024 .f32) (wq : FVec Ideal S1024x16384 .f32) : FVec Ideal S1x256x128x128 .f32 :=
  shapeCast _ (Host.dotGeneral dot_S1x256x1024_S1024x16384_S1x256x16384_2_0_01_1_n_n none x wq) shapeCasts_S1x256x16384_S1x256x128x128
/-- Keys or values, each head four times. -/
def rep (k : FVec Ideal S1x4096x32x128 .f32) : FVec Ideal S1x4096x128x128 .f32 :=
  shapeCast _ (broadcastInDim S1x4096x32x4x128 ![0, 1, 2, 4] bcast_S1x4096x32x128_S1x4096x32x4x128_0_1_2_4 k) shapeCasts_S1x4096x32x4x128_S1x4096x128x128
/-- The scaled scores of a chunk. -/
def scores (q : FVec Ideal S1x256x128x128 .f32) (k : FVec Ideal S1x1024x128x128 .f32) : FVec Ideal S1x128x256x1024 .f32 :=
  mulf (Host.dotGeneral dot_S1x256x128x128_S1x1024x128x128_S1x128x256x1024_3_3_1_1_02_02 none q k)
    (broadcastInDim S1x128x256x1024 ![] bcast_S_S1x128x256x1024 (constant S_ .f32 0x3DB504F3#32))
/-- The maximum after a chunk. -/
def maxN (m : FVec Ideal S1x128x256x1 .f32) (s : FVec Ideal S1x128x256x1024 .f32) : FVec Ideal S1x128x256x1 .f32 :=
  maximumf m (broadcastInDim S1x128x256x1 ![0, 1, 2] bcast_S1x128x256_S1x128x256x1_0_1_2
    (Host.reduce FloatOps.maximumf s (constant S_ .f32 0xFF800000#32) reducesTo_S1x128x256x1024_S1x128x256_d3 h_S_))
/-- The factor that brings the old sums to the new maximum. -/
def scl (m m' : FVec Ideal S1x128x256x1 .f32) : FVec Ideal S1x128x256x1 .f32 := Host.exp (subf m m')
/-- The shifted exponentials of a chunk. -/
def ps (s : FVec Ideal S1x128x256x1024 .f32) (m' : FVec Ideal S1x128x256x1 .f32) : FVec Ideal S1x128x256x1024 .f32 :=
  Host.exp (subf s (broadcastInDim S1x128x256x1024 ![0, 1, 2, 3] bcast_S1x128x256x1_S1x128x256x1024_0_1_2_3 m'))
/-- The denominator after a chunk. -/
def denN (l a : FVec Ideal S1x128x256x1 .f32) (p : FVec Ideal S1x128x256x1024 .f32) : FVec Ideal S1x128x256x1 .f32 :=
  addf (mulf l a) (broadcastInDim S1x128x256x1 ![0, 1, 2] bcast_S1x128x256_S1x128x256x1_0_1_2
    (Host.reduceAdd p (constant S_ .f32 0x00000000#32) reducesTo_S1x128x256x1024_S1x128x256_d3 h_S_))
/-- A column of one value per head and row, spread over the lanes of the head. -/
def spread (a : FVec Ideal S1x128x256x1 .f32) : FVec Ideal S1x256x128x128 .f32 :=
  broadcastInDim S1x256x128x128 ![0, 1, 2, 3] bcast_S1x256x128x1_S1x256x128x128_0_1_2_3
    (transpose S1x256x128x1 [0, 2, 1, 3] a transposes_S1x128x256x1_S1x256x128x1_0_2_1_3)
/-- The numerator after a chunk. -/
def numN (o : FVec Ideal S1x256x128x128 .f32) (a : FVec Ideal S1x128x256x1 .f32) (v : FVec Ideal S1x1024x128x128 .f32) (p : FVec Ideal S1x128x256x1024 .f32) : FVec Ideal S1x256x128x128 .f32 :=
  addf (mulf o (spread a)) (transpose S1x256x128x128 [0, 3, 1, 2]
    (Host.dotGeneral dot_S1x1024x128x128_S1x128x256x1024_S1x128x128x256_1_3_3_2_02_01 none v p) transposes_S1x128x128x256_S1x256x128x128_0_3_1_2)
/-- The result from the last numerator and denominator. -/
def res (o : FVec Ideal S1x256x128x128 .f32) (l : FVec Ideal S1x128x256x1 .f32) (wo : FVec Ideal S16384x1024 .f32) : FVec Ideal S1x256x1024 .f32 :=
  Host.dotGeneral dot_S1x256x16384_S16384x1024_S1x256x1024_2_0_01_1_n_n none
    (shapeCast S1x256x16384 (Host.divf o (spread l)) shapeCasts_S1x256x128x128_S1x256x16384) wo

def c0 (k : FVec Ideal S1x4096x32x128 .f32) : FVec Ideal S1x1024x128x128 .f32 := extractStridedSlice S1x1024x128x128 ![0, 0, 0, 0] (rep k) slices_S1x4096x128x128_S1x1024x128x128_0_0_0_0
def c1 (k : FVec Ideal S1x4096x32x128 .f32) : FVec Ideal S1x1024x128x128 .f32 := extractStridedSlice S1x1024x128x128 ![0, 1024, 0, 0] (rep k) slices_S1x4096x128x128_S1x1024x128x128_0_1024_0_0
def c2 (k : FVec Ideal S1x4096x32x128 .f32) : FVec Ideal S1x1024x128x128 .f32 := extractStridedSlice S1x1024x128x128 ![0, 2048, 0, 0] (rep k) slices_S1x4096x128x128_S1x1024x128x128_0_2048_0_0
def c3 (k : FVec Ideal S1x4096x32x128 .f32) : FVec Ideal S1x1024x128x128 .f32 := extractStridedSlice S1x1024x128x128 ![0, 3072, 0, 0] (rep k) slices_S1x4096x128x128_S1x1024x128x128_0_3072_0_0

def mInit : FVec Ideal S1x128x256x1 .f32 := broadcastInDim S1x128x256x1 ![] bcast_S_S1x128x256x1 (constant S_ .f32 0xFF800000#32)
def lInit : FVec Ideal S1x128x256x1 .f32 := broadcastInDim S1x128x256x1 ![] bcast_S_S1x128x256x1 (constant S_ .f32 0x00000000#32)
def oInit : FVec Ideal S1x256x128x128 .f32 := broadcastInDim S1x256x128x128 ![] bcast_S_S1x256x128x128 (constant S_ .f32 0x00000000#32)

section Run
variable (x : FVec Ideal S1x256x1024 .f32) (wq : FVec Ideal S1024x16384 .f32) (k v : FVec Ideal S1x4096x32x128 .f32) (wo : FVec Ideal S16384x1024 .f32)

def s0 := scores (qs x wq) (c0 k)
def s1 := scores (qs x wq) (c1 k)
def s2 := scores (qs x wq) (c2 k)
def s3 := scores (qs x wq) (c3 k)
def m0 := maxN mInit (s0 x wq k)
def m1 := maxN (m0 x wq k) (s1 x wq k)
def m2 := maxN (m1 x wq k) (s2 x wq k)
def m3 := maxN (m2 x wq k) (s3 x wq k)
def l0 := denN lInit (scl mInit (m0 x wq k)) (ps (s0 x wq k) (m0 x wq k))
def l1 := denN (l0 x wq k) (scl (m0 x wq k) (m1 x wq k)) (ps (s1 x wq k) (m1 x wq k))
def l2 := denN (l1 x wq k) (scl (m1 x wq k) (m2 x wq k)) (ps (s2 x wq k) (m2 x wq k))
def l3 := denN (l2 x wq k) (scl (m2 x wq k) (m3 x wq k)) (ps (s3 x wq k) (m3 x wq k))
def o0 := numN oInit (scl mInit (m0 x wq k)) (c0 v) (ps (s0 x wq k) (m0 x wq k))
def o1 := numN (o0 x wq k v) (scl (m0 x wq k) (m1 x wq k)) (c1 v) (ps (s1 x wq k) (m1 x wq k))
def o2 := numN (o1 x wq k v) (scl (m1 x wq k) (m2 x wq k)) (c2 v) (ps (s2 x wq k) (m2 x wq k))
def o3 := numN (o2 x wq k v) (scl (m2 x wq k) (m3 x wq k)) (c3 v) (ps (s3 x wq k) (m3 x wq k))
def out := res (o3 x wq k v) (l3 x wq k) wo
end Run

/-- The run's composed term is the stages'. -/
theorem res_eq (m : (ℓ : Loc nD τ sig) → Buf (Elt Ideal) ℓ) (c : Dev nD) :
    Value.res_out0 (F := Ideal) m c = out (m ((c : Thread nD τ).loc main_arg0)) (m ((c : Thread nD τ).loc main_arg1)) (m ((c : Thread nD τ).loc main_arg2))
      (m ((c : Thread nD τ).loc main_arg3)) (m ((c : Thread nD τ).loc main_arg4)) := by
  unfold Value.res_out0 Value.res_main_v105
  rfl

end Cert.ReferenceIdeal.Stage

end
-- ==== Proof.Val.Softmax.lean ====
/-
The running softmax over the extended reals: with finite scores, a pass in chunks that carries the maximum, the
denominator and the numerator ends at the same quotient as the plain sums of exponentials.
-/
module

public import Idealize.ShloMosaic.PureOps.Ideal
public import Mathlib.Data.EReal.Operations
public import Mathlib.Data.EReal.Inv
public import Mathlib.Analysis.SpecialFunctions.Pow.Real

@[expose] public section

noncomputable section

namespace Cert.Attn

open Idealize.ShloMosaic

/-- A nonnegative real factor distributes over a sum of two. -/
theorem coe_mul_add {a : ℝ} (h : 0 ≤ a) (x y : EReal) : (a : EReal) * (x + y) = a * x + a * y :=
  EReal.left_distrib_of_nonneg_of_ne_top (by exact_mod_cast h) (EReal.coe_ne_top a) x y

/-- A nonnegative real factor distributes over a finite sum. -/
theorem coe_mul_sum {ι : Type} {a : ℝ} (h : 0 ≤ a) (s : Finset ι) (f : ι → EReal) : (a : EReal) * ∑ k ∈ s, f k = ∑ k ∈ s, (a : EReal) * f k := by
  classical
  induction s using Finset.induction_on with
  | empty => simp
  | insert b s hb ih => rw [Finset.sum_insert hb, Finset.sum_insert hb, coe_mul_add h, ih]

/-- A finite sum of reals, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert b s hb ih => rw [Finset.sum_insert hb, Finset.sum_insert hb, EReal.coe_add, ih]

/-- A maximum of at least one real is a real. -/
theorem fold_max_real {ι : Type} (s : Finset ι) (r : ι → ℝ) :
    (s = ∅ ∧ Finset.fold max (⊥ : EReal) (fun k => (r k : EReal)) s = ⊥) ∨ ∃ μ : ℝ, Finset.fold max (⊥ : EReal) (fun k => (r k : EReal)) s = μ := by
  classical
  induction s using Finset.induction_on with
  | empty => left; exact ⟨rfl, Finset.fold_empty⟩
  | insert b s hb ih =>
    right
    rw [Finset.fold_insert hb]
    rcases ih with ⟨_, h⟩ | ⟨μ, h⟩
    · exact ⟨r b, by rw [h]; simp⟩
    · exact ⟨max (r b) μ, by rw [h]; exact (EReal.coe_strictMono.monotone.map_max).symm⟩

/-- The carried state after some chunks: `A` and `N` are the sums of exponentials with no shift. -/
def St (m l o : EReal) (A : ℝ) (N : EReal) : Prop :=
  ∃ μ : ℝ, m = μ ∧ l = ((Real.exp (-μ) * A : ℝ) : EReal) ∧ o = ((Real.exp (-μ) : ℝ) : EReal) * N

variable {n : ℕ}

/-- The shifted exponentials of a chunk, summed. -/
theorem sum_shift (r : Fin n → ℝ) (μ : ℝ) : (∑ t, Ideal.exp ((r t : EReal) - (μ : EReal))) = ((Real.exp (-μ) * ∑ t, Real.exp (r t) : ℝ) : EReal) := by
  rw [Finset.mul_sum, coe_sum]
  refine Finset.sum_congr rfl fun t _ => ?_
  rw [← EReal.coe_sub, Ideal.exp_coe, ← Real.exp_add]
  congr 2; ring

/-- The shifted exponentials of a chunk against the values, summed. -/
theorem sum_shift_mul (r : Fin n → ℝ) (v : Fin n → EReal) (μ : ℝ) :
    (∑ t, v t * Ideal.exp ((r t : EReal) - (μ : EReal))) = ((Real.exp (-μ) : ℝ) : EReal) * ∑ t, ((Real.exp (r t) : ℝ) : EReal) * v t := by
  rw [coe_mul_sum (Real.exp_pos _).le]
  refine Finset.sum_congr rfl fun t _ => ?_
  rw [← EReal.coe_sub, Ideal.exp_coe, show r t - μ = -μ + r t by ring, Real.exp_add, EReal.coe_mul, mul_comm (v t), mul_assoc]

/-- The first chunk. -/
theorem St.first (hn : 0 < n) (r : Fin n → ℝ) (v : Fin n → EReal) {m' : EReal}
    (hm : m' = max ⊥ (Finset.fold max (⊥ : EReal) (fun k => (r k : EReal)) Finset.univ)) :
    St m' (0 * Ideal.exp (⊥ - m') + ∑ t, Ideal.exp ((r t : EReal) - m')) (0 * Ideal.exp (⊥ - m') + ∑ t, v t * Ideal.exp ((r t : EReal) - m'))
      (∑ t, Real.exp (r t)) (∑ t, ((Real.exp (r t) : ℝ) : EReal) * v t) := by
  obtain ⟨μ, h⟩ : ∃ μ : ℝ, m' = μ := by
    rcases fold_max_real (Finset.univ : Finset (Fin n)) r with ⟨h, _⟩ | ⟨μ, h⟩
    · exact absurd (Finset.mem_univ (⟨0, hn⟩ : Fin n)) (by rw [h]; exact Finset.notMem_empty _)
    · exact ⟨μ, by rw [hm, h]; exact max_eq_right bot_le⟩
  refine ⟨μ, h, ?_, ?_⟩
  · rw [h, sum_shift, zero_mul, zero_add]
  · rw [h, sum_shift_mul, zero_mul, zero_add]

/-- One more chunk. -/
theorem St.next {m l o : EReal} {A : ℝ} {N : EReal} (H : St m l o A N) (r : Fin n → ℝ) (v : Fin n → EReal) {m' : EReal}
    (hm : m' = max m (Finset.fold max (⊥ : EReal) (fun k => (r k : EReal)) Finset.univ)) :
    St m' (l * Ideal.exp (m - m') + ∑ t, Ideal.exp ((r t : EReal) - m')) (o * Ideal.exp (m - m') + ∑ t, v t * Ideal.exp ((r t : EReal) - m'))
      (A + ∑ t, Real.exp (r t)) (N + ∑ t, ((Real.exp (r t) : ℝ) : EReal) * v t) := by
  obtain ⟨ν, rfl, rfl, rfl⟩ := H
  obtain ⟨μ, h⟩ : ∃ μ : ℝ, m' = μ := by
    rcases fold_max_real (Finset.univ : Finset (Fin n)) r with ⟨_, h⟩ | ⟨μ, h⟩
    · exact ⟨ν, by rw [hm, h]; exact max_eq_left bot_le⟩
    · exact ⟨max ν μ, by rw [hm, h]; exact (EReal.coe_strictMono.monotone.map_max).symm⟩
  refine ⟨μ, h, ?_, ?_⟩
  · rw [h, sum_shift, ← EReal.coe_sub, Ideal.exp_coe, ← EReal.coe_mul, ← EReal.coe_add]
    congr 1
    rw [mul_add, show Real.exp (-ν) * A * Real.exp (ν - μ) = (Real.exp (-ν) * Real.exp (ν - μ)) * A by ring, ← Real.exp_add]
    congr 3; ring
  · rw [h, sum_shift_mul, ← EReal.coe_sub, Ideal.exp_coe, coe_mul_add (Real.exp_pos _).le, mul_comm _ ((Real.exp (ν - μ) : ℝ) : EReal), ← mul_assoc,
      ← EReal.coe_mul, ← Real.exp_add, show ν - μ + -ν = -μ by ring]

/-- The quotient at the end has no shift left in it. -/
theorem St.quot {m l o : EReal} {A : ℝ} {N : EReal} (H : St m l o A N) (hA : 0 < A) : Ideal.div o l = Ideal.div N (A : EReal) := by
  obtain ⟨μ, rfl, rfl, rfl⟩ := H
  have he := Real.exp_pos (-μ)
  rw [Ideal.div_coe (mul_pos he hA).ne', Ideal.div_coe hA.ne', mul_comm _ N, mul_assoc, ← EReal.coe_mul]
  congr 2
  field_simp

/-- A power of two of a score over `log 2` is the exponential of the score. -/
theorem exp2_scaled (s : ℝ) : Ideal.exp2 ((s * (Real.log 2)⁻¹ : ℝ) : EReal) = ((Real.exp s : ℝ) : EReal) := by
  rw [Ideal.exp2_coe]
  congr 1
  show (2 : ℝ) ^ (s * (Real.log 2)⁻¹) = _
  rw [Real.rpow_def_of_pos (by norm_num)]
  congr 1
  have : Real.log 2 ≠ 0 := (Real.log_pos (by norm_num)).ne'
  field_simp

end Cert.Attn

end
-- ==== Proof.Val.RefAt.lean ====
/-
The reference's stages read at an index, and its result as one formula for finite scores.
-/
module

public import proofs.«01_k».proof.Proof.Val.RefStage
public import proofs.«01_k».proof.Proof.Val.Softmax

@[expose] public section

set_option maxRecDepth 16384

noncomputable section

namespace Cert.ReferenceIdeal.Stage

open Cert.ReferenceIdeal Cert.ReferenceIdeal.Gen Idealize.ShloMosaic Idealize.ShloMosaic.TcCoe Idealize.SL.Sem

/-- A fold along the last axis of four, read at an index. -/
theorem fold_last {α : Type} (op : α → α → α) [Std.Commutative op] [Std.Associative op] (s : S1x128x256x1024.Idx → α) (b : S_.Idx → α)
    (hr : S1x128x256x1024.ReducesTo [3] S1x128x256) (hu : 0 < S_.numel) (h : Fin 128) (i : Fin 256) (y : α) (hy : b ix0 = y) :
    Host.reduce op s b hr hu (ix3 0 h i) = Finset.univ.fold op y (fun t : Fin 1024 => s (ix4 0 h i t)) := by
  rw [Host.reduce_eq_fold, Shape.ReducesTo.fold_fiber_r4_a3]
  have e : b (Shape.Idx.first hu) = y := by rw [← hy]; congr 1; funext a; exact a.elim0
  rw [e]
  refine congrArg (fun g => Finset.univ.fold op y g) (funext fun t => congrArg s ?_)
  funext a
  match a with
  | 0 => exact Subsingleton.elim (α := Fin 1) _ _
  | 1 => rfl
  | 2 => rfl
  | 3 => rfl

/-- The lowest pattern is the bottom. -/
theorem lower_bot : Ideal.ofBits .f32 0xFF800000#32 = ⊥ := by
  simp [Ideal.ofBits, Ideal.ieee]

/-- A column's maximum with another, at an index. -/
theorem max_col (m : FVec Ideal S1x128x256x1 .f32) (r : FVec Ideal S1x128x256 .f32) (h : Fin 128) (i : Fin 256) :
    maximumf m (broadcastInDim S1x128x256x1 ![0, 1, 2] bcast_S1x128x256_S1x128x256x1_0_1_2 r) (ix4 0 h i 0) = max (m (ix4 0 h i 0)) (r (ix3 0 h i)) := by
  pointwise

theorem maxN_at (m : FVec Ideal S1x128x256x1 .f32) (s : FVec Ideal S1x128x256x1024 .f32) (h : Fin 128) (i : Fin 256) :
    maxN m s (ix4 0 h i 0) = max (m (ix4 0 h i 0)) (Finset.univ.fold max (⊥ : EReal) (fun t : Fin 1024 => s (ix4 0 h i t))) := by
  rw [← fold_last (max : EReal → EReal → EReal) s (constant (F := Ideal) S_ .f32 0xFF800000#32) reducesTo_S1x128x256x1024_S1x128x256_d3 h_S_ h i ⊥ lower_bot]
  exact max_col m _ h i

theorem qs_at (x : FVec Ideal S1x256x1024 .f32) (wq : FVec Ideal S1024x16384 .f32) (i : Fin 256) (h d : Fin 128) :
    qs x wq (ix4 0 i h d) = ∑ y : Fin 1024, x (ix3 0 i y) * wq (ix2 y ⟨h.val * 128 + d.val, by omega⟩) := by
  pointwise [qs]
theorem c0_at (k : FVec Ideal S1x4096x32x128 .f32) (t : Fin 1024) (h d : Fin 128) : c0 k (ix4 0 t h d) = k (ix4 0 ⟨t.val, by omega⟩ ⟨h.val / 4, by omega⟩ d) := by
  pointwise [c0, rep]
theorem c1_at (k : FVec Ideal S1x4096x32x128 .f32) (t : Fin 1024) (h d : Fin 128) : c1 k (ix4 0 t h d) = k (ix4 0 ⟨1024 + t.val, by omega⟩ ⟨h.val / 4, by omega⟩ d) := by
  pointwise [c1, rep]
theorem c2_at (k : FVec Ideal S1x4096x32x128 .f32) (t : Fin 1024) (h d : Fin 128) : c2 k (ix4 0 t h d) = k (ix4 0 ⟨2048 + t.val, by omega⟩ ⟨h.val / 4, by omega⟩ d) := by
  pointwise [c2, rep]
theorem c3_at (k : FVec Ideal S1x4096x32x128 .f32) (t : Fin 1024) (h d : Fin 128) : c3 k (ix4 0 t h d) = k (ix4 0 ⟨3072 + t.val, by omega⟩ ⟨h.val / 4, by omega⟩ d) := by
  pointwise [c3, rep]
theorem scores_at (q : FVec Ideal S1x256x128x128 .f32) (k : FVec Ideal S1x1024x128x128 .f32) (h : Fin 128) (i : Fin 256) (t : Fin 1024) :
    scores q k (ix4 0 h i t) = (∑ d : Fin 128, q (ix4 0 i h d) * k (ix4 0 t h d)) * Ideal.ofBits .f32 0x3DB504F3#32 := by
  pointwise [scores]
theorem scl_at (m m' : FVec Ideal S1x128x256x1 .f32) (h : Fin 128) (i : Fin 256) : scl m m' (ix4 0 h i 0) = Ideal.exp (m (ix4 0 h i 0) - m' (ix4 0 h i 0)) := by
  pointwise [scl]
theorem ps_at (s : FVec Ideal S1x128x256x1024 .f32) (m : FVec Ideal S1x128x256x1 .f32) (h : Fin 128) (i : Fin 256) (t : Fin 1024) :
    ps s m (ix4 0 h i t) = Ideal.exp (s (ix4 0 h i t) - m (ix4 0 h i 0)) := by
  pointwise [ps]
theorem denN_at (l a : FVec Ideal S1x128x256x1 .f32) (p : FVec Ideal S1x128x256x1024 .f32) (h : Fin 128) (i : Fin 256) :
    denN l a p (ix4 0 h i 0) = l (ix4 0 h i 0) * a (ix4 0 h i 0) + ∑ t : Fin 1024, p (ix4 0 h i t) := by
  pointwise [denN]
theorem numN_at (o : FVec Ideal S1x256x128x128 .f32) (a : FVec Ideal S1x128x256x1 .f32) (v : FVec Ideal S1x1024x128x128 .f32) (p : FVec Ideal S1x128x256x1024 .f32)
    (i : Fin 256) (h d : Fin 128) :
    numN o a v p (ix4 0 i h d) = o (ix4 0 i h d) * a (ix4 0 h i 0) + ∑ t : Fin 1024, v (ix4 0 t h d) * p (ix4 0 h i t) := by
  pointwise [numN, spread]
theorem res_at (o : FVec Ideal S1x256x128x128 .f32) (l : FVec Ideal S1x128x256x1 .f32) (wo : FVec Ideal S16384x1024 .f32) (i : Fin 256) (n : Fin 1024) :
    res o l wo (ix3 0 i n) = ∑ y : Fin 16384, Ideal.div (o (ix4 0 i ⟨y.val / 128, by omega⟩ ⟨y.val % 128, by omega⟩)) (l (ix4 0 ⟨y.val / 128, by omega⟩ i 0)) * wo (ix2 y n) := by
  pointwise [res, spread]
theorem mInit_at (h : Fin 128) (i : Fin 256) : mInit (ix4 0 h i 0) = (⊥ : EReal) := by
  pointwise [mInit]; exact lower_bot
theorem lInit_at (h : Fin 128) (i : Fin 256) : lInit (ix4 0 h i 0) = (0 : EReal) := by
  pointwise [lInit]
theorem oInit_at (i : Fin 256) (h d : Fin 128) : oInit (ix4 0 i h d) = (0 : EReal) := by
  pointwise [oInit]
end Cert.ReferenceIdeal.Stage

end
-- ==== Proof.Val.Spec.lean ====
/-
The attention of one head over finite scores, as both programs compute it, and the reference's result through it.
-/
module

public import proofs.«01_k».proof.Proof.Val.RefAt

@[expose] public section

set_option maxRecDepth 16384

noncomputable section

namespace Cert.Attn

open Idealize.ShloMosaic

/-- The reference's scale. -/
def sig : ℝ := 11863283 / 134217728

theorem sig_bits : Ideal.ofBits .f32 0x3DB504F3#32 = ((sig : ℝ) : EReal) := by
  simp [Ideal.ofBits, Ideal.ieee, sig, -EReal.coe_mul]; norm_num

section
variable (xr : Fin 256 → Fin 1024 → ℝ) (qr : Fin 1024 → Fin 16384 → ℝ) (kr : Fin 4096 → Fin 32 → Fin 128 → ℝ) (v : (⟨4, ![1, 4096, 32, 128]⟩ : Shape).Idx → EReal)

/-- A query's coordinate. -/
def qR (i : Fin 256) (h d : Fin 128) : ℝ := ∑ y : Fin 1024, xr i y * qr y ⟨h.val * 128 + d.val, by omega⟩
/-- A scaled score. -/
def sR (i : Fin 256) (h : Fin 128) (t : Fin 4096) : ℝ := (∑ d : Fin 128, qR xr qr i h d * kr t ⟨h.val / 4, by omega⟩ d) * sig
/-- The denominator and the numerator of a head's softmax. -/
def denR (i : Fin 256) (h : Fin 128) : ℝ := ∑ t : Fin 4096, Real.exp (sR xr qr kr i h t)
def numR (i : Fin 256) (h d : Fin 128) : EReal := ∑ t : Fin 4096, ((Real.exp (sR xr qr kr i h t) : ℝ) : EReal) * v (ix4 0 t ⟨h.val / 4, by omega⟩ d)
/-- A head's output. -/
def headV (i : Fin 256) (h d : Fin 128) : EReal := Ideal.div (numR xr qr kr v i h d) (denR xr qr kr i h : EReal)

theorem denR_pos (i : Fin 256) (h : Fin 128) : 0 < denR xr qr kr i h :=
  Finset.sum_pos (fun t _ => Real.exp_pos _) ⟨(0 : Fin 4096), Finset.mem_univ _⟩
end

/-- A sum over 4096 in four runs of 1024. -/
theorem sum_four {M : Type} [AddCommMonoid M] (f : Fin 4096 → M) :
    ∑ t : Fin 4096, f t = (((∑ t : Fin 1024, f ⟨t.val, by omega⟩) + ∑ t : Fin 1024, f ⟨1024 + t.val, by omega⟩) + ∑ t : Fin 1024, f ⟨2048 + t.val, by omega⟩)
      + ∑ t : Fin 1024, f ⟨3072 + t.val, by omega⟩ := by
  rw [Fin.sum_univ_two_halves 3072 1024 rfl f, Fin.sum_univ_two_halves 2048 1024 rfl (fun k : Fin 3072 => f ⟨k.val, by omega⟩),
    Fin.sum_univ_two_halves 1024 1024 rfl (fun k : Fin 2048 => f ⟨k.val, by omega⟩)]

end Cert.Attn

namespace Cert.ReferenceIdeal.Stage

open Cert.ReferenceIdeal Cert.ReferenceIdeal.Gen Cert.Attn Idealize.ShloMosaic

section
variable {x : FVec Ideal S1x256x1024 .f32} {wq : FVec Ideal S1024x16384 .f32} {k v : FVec Ideal S1x4096x32x128 .f32}
  {xr : Fin 256 → Fin 1024 → ℝ} {qr : Fin 1024 → Fin 16384 → ℝ} {kr : Fin 4096 → Fin 32 → Fin 128 → ℝ}
  (hx : ∀ i y, x (ix3 0 i y) = (xr i y : EReal)) (hq : ∀ y z, wq (ix2 y z) = (qr y z : EReal)) (hk : ∀ t h d, k (ix4 0 t h d) = (kr t h d : EReal))

include hx hq in
theorem qs_real (i : Fin 256) (h d : Fin 128) : qs x wq (ix4 0 i h d) = (qR xr qr i h d : EReal) := by
  rw [qs_at, qR, coe_sum]
  exact Finset.sum_congr rfl fun y _ => by rw [hx, hq, EReal.coe_mul]

include hx hq in
theorem score_real {kc : FVec Ideal S1x1024x128x128 .f32} {off : ℕ} (ho : off ≤ 3072)
    (hc : ∀ (t : Fin 1024) (h d : Fin 128), kc (ix4 0 t h d) = (kr ⟨off + t.val, by omega⟩ ⟨h.val / 4, by omega⟩ d : EReal)) (h : Fin 128) (i : Fin 256) (t : Fin 1024) :
    scores (qs x wq) kc (ix4 0 h i t) = (sR xr qr kr i h ⟨off + t.val, by omega⟩ : EReal) := by
  rw [scores_at, sig_bits, sR, EReal.coe_mul, coe_sum]
  congr 1
  exact Finset.sum_congr rfl fun d _ => by rw [qs_real hx hq, hc, EReal.coe_mul]

include hx hq hk in
theorem s0_real (h : Fin 128) (i : Fin 256) (t : Fin 1024) : s0 x wq k (ix4 0 h i t) = (sR xr qr kr i h ⟨t.val, by omega⟩ : EReal) := by
  rw [s0, score_real (kr := kr) (off := 0) hx hq (by omega) (fun t h d => by rw [c0_at, hk]; congr 2; exact Fin.ext (Nat.zero_add _).symm)]
  congr 2; exact Fin.ext (Nat.zero_add _)
include hx hq hk in
theorem s1_real (h : Fin 128) (i : Fin 256) (t : Fin 1024) : s1 x wq k (ix4 0 h i t) = (sR xr qr kr i h ⟨1024 + t.val, by omega⟩ : EReal) := by
  rw [s1, score_real (kr := kr) (off := 1024) hx hq (by omega) (fun t h d => by rw [c1_at, hk])]
include hx hq hk in
theorem s2_real (h : Fin 128) (i : Fin 256) (t : Fin 1024) : s2 x wq k (ix4 0 h i t) = (sR xr qr kr i h ⟨2048 + t.val, by omega⟩ : EReal) := by
  rw [s2, score_real (kr := kr) (off := 2048) hx hq (by omega) (fun t h d => by rw [c2_at, hk])]
include hx hq hk in
theorem s3_real (h : Fin 128) (i : Fin 256) (t : Fin 1024) : s3 x wq k (ix4 0 h i t) = (sR xr qr kr i h ⟨3072 + t.val, by omega⟩ : EReal) := by
  rw [s3, score_real (kr := kr) (off := 3072) hx hq (by omega) (fun t h d => by rw [c3_at, hk])]

include hx hq hk in
/-- The state after the last chunk, at a head and a row. -/
theorem state (i : Fin 256) (h d : Fin 128) :
    St (m3 x wq k (ix4 0 h i 0)) (l3 x wq k (ix4 0 h i 0)) (o3 x wq k v (ix4 0 i h d)) (denR xr qr kr i h) (numR xr qr kr v i h d) := by
  rw [denR, numR, sum_four, sum_four]
  have e0 := St.first (n := 1024) (by decide) (fun t => sR xr qr kr i h ⟨t.val, by omega⟩) (fun t => c0 v (ix4 0 t h d)) (m' := m0 x wq k (ix4 0 h i 0))
    (by rw [m0, maxN_at, mInit_at]; simp only [s0_real hx hq hk])
  have el0 : l0 x wq k (ix4 0 h i 0) = 0 * Ideal.exp (⊥ - m0 x wq k (ix4 0 h i 0)) + ∑ t : Fin 1024, Ideal.exp ((sR xr qr kr i h ⟨t.val, by omega⟩ : EReal) - m0 x wq k (ix4 0 h i 0)) := by
    rw [l0, denN_at, scl_at, mInit_at, lInit_at]
    simp only [ps_at, s0_real hx hq hk]
  have eo0 : o0 x wq k v (ix4 0 i h d) = 0 * Ideal.exp (⊥ - m0 x wq k (ix4 0 h i 0)) + ∑ t : Fin 1024, c0 v (ix4 0 t h d) * Ideal.exp ((sR xr qr kr i h ⟨t.val, by omega⟩ : EReal) - m0 x wq k (ix4 0 h i 0)) := by
    rw [o0, numN_at, scl_at, mInit_at, oInit_at]
    simp only [ps_at, s0_real hx hq hk]
  rw [← el0, ← eo0] at e0
  have e1 := St.next (n := 1024) e0 (fun t => sR xr qr kr i h ⟨1024 + t.val, by omega⟩) (fun t => c1 v (ix4 0 t h d)) (m' := m1 x wq k (ix4 0 h i 0))
    (by rw [m1, maxN_at]; simp only [s1_real hx hq hk])
  have el1 : l1 x wq k (ix4 0 h i 0) = l0 x wq k (ix4 0 h i 0) * Ideal.exp (m0 x wq k (ix4 0 h i 0) - m1 x wq k (ix4 0 h i 0)) + ∑ t : Fin 1024, Ideal.exp ((sR xr qr kr i h ⟨1024 + t.val, by omega⟩ : EReal) - m1 x wq k (ix4 0 h i 0)) := by
    rw [l1, denN_at, scl_at]
    simp only [ps_at, s1_real hx hq hk]
  have eo1 : o1 x wq k v (ix4 0 i h d) = o0 x wq k v (ix4 0 i h d) * Ideal.exp (m0 x wq k (ix4 0 h i 0) - m1 x wq k (ix4 0 h i 0)) + ∑ t : Fin 1024, c1 v (ix4 0 t h d) * Ideal.exp ((sR xr qr kr i h ⟨1024 + t.val, by omega⟩ : EReal) - m1 x wq k (ix4 0 h i 0)) := by
    rw [o1, numN_at, scl_at]
    simp only [ps_at, s1_real hx hq hk]
  rw [← el1, ← eo1] at e1
  have e2 := St.next (n := 1024) e1 (fun t => sR xr qr kr i h ⟨2048 + t.val, by omega⟩) (fun t => c2 v (ix4 0 t h d)) (m' := m2 x wq k (ix4 0 h i 0))
    (by rw [m2, maxN_at]; simp only [s2_real hx hq hk])
  have el2 : l2 x wq k (ix4 0 h i 0) = l1 x wq k (ix4 0 h i 0) * Ideal.exp (m1 x wq k (ix4 0 h i 0) - m2 x wq k (ix4 0 h i 0)) + ∑ t : Fin 1024, Ideal.exp ((sR xr qr kr i h ⟨2048 + t.val, by omega⟩ : EReal) - m2 x wq k (ix4 0 h i 0)) := by
    rw [l2, denN_at, scl_at]
    simp only [ps_at, s2_real hx hq hk]
  have eo2 : o2 x wq k v (ix4 0 i h d) = o1 x wq k v (ix4 0 i h d) * Ideal.exp (m1 x wq k (ix4 0 h i 0) - m2 x wq k (ix4 0 h i 0)) + ∑ t : Fin 1024, c2 v (ix4 0 t h d) * Ideal.exp ((sR xr qr kr i h ⟨2048 + t.val, by omega⟩ : EReal) - m2 x wq k (ix4 0 h i 0)) := by
    rw [o2, numN_at, scl_at]
    simp only [ps_at, s2_real hx hq hk]
  rw [← el2, ← eo2] at e2
  have e3 := St.next (n := 1024) e2 (fun t => sR xr qr kr i h ⟨3072 + t.val, by omega⟩) (fun t => c3 v (ix4 0 t h d)) (m' := m3 x wq k (ix4 0 h i 0))
    (by rw [m3, maxN_at]; simp only [s3_real hx hq hk])
  have el3 : l3 x wq k (ix4 0 h i 0) = l2 x wq k (ix4 0 h i 0) * Ideal.exp (m2 x wq k (ix4 0 h i 0) - m3 x wq k (ix4 0 h i 0)) + ∑ t : Fin 1024, Ideal.exp ((sR xr qr kr i h ⟨3072 + t.val, by omega⟩ : EReal) - m3 x wq k (ix4 0 h i 0)) := by
    rw [l3, denN_at, scl_at]
    simp only [ps_at, s3_real hx hq hk]
  have eo3 : o3 x wq k v (ix4 0 i h d) = o2 x wq k v (ix4 0 i h d) * Ideal.exp (m2 x wq k (ix4 0 h i 0) - m3 x wq k (ix4 0 h i 0)) + ∑ t : Fin 1024, c3 v (ix4 0 t h d) * Ideal.exp ((sR xr qr kr i h ⟨3072 + t.val, by omega⟩ : EReal) - m3 x wq k (ix4 0 h i 0)) := by
    rw [o3, numN_at, scl_at]
    simp only [ps_at, s3_real hx hq hk]
  rw [← el3, ← eo3] at e3
  simp only [c0_at, c1_at, c2_at, c3_at] at e3
  exact e3

include hx hq hk in
/-- The reference's result at an index. -/
theorem out_at (wo : FVec Ideal S16384x1024 .f32) (i : Fin 256) (n : Fin 1024) :
    out x wq k v wo (ix3 0 i n) = ∑ y : Fin 16384, headV xr qr kr v i ⟨y.val / 128, by omega⟩ ⟨y.val % 128, by omega⟩ * wo (ix2 y n) := by
  rw [out, res_at]
  refine Finset.sum_congr rfl fun y _ => ?_
  rw [headV, (state hx hq hk i _ _).quot (denR_pos _ _ _ _ _)]
end

end Cert.ReferenceIdeal.Stage

end
-- ==== Proof.Val.KerAt.lean ====
/-
The kernel's payloads read at an index, and a device's partial product through the heads' outputs.
-/
module

public import proofs.«01_k».proof.Proof.Gen.KernelIdeal.Skeleton
public import proofs.«01_k».proof.Proof.Val.Spec

@[expose] public section

set_option maxRecDepth 16384
set_option backward.proofsInPublic true

noncomputable section

namespace Cert.KernelIdeal.Val

open Cert.KernelIdeal Cert.KernelIdeal.Gen Cert.Attn Idealize.ShloMosaic Idealize.ShloMosaic.TcCoe Idealize.SL.Sem

/-- One head of a device: the queries' columns from `off`, one slot of keys and one of values. -/
def hdN (q : FVec Ideal S256x1024 .bf16) (k v : Vec Ideal S1x4096x128 .f32) (i : Fin 256) (off : ℕ) (ho : off ≤ 896) (d : Fin 128) : EReal :=
  Ideal.div (∑ t : Fin 4096, Ideal.exp2 (∑ e : Fin 128, (q (ix2 i ⟨off + e.val, by omega⟩) : EReal) * (k (ix3 0 t e) : EReal)) * (v (ix3 0 t d) : EReal))
    (∑ t : Fin 4096, Ideal.exp2 (∑ e : Fin 128, (q (ix2 i ⟨off + e.val, by omega⟩) : EReal) * (k (ix3 0 t e) : EReal)))

theorem hdN_congr (q : FVec Ideal S256x1024 .bf16) (k v : Vec Ideal S1x4096x128 .f32) (i : Fin 256) {off off' : ℕ} {ho : off ≤ 896} {ho' : off' ≤ 896} {d d' : Fin 128}
    (h : off = off') (hd : d.val = d'.val) : hdN q k v i off ho d = hdN q k v i off' ho' d' := by
  subst h; rw [Fin.ext hd]

theorem pay1_at (x : Vec Ideal S1x256x1024 .f32) (w : Vec Ideal S1024x1024 .f32) (i : Fin 256) (z : Fin 1024) :
    (k0_pay1 x w (ix2 i z) : EReal) = (∑ y : Fin 1024, (x (ix3 0 i y) : EReal) * (w (ix2 y z) : EReal)) * (Named.named (F := Ideal) κ "scale_log2e" (φ := .f32) 0x3E0293EE#32 : EReal) := by
  pointwise [k0_pay1]

theorem pay17_at (b : Vec Ideal S16x16x1024 .bf16) (a : Fin 16) (n : Fin 1024) : (k0_pay17 b (ix3 0 a n) : EReal) = ∑ y : Fin 16, (b (ix3 y a n) : EReal) := by
  pointwise [k0_pay17, k0_pay16]
theorem pay18_at (b : Vec Ideal S16x16x1024 .bf16) (a : Fin 16) (n : Fin 1024) : (k0_pay18 b (ix3 0 a n) : EReal) = ∑ y : Fin 16, (b (ix3 y a n) : EReal) := by
  pointwise [k0_pay18, k0_pay16]
theorem pay19_at (b : Vec Ideal S1x16x1024 .bf16) (a : Fin 16) (n : Fin 1024) : (k0_pay19 b (ix3 0 a n) : EReal) = (b (ix3 0 a n) : EReal) := by
  pointwise [k0_pay19]

theorem pay4_at (q : FVec Ideal S256x1024 .bf16) (k v : Vec Ideal S1x4096x128 .f32) (i : Fin 256) (d : Fin 128) :
    (k0_pay4 q k v (ix2 i d) : EReal) = hdN q k v i 0 (by omega) d := by
  unfold hdN
  simp only [zero_add]
  pointwise [k0_pay4, k0_pay3, k0_pay2]
  rfl
theorem pay5_at (q : FVec Ideal S256x1024 .bf16) (k v : Vec Ideal S1x4096x128 .f32) (i : Fin 256) (d : Fin 128) :
    (k0_pay5 q k v (ix2 i d) : EReal) = hdN q k v i 128 (by omega) d := by
  unfold hdN
  pointwise [k0_pay5, k0_pay3, k0_pay2]
  rfl
theorem pay6_at (q : FVec Ideal S256x1024 .bf16) (k v : Vec Ideal S1x4096x128 .f32) (i : Fin 256) (d : Fin 128) :
    (k0_pay6 q k v (ix2 i d) : EReal) = hdN q k v i 256 (by omega) d := by
  unfold hdN
  pointwise [k0_pay6, k0_pay3, k0_pay2]
  rfl
theorem pay7_at (q : FVec Ideal S256x1024 .bf16) (k v : Vec Ideal S1x4096x128 .f32) (i : Fin 256) (d : Fin 128) :
    (k0_pay7 q k v (ix2 i d) : EReal) = hdN q k v i 384 (by omega) d := by
  unfold hdN
  pointwise [k0_pay7, k0_pay3, k0_pay2]
  rfl
theorem pay10_at (q : FVec Ideal S256x1024 .bf16) (k v : Vec Ideal S1x4096x128 .f32) (i : Fin 256) (d : Fin 128) :
    (k0_pay10 q k v (ix2 i d) : EReal) = hdN q k v i 512 (by omega) d := by
  unfold hdN
  pointwise [k0_pay10, k0_pay9, k0_pay8]
  rfl
theorem pay8_at (k : Vec Ideal S1x4096x128 .f32) (t : Fin 4096) (d : Fin 128) : (k0_pay8 k (ix2 t d) : EReal) = (k (ix3 0 t d) : EReal) := by
  pointwise [k0_pay8]
theorem pay9_at (k : Vec Ideal S1x4096x128 .f32) (t : Fin 4096) (d : Fin 128) : (k0_pay9 k (ix2 t d) : EReal) = (k (ix3 0 t d) : EReal) := by
  pointwise [k0_pay9]
theorem pay12_at (q : FVec Ideal S256x1024 .bf16) (k : Vec Ideal S1x4096x128 .f32) (i : Fin 256) :
    (k0_pay12 q k (ix2 i 0) : EReal) = ∑ t : Fin 4096, Ideal.exp2 (∑ e : Fin 128, (q (ix2 i ⟨640 + e.val, by omega⟩) : EReal) * (k (ix3 0 t e) : EReal)) := by
  pointwise [k0_pay12, k0_pay11, k0_pay8]
  rfl
theorem pay13_at (q : FVec Ideal S256x1024 .bf16) (k : Vec Ideal S1x4096x128 .f32) (i : Fin 256) (t : Fin 4096) :
    (k0_pay13 q k (ix2 i t) : EReal) = Ideal.exp2 (∑ e : Fin 128, (q (ix2 i ⟨640 + e.val, by omega⟩) : EReal) * (k (ix3 0 t e) : EReal)) := by
  pointwise [k0_pay13, k0_pay11, k0_pay8]
  rfl

/-- The eight heads' outputs side by side, at a row and a column. -/
def piece (q : FVec Ideal S256x1024 .bf16) (h0 h1 h2 h3 h4 : FVec Ideal S256x128 .f32)
    (kb vb : FVec Ideal S4096x128 .bf16) (l : FVec Ideal S256x1 .f32) (p : FVec Ideal S256x4096 .bf16) (i : Fin 256) (y : Fin 1024) : EReal :=
  (if h : y.val < 128 then h0 (ix2 i ⟨y.val, by omega⟩)
        else if h : y.val - 128 < 128 then h1 (ix2 i ⟨y.val - 128, by omega⟩)
        else if h : y.val - 128 - 128 < 128 then h2 (ix2 i ⟨y.val - 128 - 128, by omega⟩)
        else if h : y.val - 128 - 128 - 128 < 128 then h3 (ix2 i ⟨y.val - 128 - 128 - 128, by omega⟩)
        else if h : y.val - 128 - 128 - 128 - 128 < 128 then h4 (ix2 i ⟨y.val - 128 - 128 - 128 - 128, by omega⟩)
        else if h : y.val - 128 - 128 - 128 - 128 - 128 < 128 then
          Ideal.div (∑ t : Fin 4096, p (ix2 i t) * vb (ix2 t ⟨y.val - 128 - 128 - 128 - 128 - 128, by omega⟩)) (l (ix2 i 0))
        else if h : y.val - 128 - 128 - 128 - 128 - 128 - 128 < 128 then
          Ideal.div (∑ t : Fin 4096, Ideal.exp2 (∑ e : Fin 128, q (ix2 i ⟨768 + e.val, by omega⟩) * kb (ix2 t e)) * vb (ix2 t ⟨y.val - 128 - 128 - 128 - 128 - 128 - 128, by omega⟩))
            (∑ t : Fin 4096, Ideal.exp2 (∑ e : Fin 128, q (ix2 i ⟨768 + e.val, by omega⟩) * kb (ix2 t e)))
        else
          Ideal.div (∑ t : Fin 4096, Ideal.exp2 (∑ e : Fin 128, q (ix2 i ⟨896 + e.val, by omega⟩) * kb (ix2 t e)) * vb (ix2 t ⟨y.val - 128 - 128 - 128 - 128 - 128 - 128 - 128, by omega⟩))
            (∑ t : Fin 4096, Ideal.exp2 (∑ e : Fin 128, q (ix2 i ⟨896 + e.val, by omega⟩) * kb (ix2 t e))) : EReal)

/-- The partial product over the pieces. -/
theorem acc_raw (q : FVec Ideal S256x1024 .bf16) (h0 h1 h2 h3 h4 : FVec Ideal S256x128 .f32)
    (kb vb : FVec Ideal S4096x128 .bf16) (l : FVec Ideal S256x1 .f32) (p : FVec Ideal S256x4096 .bf16) (w : Vec Ideal S1024x1024 .f32) (i : Fin 256) (n : Fin 1024) :
    (k0_pay14 q h0 h1 h2 h3 kb vb h4 l p (constant S256x128 .f32 0x00000000#32) w (ix2 i n) : EReal)
    = ∑ y : Fin 1024, piece q h0 h1 h2 h3 h4 kb vb l p i y * (w (ix2 y n) : EReal) := by
  pointwise [k0_pay14]
  unfold piece
  rfl

/-- A device's partial product, from its heads' outputs read at an index. -/
theorem acc_gen (q : FVec Ideal S256x1024 .bf16) (k v k' v' : Vec Ideal S1x4096x128 .f32) (h0 h1 h2 h3 h4 : FVec Ideal S256x128 .f32)
    (kb vb : FVec Ideal S4096x128 .bf16) (l : FVec Ideal S256x1 .f32) (p : FVec Ideal S256x4096 .bf16) (w : Vec Ideal S1024x1024 .f32) (i : Fin 256) (n : Fin 1024)
    (H0 : ∀ d, (h0 (ix2 i d) : EReal) = hdN q k v i 0 (by omega) d) (H1 : ∀ d, (h1 (ix2 i d) : EReal) = hdN q k v i 128 (by omega) d)
    (H2 : ∀ d, (h2 (ix2 i d) : EReal) = hdN q k v i 256 (by omega) d) (H3 : ∀ d, (h3 (ix2 i d) : EReal) = hdN q k v i 384 (by omega) d)
    (H4 : ∀ d, (h4 (ix2 i d) : EReal) = hdN q k' v' i 512 (by omega) d)
    (Hk : ∀ t d, (kb (ix2 t d) : EReal) = (k' (ix3 0 t d) : EReal)) (Hv : ∀ t d, (vb (ix2 t d) : EReal) = (v' (ix3 0 t d) : EReal))
    (Hl : (l (ix2 i 0) : EReal) = ∑ t : Fin 4096, Ideal.exp2 (∑ e : Fin 128, (q (ix2 i ⟨640 + e.val, by omega⟩) : EReal) * (k' (ix3 0 t e) : EReal)))
    (Hp : ∀ t, (p (ix2 i t) : EReal) = Ideal.exp2 (∑ e : Fin 128, (q (ix2 i ⟨640 + e.val, by omega⟩) : EReal) * (k' (ix3 0 t e) : EReal))) :
    (k0_pay14 q h0 h1 h2 h3 kb vb h4 l p (constant S256x128 .f32 0x00000000#32) w (ix2 i n) : EReal)
    = ∑ y : Fin 1024, (if y.val / 128 < 4 then hdN q k v i (128 * (y.val / 128)) (by omega) ⟨y.val % 128, by omega⟩
        else hdN q k' v' i (128 * (y.val / 128)) (by omega) ⟨y.val % 128, by omega⟩) * (w (ix2 y n) : EReal) := by
  rw [acc_raw]
  refine Finset.sum_congr rfl fun y _ => congrArg (· * (w (ix2 y n) : EReal)) ?_
  unfold piece
  by_cases c0 : y.val < 128
  · rw [dif_pos c0, if_pos (by omega)]
    exact (H0 _).trans (hdN_congr (off := 0) (ho := by omega) (d := ⟨y.val, by omega⟩) q k v i (by omega) (by show y.val = y.val % 128; omega))
  rw [dif_neg c0]
  by_cases c1 : y.val - 128 < 128
  · rw [dif_pos c1, if_pos (by omega)]
    exact (H1 _).trans (hdN_congr (off := 128) (ho := by omega) (d := ⟨y.val - 128, by omega⟩) q k v i (by omega) (by show y.val - 128 = y.val % 128; omega))
  rw [dif_neg c1]
  by_cases c2 : y.val - 128 - 128 < 128
  · rw [dif_pos c2, if_pos (by omega)]
    exact (H2 _).trans (hdN_congr (off := 256) (ho := by omega) (d := ⟨y.val - 128 - 128, by omega⟩) q k v i (by omega) (by show y.val - 128 - 128 = y.val % 128; omega))
  rw [dif_neg c2]
  by_cases c3 : y.val - 128 - 128 - 128 < 128
  · rw [dif_pos c3, if_pos (by omega)]
    exact (H3 _).trans (hdN_congr (off := 384) (ho := by omega) (d := ⟨y.val - 128 - 128 - 128, by omega⟩) q k v i (by omega) (by show y.val - 128 - 128 - 128 = y.val % 128; omega))
  rw [dif_neg c3]
  by_cases c4 : y.val - 128 - 128 - 128 - 128 < 128
  · rw [dif_pos c4, if_neg (by omega)]
    exact (H4 _).trans (hdN_congr (off := 512) (ho := by omega) (d := ⟨y.val - 128 - 128 - 128 - 128, by omega⟩) q k' v' i (by omega) (by show y.val - 128 - 128 - 128 - 128 = y.val % 128; omega))
  rw [dif_neg c4]
  by_cases c5 : y.val - 128 - 128 - 128 - 128 - 128 < 128
  · rw [dif_pos c5, if_neg (by omega)]
    refine Eq.trans ?_ (hdN_congr (off := 640) (ho := by omega) (d := ⟨y.val - 128 - 128 - 128 - 128 - 128, by omega⟩) q k' v' i (by omega) (by show y.val - 128 - 128 - 128 - 128 - 128 = y.val % 128; omega))
    unfold hdN
    rw [Hl]
    simp only [Hp, Hv]
  rw [dif_neg c5]
  by_cases c6 : y.val - 128 - 128 - 128 - 128 - 128 - 128 < 128
  · rw [dif_pos c6, if_neg (by omega)]
    refine Eq.trans ?_ (hdN_congr (off := 768) (ho := by omega) (d := ⟨y.val - 128 - 128 - 128 - 128 - 128 - 128, by omega⟩) q k' v' i (by omega) (by show y.val - 128 - 128 - 128 - 128 - 128 - 128 = y.val % 128; omega))
    unfold hdN
    simp only [Hk, Hv]
  rw [dif_neg c6]
  · rw [if_neg (by omega)]
    refine Eq.trans ?_ (hdN_congr (off := 896) (ho := by omega) (d := ⟨y.val - 128 - 128 - 128 - 128 - 128 - 128 - 128, by omega⟩) q k' v' i (by omega) (by show y.val - 128 - 128 - 128 - 128 - 128 - 128 - 128 = y.val % 128; omega))
    unfold hdN
    simp only [Hk, Hv]

/-- A device's partial product at an index. -/
theorem acc_at (q : FVec Ideal S256x1024 .bf16) (k v k' v' : Vec Ideal S1x4096x128 .f32) (w : Vec Ideal S1024x1024 .f32) (i : Fin 256) (n : Fin 1024) :
    (k0_pay14 q (k0_pay4 q k v) (k0_pay5 q k v) (k0_pay6 q k v) (k0_pay7 q k v) (k0_pay8 k') (k0_pay9 v') (k0_pay10 q k' v') (k0_pay12 q k') (k0_pay13 q k')
      (constant S256x128 .f32 0x00000000#32) w (ix2 i n) : EReal)
    = ∑ y : Fin 1024, (if y.val / 128 < 4 then hdN q k v i (128 * (y.val / 128)) (by omega) ⟨y.val % 128, by omega⟩
        else hdN q k' v' i (128 * (y.val / 128)) (by omega) ⟨y.val % 128, by omega⟩) * (w (ix2 y n) : EReal) :=
  acc_gen q k v k' v' _ _ _ _ _ _ _ _ _ w i n (pay4_at q k v i) (pay5_at q k v i) (pay6_at q k v i) (pay7_at q k v i) (pay10_at q k' v' i) (pay8_at k') (pay9_at v')
    (pay12_at q k' i) (pay13_at q k' i)

/-- The named constant's value. -/
theorem scale_val : (Named.named (F := Ideal) κ "scale_log2e" (φ := .f32) 0x3E0293EE#32 : EReal) = ((Cert.Attn.sig * (Real.log 2)⁻¹ : ℝ) : EReal) :=
  IdealRules.named_const.ideal_named_scalar _ _ _ _ rfl

theorem off_lt {off : ℕ} (ho : off ≤ 896) (e : Fin 128) : off + e.val < 1024 := by omega
theorem col_lt (h e : Fin 128) : h.val * 128 + e.val < 16384 := by omega
theorem kv_lt (h : Fin 128) : h.val / 4 < 32 := by omega

section
variable {x : Vec Ideal S1x256x1024 .f32} {w : Vec Ideal S1024x1024 .f32} {k v : Vec Ideal S1x4096x128 .f32} {V : (⟨4, ![1, 4096, 32, 128]⟩ : Shape).Idx → EReal}
  {xr : Fin 256 → Fin 1024 → ℝ} {qr : Fin 1024 → Fin 16384 → ℝ} {kr : Fin 4096 → Fin 32 → Fin 128 → ℝ} {h : Fin 128} {off : ℕ} (ho : off ≤ 896)
  (hx : ∀ i y, (x (ix3 0 i y) : EReal) = (xr i y : EReal))
  (hw : ∀ (y : Fin 1024) (e : Fin 128), (w (ix2 y ⟨off + e.val, off_lt ho e⟩) : EReal) = (qr y ⟨h.val * 128 + e.val, col_lt h e⟩ : EReal))
  (hk : ∀ t e, (k (ix3 0 t e) : EReal) = (kr t ⟨h.val / 4, kv_lt h⟩ e : EReal))
  (hv : ∀ t e, (v (ix3 0 t e) : EReal) = V (ix4 0 t ⟨h.val / 4, kv_lt h⟩ e))

include hx hw in
theorem q_real (i : Fin 256) (e : Fin 128) : (k0_pay1 x w (ix2 i ⟨off + e.val, off_lt ho e⟩) : EReal) = ((qR xr qr i h e * (Cert.Attn.sig * (Real.log 2)⁻¹) : ℝ) : EReal) := by
  rw [pay1_at, scale_val, EReal.coe_mul (qR xr qr i h e), qR, coe_sum]
  refine congrArg (· * _) ?_
  exact Finset.sum_congr rfl fun y _ => by rw [hx, hw, EReal.coe_mul]

include hx hw hk in
theorem weight_real (i : Fin 256) (t : Fin 4096) :
    Ideal.exp2 (∑ e : Fin 128, (k0_pay1 x w (ix2 i ⟨off + e.val, off_lt ho e⟩) : EReal) * (k (ix3 0 t e) : EReal)) = ((Real.exp (sR xr qr kr i h t) : ℝ) : EReal) := by
  rw [← exp2_scaled]
  congr 1
  rw [sR, mul_assoc, Finset.sum_mul, coe_sum]
  exact Finset.sum_congr rfl fun e _ => by rw [q_real ho hx hw, hk, ← EReal.coe_mul]; congr 1; ring

include hx hw hk hv in
/-- A head of a device is the head of the attention. -/
theorem hdN_real (i : Fin 256) (d : Fin 128) : hdN (k0_pay1 x w) k v i off ho d = headV xr qr kr V i h d := by
  rw [hdN, headV, numR, denR, coe_sum]
  simp only [weight_real ho hx hw hk, hv]
end

end Cert.KernelIdeal.Val

end
-- ==== Proof.Val.KerVal.lean ====
/-
The kernel's result: what every device ends with is the attention's projection, summed over all heads.
-/
module

public import proofs.«01_k».proof.Proof.Val.Reads
public import proofs.«01_k».proof.Proof.Val.KerAt

@[expose] public section

set_option maxRecDepth 16384
set_option backward.proofsInPublic true

noncomputable section

namespace Cert.KernelIdeal.Val

open Cert.KernelIdeal Cert.KernelIdeal.Gen Cert.KernelIdeal.Run Cert.Attn Idealize.ShloMosaic Idealize.ShloMosaic.TcCoe Idealize.SL.Sem

variable (m : (ℓ : Loc nD τ sig) → Buf (Elt Ideal) ℓ) (ρ : Dev nD → PrngReg)
variable {V : (⟨4, ![1, 4096, 32, 128]⟩ : Shape).Idx → EReal} {W : (⟨2, ![16384, 1024]⟩ : Shape).Idx → EReal}
  {xr : Fin 256 → Fin 1024 → ℝ} {qr : Fin 1024 → Fin 16384 → ℝ} {kr : Fin 4096 → Fin 32 → Fin 128 → ℝ}

/-- The devices hold the finite arrays: `x` and the keys and values whole, the two weights cut. -/
structure Holds (V : (⟨4, ![1, 4096, 32, 128]⟩ : Shape).Idx → EReal) (W : (⟨2, ![16384, 1024]⟩ : Shape).Idx → EReal)
    (xr : Fin 256 → Fin 1024 → ℝ) (qr : Fin 1024 → Fin 16384 → ℝ) (kr : Fin 4096 → Fin 32 → Fin 128 → ℝ) : Prop where
  x : ∀ (c : Dev nD) (i : Fin 256) (y : Fin 1024), (m ((c : Thread nD τ).loc main_arg0) (ix3 0 i y : S1x256x1024.Idx) : EReal) = (xr i y : EReal)
  q : ∀ (c : Dev nD) (y : Fin 1024) (z : Fin 1024), (m ((c : Thread nD τ).loc main_arg1) (ix2 y z : S1024x1024.Idx) : EReal)
    = (qr y ⟨c.val * 1024 + z.val, by have := dev_lt c; omega⟩ : EReal)
  k : ∀ (c : Dev nD) (t : Fin 4096) (h : Fin 32) (e : Fin 128), (m ((c : Thread nD τ).loc main_arg2) (ix4 0 t h e : S1x4096x32x128.Idx) : EReal) = (kr t h e : EReal)
  v : ∀ (c : Dev nD) (t : Fin 4096) (h : Fin 32) (e : Fin 128), (m ((c : Thread nD τ).loc main_arg3) (ix4 0 t h e : S1x4096x32x128.Idx) : EReal) = V (ix4 0 t h e)
  w : ∀ (c : Dev nD) (y : Fin 1024) (n : Fin 1024), (m ((c : Thread nD τ).loc main_arg4) (ix2 y n : S1024x1024.Idx) : EReal)
    = W (ix2 ⟨c.val * 1024 + y.val, by have := dev_lt c; omega⟩ n)

variable {m}

/-- The term of the projection at a global column of the attention. -/
def term (V : (⟨4, ![1, 4096, 32, 128]⟩ : Shape).Idx → EReal) (W : (⟨2, ![16384, 1024]⟩ : Shape).Idx → EReal)
    (xr : Fin 256 → Fin 1024 → ℝ) (qr : Fin 1024 → Fin 16384 → ℝ) (kr : Fin 4096 → Fin 32 → Fin 128 → ℝ) (i : Fin 256) (n : Fin 1024) (y : Fin 16384) : EReal :=
  headV xr qr kr V i ⟨y.val / 128, by omega⟩ ⟨y.val % 128, by omega⟩ * W (ix2 y n)

/-- A head computed on device `c` is the head of the attention. -/
theorem head_at (H : Holds m V W xr qr kr) (c : Dev nD) (i : Fin 256) (g : Fin 8) (d : Fin 128) :
    (if g.val < 4 then hdN (qv m ρ c) (k0 m c) (v0 m c) i (128 * g.val) (by omega) d else hdN (qv m ρ c) (k1 m c) (v1 m c) i (128 * g.val) (by omega) d)
      = headV xr qr kr V i ⟨8 * c.val + g.val, by have := dev_lt c; omega⟩ d := by
  have hc := dev_lt c
  have hx : ∀ i y, (xs m ρ c (ix3 0 i y) : EReal) = (xr i y : EReal) := fun i y => (xs_at m ρ c i y).trans (H.x c i y)
  have hw : ∀ (y : Fin 1024) (e : Fin 128), (wqs m ρ c (ix2 y ⟨128 * g.val + e.val, by omega⟩) : EReal)
      = (qr y ⟨(⟨8 * c.val + g.val, by omega⟩ : Fin 128).val * 128 + e.val, by show (8 * c.val + g.val) * 128 + e.val < 16384; omega⟩ : EReal) := fun y e => by
    rw [wqs_at, H.q]
    congr 2
    apply Fin.ext
    show c.val * 1024 + (128 * g.val + e.val) = (8 * c.val + g.val) * 128 + e.val
    omega
  split
  · rename_i hg
    refine hdN_real (h := ⟨8 * c.val + g.val, by omega⟩) (by omega) hx hw (fun t e => ?_) (fun t e => ?_) i d
    · rw [k0_at, H.k]
      congr 2
      apply Fin.ext
      show 2 * c.val = (8 * c.val + g.val) / 4
      omega
    · rw [v0_at, H.v]
      congr 2
      apply Fin.ext
      show 2 * c.val = (8 * c.val + g.val) / 4
      omega
  · rename_i hg
    refine hdN_real (h := ⟨8 * c.val + g.val, by omega⟩) (by omega) hx hw (fun t e => ?_) (fun t e => ?_) i d
    · rw [k1_at, H.k]
      congr 2
      apply Fin.ext
      show 2 * c.val + 1 = (8 * c.val + g.val) / 4
      omega
    · rw [v1_at, H.v]
      congr 2
      apply Fin.ext
      show 2 * c.val + 1 = (8 * c.val + g.val) / 4
      omega

/-- A device's partial product. -/
theorem acc_val (H : Holds m V W xr qr kr) (c : Dev nD) (i : Fin 256) (n : Fin 1024) :
    (acc m ρ c (ix2 i n : S256x1024.Idx) : EReal) = ∑ y : Fin 1024, term V W xr qr kr i n ⟨c.val * 1024 + y.val, by have := dev_lt c; omega⟩ := by
  have hc := dev_lt c
  refine (acc_at (qv m ρ c) (k0 m c) (v0 m c) (k1 m c) (v1 m c) (wos m ρ c) i n).trans (Finset.sum_congr rfl fun y _ => ?_)
  have e := head_at ρ H c i ⟨y.val / 128, by omega⟩ ⟨y.val % 128, by omega⟩
  refine (congrArg (· * _) e).trans ?_
  rw [term, wos_at, H.w]
  refine congrArg (· * _) ?_
  congr 1
  · apply Fin.ext
    show 8 * c.val + y.val / 128 = (c.val * 1024 + y.val) / 128
    omega
  · apply Fin.ext
    show y.val % 128 = (c.val * 1024 + y.val) % 128
    omega

/-- The sum over the devices, from any device on. -/
theorem sum_peer (f : Dev nD → EReal) (c : Dev nD) : ∑ s : Fin 16, f (peer c s.val) = ∑ a : Fin 16, f a := by
  have hc := dev_lt c
  refine Fintype.sum_bijective (fun s : Fin 16 => (peer c s.val : Fin 16)) ?_ _ _ fun s => rfl
  refine (Finite.injective_iff_bijective).mp fun s s' h => ?_
  have h' : (c.val + s.val) % 16 = (c.val + s'.val) % 16 := congrArg Fin.val h
  apply Fin.ext
  omega

/-- A device's landing buffer as the body reads it. -/
def rsV (m : (ℓ : Loc nD τ sig) → Buf (Elt Ideal) ℓ) (ρ : Dev nD → PrngReg) (c : Dev nD) : Vec Ideal S16x16x1024 .bf16 := rsBuf m ρ c

/-- … as extended reals. -/
def rsE (m : (ℓ : Loc nD τ sig) → Buf (Elt Ideal) ℓ) (ρ : Dev nD → PrngReg) (c : Dev nD) (s a : Fin 16) (n : Fin 1024) : EReal := rsV m ρ c (ix3 s a n)

/-- The rows a device reduces. -/
theorem rs_val (H : Holds m V W xr qr kr) (c : Dev nD) (a : Fin 16) (n : Fin 1024) :
    ∑ s : Fin 16, rsE m ρ c s a n = ∑ y : Fin 16384, term V W xr qr kr ⟨16 * c.val + a.val, row_lt c a⟩ n y := by
  have e : ∀ s : Fin 16, rsE m ρ c s a n
      = (fun b : Dev nD => ∑ y : Fin 1024, term V W xr qr kr ⟨16 * c.val + a.val, row_lt c a⟩ n ⟨b.val * 1024 + y.val, by have := dev_lt b; omega⟩) (peer c s.val) := fun s =>
    acc_val ρ H (peer c s.val) ⟨16 * c.val + a.val, row_lt c a⟩ n
  rw [Finset.sum_congr rfl fun s _ => e s]
  refine (sum_peer (fun b : Dev nD => ∑ y : Fin 1024, term V W xr qr kr ⟨16 * c.val + a.val, row_lt c a⟩ n ⟨b.val * 1024 + y.val, by have := dev_lt b; omega⟩) c).trans ?_
  exact Fin.sum_mul_add_fin 16 1024 (term V W xr qr kr ⟨16 * c.val + a.val, row_lt c a⟩ n)

/-- Every device's result at an index. -/
theorem out_val (H : Holds m V W xr qr kr) (c : Dev nD) (i : Fin 256) (n : Fin 1024) :
    (outFin m ρ c (ix3 0 i n : S1x256x1024.Idx) : EReal) = ∑ y : Fin 16384, term V W xr qr kr i n y := by
  have hc := dev_lt c
  show (outChunk m ρ c ((i.val / 16 + 16 - c.val) % 16) (ix3 0 ⟨i.val % 16, by omega⟩ n : S1x16x1024.Idx) : EReal) = _
  unfold outChunk
  split
  · rename_i h0
    refine (pay17_at (rsV m ρ c) ⟨i.val % 16, by omega⟩ n).trans ((rs_val ρ H c ⟨i.val % 16, by omega⟩ n).trans ?_)
    have e : (⟨16 * c.val + i.val % 16, row_lt c ⟨i.val % 16, by omega⟩⟩ : Fin 256) = i := Fin.ext (by show 16 * c.val + i.val % 16 = i.val; omega)
    exact congrArg (fun i => ∑ y : Fin 16384, term V W xr qr kr i n y) e
  · refine (pay19_at _ ⟨i.val % 16, by omega⟩ n).trans ?_
    refine (pay18_at (rsV m ρ _) ⟨i.val % 16, by omega⟩ n).trans ((rs_val ρ H _ ⟨i.val % 16, by omega⟩ n).trans ?_)
    have e : (⟨16 * (peer c ((i.val / 16 + 16 - c.val) % 16)).val + i.val % 16, row_lt _ ⟨i.val % 16, by omega⟩⟩ : Fin 256) = i :=
      Fin.ext (by show 16 * ((c.val + (i.val / 16 + 16 - c.val) % 16) % 16) + i.val % 16 = i.val; omega)
    exact congrArg (fun i => ∑ y : Fin 16384, term V W xr qr kr i n y) e

end Cert.KernelIdeal.Val

end
-- ==== Proof.Val.Finite.lean ====
/-
The precondition read: where every absolute value is below infinity, every element is a real number.
-/
module

public import proofs.«01_k».proof.Pre_finite_KernelIdeal
public import proofs.«01_k».proof.Pre_finite_ReferenceIdeal
public import Idealize.ShloMosaic.Lib.ReduceAll
public import Idealize.ShloMosaic.PureOps.Ideal

@[expose] public section

set_option maxRecDepth 16384

noncomputable section

open Idealize.ShloMosaic

namespace Cert.Pre_finite_KernelIdeal
/-- The side conditions of the precondition on a device's blocks. -/
theorem facts : Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide
end Cert.Pre_finite_KernelIdeal

namespace Cert.Pre_finite_ReferenceIdeal
/-- The side conditions of the precondition on the whole arrays. -/
theorem facts : Facts where
  bcast_S_S1x256x1024 := by decide
  reducesTo_S1x256x1024_S_d0_1_2 := by decide
  h_S_ := by decide
  bcast_S_S1024x16384 := by decide
  reducesTo_S1024x16384_S_d0_1 := by decide
  bcast_S_S1x4096x32x128 := by decide
  reducesTo_S1x4096x32x128_S_d0_1_2_3 := by decide
end Cert.Pre_finite_ReferenceIdeal

namespace Cert.Attn

/-- The pattern of infinity is the top. -/
theorem upper_top : Ideal.ofBits .f32 0x7F800000#32 = ⊤ := by
  simp [Ideal.ofBits, Ideal.ieee]

/-- An extended real of absolute value below infinity is real. -/
theorem real_of_lt (a : EReal) (h : Ideal.cmp .olt (max a (-a)) ⊤ = 1#1) : ∃ r : ℝ, a = (r : EReal) := by
  have hlt : max a (-a) < ⊤ := by
    by_contra hn
    simp [Ideal.cmp, hn] at h
  induction a with
  | bot => simp at hlt
  | coe r => exact ⟨r, rfl⟩
  | top => simp at hlt

/-- An array all of whose absolute values are below infinity holds reals. -/
theorem all_real {s : Shape} (x : FVec Ideal s .f32) {axes : List (Fin s.rank)} (hb : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) h hu j = 1#1)
    (i : s.Idx) : ∃ r : ℝ, (x i : EReal) = (r : EReal) := by
  haveI : Subsingleton (⟨0, ![]⟩ : Shape).Idx := ⟨fun a b => funext fun i => i.elim0⟩
  have e' := Host.reduce_andi_all _ _ h hu j e i
  refine real_of_lt _ ?_
  rw [← upper_top]
  exact e'

/-- The precondition on a device's blocks: its `x`, its block of the first weight and the keys are real. -/
theorem pre_real (x : FVec Ideal ⟨3, ![1, 256, 1024]⟩ .f32) (q : FVec Ideal ⟨2, ![1024, 1024]⟩ .f32) (k v : FVec Ideal ⟨4, ![1, 4096, 32, 128]⟩ .f32)
    (w : FVec Ideal ⟨2, ![1024, 1024]⟩ .f32) (h : @Cert.Pre_finite_KernelIdeal.fn Cert.Pre_finite_KernelIdeal.facts Ideal _ x q k v w = fun _ => 1#1) :
    (∀ i, ∃ r : ℝ, (x i : EReal) = (r : EReal)) ∧ (∀ i, ∃ r : ℝ, (q i : EReal) = (r : EReal)) ∧ (∀ i, ∃ r : ℝ, (k i : EReal) = (r : EReal)) := by
  have e := congrFun h (fun i => i.elim0)
  obtain ⟨e12, e3⟩ := IntOp.andi_eq_one.1 e
  obtain ⟨e1, e2⟩ := IntOp.andi_eq_one.1 e12
  exact ⟨all_real x Cert.Pre_finite_KernelIdeal.facts.bcast_S_S1x256x1024 Cert.Pre_finite_KernelIdeal.facts.reducesTo_S1x256x1024_S_d0_1_2 Cert.Pre_finite_KernelIdeal.facts.h_S_ _ e1,
    all_real q Cert.Pre_finite_KernelIdeal.facts.bcast_S_S1024x1024 Cert.Pre_finite_KernelIdeal.facts.reducesTo_S1024x1024_S_d0_1 Cert.Pre_finite_KernelIdeal.facts.h_S_ _ e2,
    all_real k Cert.Pre_finite_KernelIdeal.facts.bcast_S_S1x4096x32x128 Cert.Pre_finite_KernelIdeal.facts.reducesTo_S1x4096x32x128_S_d0_1_2_3 Cert.Pre_finite_KernelIdeal.facts.h_S_ _ e3⟩

end Cert.Attn

end
-- ==== Proof.Val.Final.lean ====
/-
The kernel and the reference end with one result.
-/
module

public import proofs.«01_k».proof.Defs
public import proofs.«01_k».proof.Proof.Gen.ReferenceIdeal.Run
public import proofs.«01_k».proof.Proof.Run.Frames
public import proofs.«01_k».proof.Proof.Val.KerVal
public import proofs.«01_k».proof.Proof.Val.Finite

@[expose] public section

set_option maxRecDepth 16384

noncomputable section

namespace Cert.Attn

open Idealize.ShloMosaic Idealize.ShloMosaic.TcCoe Idealize.SL.Sem

/-- A block of columns at an index. -/
theorem block_cols (c : Fin 16) (f : (⟨2, ![1024, 16384]⟩ : Shape).Idx → EReal) (h : Layout.Tiles ⟨2, ![1024, 1024]⟩ ⟨2, ![1024, 16384]⟩ 1 16) (y z : Fin 1024) :
    Layout.block ⟨2, ![1024, 1024]⟩ ⟨2, ![1024, 16384]⟩ 1 16 c f h (ix2 y z) = f (ix2 y ⟨c.val * 1024 + z.val, by omega⟩) := by
  rw [Layout.block_apply]
  congr 1
  funext a
  apply Fin.ext
  fin_cases a <;> rfl

/-- A block of rows at an index. -/
theorem block_rows (c : Fin 16) (f : (⟨2, ![16384, 1024]⟩ : Shape).Idx → EReal) (h : Layout.Tiles ⟨2, ![1024, 1024]⟩ ⟨2, ![16384, 1024]⟩ 0 16) (y z : Fin 1024) :
    Layout.block ⟨2, ![1024, 1024]⟩ ⟨2, ![16384, 1024]⟩ 0 16 c f h (ix2 y z) = f (ix2 ⟨c.val * 1024 + y.val, by omega⟩ z) := by
  rw [Layout.block_apply]
  congr 1
  funext a
  apply Fin.ext
  fin_cases a <;> rfl

theorem idx3 (i : (⟨3, ![1, 256, 1024]⟩ : Shape).Idx) : i = ix3 0 (i 1) (i 2) := by
  funext a
  apply Fin.ext
  fin_cases a
  · show (i 0).val = 0
    have : (i 0).val < 1 := (i 0).isLt
    omega
  · rfl
  · rfl

theorem value : Cert.algebraic_KernelIdeal_ReferenceIdeal_pre_finite_KernelIdeal (hKernelIdeal := Cert.KernelIdeal.Gen.facts) (hReferenceIdeal := Cert.ReferenceIdeal.Gen.facts)
    (hPre_finite_KernelIdeal := Cert.Pre_finite_KernelIdeal.facts) := by
  intro m g m' g' hp ha
  have hr := fun c => pre_real _ _ _ _ _ (hp c)
  have hx : ∀ (i : Fin 256) (y : Fin 1024), ∃ r : ℝ, (m' (((0 : Dev Cert.ReferenceIdeal.nD) : Thread Cert.ReferenceIdeal.nD Cert.ReferenceIdeal.τ).loc Cert.ReferenceIdeal.main_arg0) (ix3 0 i y : (⟨3, ![1, 256, 1024]⟩ : Shape).Idx) : EReal) = (r : EReal) := fun i y => by
    rw [← (ha 0).1]; exact (hr 0).1 _
  have hk : ∀ (t : Fin 4096) (h : Fin 32) (e : Fin 128), ∃ r : ℝ, (m' (((0 : Dev Cert.ReferenceIdeal.nD) : Thread Cert.ReferenceIdeal.nD Cert.ReferenceIdeal.τ).loc Cert.ReferenceIdeal.main_arg2) (ix4 0 t h e : (⟨4, ![1, 4096, 32, 128]⟩ : Shape).Idx) : EReal) = (r : EReal) := fun t h e => by
    rw [← (ha 0).2.2.1]; exact (hr 0).2.2 _
  have hq : ∀ (y : Fin 1024) (z : Fin 16384), ∃ r : ℝ, (m' (((0 : Dev Cert.ReferenceIdeal.nD) : Thread Cert.ReferenceIdeal.nD Cert.ReferenceIdeal.τ).loc Cert.ReferenceIdeal.main_arg1) (ix2 y z : (⟨2, ![1024, 16384]⟩ : Shape).Idx) : EReal) = (r : EReal) := fun y z => by
    obtain ⟨r, e⟩ := (hr (⟨z.val / 1024, by omega⟩ : Fin 16)).2.1 (ix2 y ⟨z.val % 1024, by omega⟩)
    refine ⟨r, Eq.trans ?_ e⟩
    rw [(ha (⟨z.val / 1024, by omega⟩ : Fin 16)).2.1]
    refine Eq.trans ?_ (block_cols _ _ _ _ _).symm
    congr 2
    apply Fin.ext
    show z.val = z.val / 1024 * 1024 + z.val % 1024
    omega
  choose xr hx using hx
  choose kr hk using hk
  choose qr hq using hq
  have H : Cert.KernelIdeal.Val.Holds m (m' (((0 : Dev Cert.ReferenceIdeal.nD) : Thread Cert.ReferenceIdeal.nD Cert.ReferenceIdeal.τ).loc Cert.ReferenceIdeal.main_arg3)) (m' (((0 : Dev Cert.ReferenceIdeal.nD) : Thread Cert.ReferenceIdeal.nD Cert.ReferenceIdeal.τ).loc Cert.ReferenceIdeal.main_arg4)) xr qr kr :=
    { x := fun c i y => by rw [(ha c).1]; exact hx i y
      q := fun c y z => by rw [(ha c).2.1]; exact (block_cols c _ _ y z).trans (hq _ _)
      k := fun c t h e => by rw [(ha c).2.2.1]; exact hk t h e
      v := fun c t h e => by rw [(ha c).2.2.2.1]
      w := fun c y n => by rw [(ha c).2.2.2.2]; exact block_rows c _ _ y n }
  have hout : ∀ c, Cert.KernelIdeal.Run.outFin m g c = Cert.ReferenceIdeal.Value.res_out0 (F := Ideal) m' 0 := fun c => by
    rw [Cert.ReferenceIdeal.Stage.res_eq]
    funext i
    rw [idx3 i]
    exact (Cert.KernelIdeal.Val.out_val g H c (i 1) (i 2)).trans (Cert.ReferenceIdeal.Stage.out_at hx hq hk _ (i 1) (i 2)).symm
  refine ⟨Cert.ReferenceIdeal.Value.res_out0 (F := Ideal) m' 0, ?_, ?_⟩
  · exact (θ_run Cert.KernelIdeal.defs _ _).mono (fun r h c => ⟨((h.1 c).1 (3 : Fin 4)).trans ((Cert.KernelIdeal.Run.finalA_out m g c).trans (hout c)),
      Cert.KernelIdeal.Run.args_kept m g h.1 c⟩) (Cert.KernelIdeal.Run.run_main (F := Ideal) m g)
  · exact (θ_run Cert.ReferenceIdeal.defs _ _).mono (fun r h => h 0) (Cert.ReferenceIdeal.Value.run (F := Ideal) m' g')

end Cert.Attn

end
-- ==== Proof.lean ====
/-
The claims: the frames of the kernel, of its idealization and of the reference, the named constant, and the kernel's value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run.Frames
public import proofs.«01_k».proof.Proof.Val.Final

@[expose] public section

noncomputable section

namespace Cert.Proof

open Idealize.ShloMosaic Idealize.SL.Sem

/-- The reference runs, keeps its arguments, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's named constant is the value its table gives it. -/
theorem scale_named : Cert.preserves_Kernel_KernelIdeal := IdealRules.named_const.statement _ _ (.f32 : FTy) _ _ rfl

/-- The five claims. -/
theorem claim : Cert.Claim := ⟨Cert.Kernel.Gen.facts, Cert.KernelIdeal.Gen.facts, Cert.ReferenceIdeal.Gen.facts, Cert.Pre_finite_KernelIdeal.facts, Cert.Pre_finite_ReferenceIdeal.facts,
  Cert.KernelIdeal.Run.frame_kernel, Cert.KernelIdeal.Run.frame_ideal, fun m ρ _ => Cert.KernelIdeal.Run.frame_any m ρ, frame_reference,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  scale_named, Cert.Attn.value⟩

end Cert.Proof

end
